-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4)
      ∧ r.2.mem ((c.tc : Thread Cert.Nsa.nD Cert.Nsa.τ).loc Cert.Nsa.main_arg5) = m ((c.tc : Thread Cert.Nsa.nD Cert.Nsa.τ).loc Cert.Nsa.main_arg5)
      ∧ r.2.mem ((c.tc : Thread Cert.Nsa.nD Cert.Nsa.τ).loc Cert.Nsa.main_arg6) = m ((c.tc : Thread Cert.Nsa.nD Cert.Nsa.τ).loc Cert.Nsa.main_arg6)
      ∧ r.2.mem ((c.tc : Thread Cert.Nsa.nD Cert.Nsa.τ).loc Cert.Nsa.main_arg7) = m ((c.tc : Thread Cert.Nsa.nD Cert.Nsa.τ).loc Cert.Nsa.main_arg7)
      ∧ r.2.mem ((c.tc : Thread Cert.Nsa.nD Cert.Nsa.τ).loc Cert.Nsa.main_arg8) = m ((c.tc : Thread Cert.Nsa.nD Cert.Nsa.τ).loc Cert.Nsa.main_arg8)
      ∧ r.2.mem ((c.tc : Thread Cert.Nsa.nD Cert.Nsa.τ).loc Cert.Nsa.main_arg9) = m ((c.tc : Thread Cert.Nsa.nD Cert.Nsa.τ).loc Cert.Nsa.main_arg9)
      ∧ r.2.mem ((c.tc : Thread Cert.Nsa.nD Cert.Nsa.τ).loc Cert.Nsa.main_arg10) = m ((c.tc : Thread Cert.Nsa.nD Cert.Nsa.τ).loc Cert.Nsa.main_arg10)
      ∧ r.2.mem ((c.tc : Thread Cert.Nsa.nD Cert.Nsa.τ).loc Cert.Nsa.main_arg11) = m ((c.tc : Thread Cert.Nsa.nD Cert.Nsa.τ).loc Cert.Nsa.main_arg11)
      ∧ r.2.mem ((c.tc : Thread Cert.Nsa.nD Cert.Nsa.τ).loc Cert.Nsa.main_arg12) = m ((c.tc : Thread Cert.Nsa.nD Cert.Nsa.τ).loc Cert.Nsa.main_arg12))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5)
      ∧ r.2.mem ((c.tc : Thread Cert.NsaIdeal.nD Cert.NsaIdeal.τ).loc Cert.NsaIdeal.main_arg6) = m ((c.tc : Thread Cert.NsaIdeal.nD Cert.NsaIdeal.τ).loc Cert.NsaIdeal.main_arg6)
      ∧ r.2.mem ((c.tc : Thread Cert.NsaIdeal.nD Cert.NsaIdeal.τ).loc Cert.NsaIdeal.main_arg7) = m ((c.tc : Thread Cert.NsaIdeal.nD Cert.NsaIdeal.τ).loc Cert.NsaIdeal.main_arg7)
      ∧ r.2.mem ((c.tc : Thread Cert.NsaIdeal.nD Cert.NsaIdeal.τ).loc Cert.NsaIdeal.main_arg8) = m ((c.tc : Thread Cert.NsaIdeal.nD Cert.NsaIdeal.τ).loc Cert.NsaIdeal.main_arg8)
      ∧ r.2.mem ((c.tc : Thread Cert.NsaIdeal.nD Cert.NsaIdeal.τ).loc Cert.NsaIdeal.main_arg9) = m ((c.tc : Thread Cert.NsaIdeal.nD Cert.NsaIdeal.τ).loc Cert.NsaIdeal.main_arg9)
      ∧ r.2.mem ((c.tc : Thread Cert.NsaIdeal.nD Cert.NsaIdeal.τ).loc Cert.NsaIdeal.main_arg10) = m ((c.tc : Thread Cert.NsaIdeal.nD Cert.NsaIdeal.τ).loc Cert.NsaIdeal.main_arg10)
      ∧ r.2.mem ((c.tc : Thread Cert.NsaIdeal.nD Cert.NsaIdeal.τ).loc Cert.NsaIdeal.main_arg11) = m ((c.tc : Thread Cert.NsaIdeal.nD Cert.NsaIdeal.τ).loc Cert.NsaIdeal.main_arg11)
      ∧ r.2.mem ((c.tc : Thread Cert.NsaIdeal.nD Cert.NsaIdeal.τ).loc Cert.NsaIdeal.main_arg12) = m ((c.tc : Thread Cert.NsaIdeal.nD Cert.NsaIdeal.τ).loc Cert.NsaIdeal.main_arg12))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)) (v3 : (c : Dev Cert.InProjIdeal.nD) → Buf (Elt Ideal) ((c.tc : Thread Cert.InProjIdeal.nD Cert.InProjIdeal.τ).loc Cert.InProjIdeal.main_v25_3)) (v4 : (c : Dev Cert.InProjIdeal.nD) → Buf (Elt Ideal) ((c.tc : Thread Cert.InProjIdeal.nD Cert.InProjIdeal.τ).loc Cert.InProjIdeal.main_v25_4)) (v5 : (c : Dev Cert.InProjIdeal.nD) → Buf (Elt Ideal) ((c.tc : Thread Cert.InProjIdeal.nD Cert.InProjIdeal.τ).loc Cert.InProjIdeal.main_v25_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_v25_3) = v3 c
          ∧ r.2.mem ((c.tc : Thread Cert.InProjIdeal.nD Cert.InProjIdeal.τ).loc Cert.InProjIdeal.main_v25_4) = v4 c
          ∧ r.2.mem ((c.tc : Thread Cert.InProjIdeal.nD Cert.InProjIdeal.τ).loc Cert.InProjIdeal.main_v25_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v18) = v0 c
          ∧ r.2.mem ((c.tc : Thread Cert.InProjReferenceIdeal.nD Cert.InProjReferenceIdeal.τ).loc Cert.InProjReferenceIdeal.main_v19) = v1 c
          ∧ r.2.mem ((c.tc : Thread Cert.InProjReferenceIdeal.nD Cert.InProjReferenceIdeal.τ).loc Cert.InProjReferenceIdeal.main_v26) = v2 c
          ∧ r.2.mem ((c.tc : Thread Cert.InProjReferenceIdeal.nD Cert.InProjReferenceIdeal.τ).loc Cert.InProjReferenceIdeal.main_v29) = v3 c
          ∧ r.2.mem ((c.tc : Thread Cert.InProjReferenceIdeal.nD Cert.InProjReferenceIdeal.τ).loc Cert.InProjReferenceIdeal.main_v22) = v4 c
          ∧ r.2.mem ((c.tc : Thread Cert.InProjReferenceIdeal.nD Cert.InProjReferenceIdeal.τ).loc Cert.InProjReferenceIdeal.main_v30) = v5 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Nsa_NsaIdeal : Prop :=
  True

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hNsa : Cert.Nsa.Facts) (hNsaIdeal : Cert.NsaIdeal.Facts) (hPre_pool_finite : Cert.Pre_pool_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_Nsa (hNsa := hNsa)
    ∧ quiescent_NsaIdeal (hNsaIdeal := hNsaIdeal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_InProj_InProjIdeal
    ∧ algebraic_InProjIdeal_InProjReferenceIdeal (hInProjIdeal := hInProjIdeal) (hInProjReferenceIdeal := hInProjReferenceIdeal)
    ∧ preserves_Nsa_NsaIdeal
-- ==== Pre_pool_finite.lean ====
abbrev S16x2048x256 : Shape := ⟨3, ![16, 2048, 256]⟩
abbrev S16x2048x768 : Shape := ⟨3, ![16, 2048, 768]⟩
abbrev S16x2048x512 : Shape := ⟨3, ![16, 2048, 512]⟩
abbrev S16x2048x1024 : Shape := ⟨3, ![16, 2048, 1024]⟩
abbrev S4x4x64x64 : Shape := ⟨4, ![4, 4, 64, 64]⟩
abbrev S4x256 : Shape := ⟨2, ![4, 256]⟩
abbrev S4x3x256 : Shape := ⟨3, ![4, 3, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816x1024 : Shape := ⟨3, ![4, 2816, 1024]⟩
abbrev S_ : Shape := ⟨0, ![]⟩

class Facts : Prop where
  bcast_S_S16x2048x256 : S_.BroadcastsInDim S16x2048x256 (![] : Fin 0 → Fin S16x2048x256.rank)

variable [Facts]

def fn {F : FTy → Type} [FloatOps F] (main_arg0 : FVec F S16x2048x256 .f32) (main_arg1 : FVec F S16x2048x768 .f32) (main_arg2 : FVec F S16x2048x512 .bf16) (main_arg3 : FVec F S16x2048x1024 .f32) (main_arg4 : FVec F S4x4x64x64 .f32) (main_arg5 : FVec F S4x256 .f32) (main_arg6 : FVec F S4x3x256 .f32) (main_arg7 : FVec F S4x1024x1024 .f32) (main_arg8 : FVec F S4x1024 .f32) (main_arg9 : FVec F S4x1024x5632 .f32) (main_arg10 : FVec F S4x3x2816 .f32) (main_arg11 : FVec F S4x2816x1024 .f32) : IVec S16x2048x256 1 :=
  let main_v0 : FVec F S16x2048x256 .f32 := subf main_arg0 main_arg0
  let main_cst : FVec F S_ .f32 := constant S_ .f32 0x00000000#32
  let main_v1 : FVec F S16x2048x256 .f32 := broadcastInDim S16x2048x256 ![] bcast_S_S16x2048x256 main_cst
  let main_v2 : IVec S16x2048x256 1 := cmpf .oeq main_v0 main_v1
  main_v2
-- ==== Kernel.lean ====
abbrev S16x2048x256 : Shape := ⟨3, ![16, 2048, 256]⟩
abbrev S16x2048x768 : Shape := ⟨3, ![16, 2048, 768]⟩
abbrev S16x2048x512 : Shape := ⟨3, ![16, 2048, 512]⟩
abbrev S16x2048x1024 : Shape := ⟨3, ![16, 2048, 1024]⟩
abbrev S4x4x64x64 : Shape := ⟨4, ![4, 4, 64, 64]⟩
abbrev S4x256 : Shape := ⟨2, ![4, 256]⟩
abbrev S4x3x256 : Shape := ⟨3, ![4, 3, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816x1024 : Shape := ⟨3, ![4, 2816, 1024]⟩
abbrev S4x1x64x64 : Shape := ⟨4, ![4, 1, 64, 64]⟩
abbrev S4x64x64 : Shape := ⟨3, ![4, 64, 64]⟩
abbrev S_ : Shape := ⟨0, ![]⟩
abbrev S4x64x256 : Shape := ⟨3, ![4, 64, 256]⟩
abbrev S4x256x256 : Shape := ⟨3, ![4, 256, 256]⟩
abbrev S4x1x1024 : Shape := ⟨3, ![4, 1, 1024]⟩
abbrev S4x1x256 : Shape := ⟨3, ![4, 1, 256]⟩
abbrev S1x512x256 : Shape := ⟨3, ![1, 512, 256]⟩
abbrev S1x512x768 : Shape := ⟨3, ![1, 512, 768]⟩
abbrev S1x512x512 : Shape := ⟨3, ![1, 512, 512]⟩
abbrev S1x512x1024 : Shape := ⟨3, ![1, 512, 1024]⟩
abbrev S1x256x256 : Shape := ⟨3, ![1, 256, 256]⟩
abbrev S1x1x256 : Shape := ⟨3, ![1, 1, 256]⟩
abbrev S1x3x256 : Shape := ⟨3, ![1, 3, 256]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x3x2816 : Shape := ⟨3, ![1, 3, 2816]⟩
abbrev S1x2816x1024 : Shape := ⟨3, ![1, 2816, 1024]⟩
abbrev S512x1024 : Shape := ⟨2, ![512, 1024]⟩
abbrev S512x2816 : Shape := ⟨2, ![512, 2816]⟩
abbrev S16x256 : Shape := ⟨2, ![16, 256]⟩
abbrev S16x2816 : Shape := ⟨2, ![16, 2816]⟩
abbrev S512x256 : Shape := ⟨2, ![512, 256]⟩
abbrev S528x256 : Shape := ⟨2, ![528, 256]⟩
abbrev S1x256 : Shape := ⟨2, ![1, 256]⟩
abbrev S512x1 : Shape := ⟨2, ![512, 1]⟩
abbrev S256x256 : Shape := ⟨2, ![256, 256]⟩
abbrev S512x512 : Shape := ⟨2, ![512, 512]⟩
abbrev S1024x1024 : Shape := ⟨2, ![1024, 1024]⟩
abbrev S1x1024 : Shape := ⟨2, ![1, 1024]⟩
abbrev S512 : Shape := ⟨1, ![512]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 56
  | .vmem => 24
  | .smem => 0
  | _ => 0

abbrev bufTy : (tb : Table) → Fin (tcTables nBuf tb) → BufTy
  | .hbm, ⟨0, _⟩ => ⟨S16x2048x256, .f32⟩
  | .hbm, ⟨1, _⟩ => ⟨S16x2048x768, .f32⟩
  | .hbm, ⟨2, _⟩ => ⟨S16x2048x512, .bf16⟩
  | .hbm, ⟨3, _⟩ => ⟨S16x2048x1024, .f32⟩
  | .hbm, ⟨4, _⟩ => ⟨S4x4x64x64, .f32⟩
  | .hbm, ⟨5, _⟩ => ⟨S4x256, .f32⟩
  | .hbm, ⟨6, _⟩ => ⟨S4x3x256, .f32⟩
  | .hbm, ⟨7, _⟩ => ⟨S4x1024x1024, .f32⟩
  | .hbm, ⟨8, _⟩ => ⟨S4x1024, .f32⟩
  | .hbm, ⟨9, _⟩ => ⟨S4x1024x5632, .f32⟩
  | .hbm, ⟨10, _⟩ => ⟨S4x3x2816, .f32⟩
  | .hbm, ⟨11, _⟩ => ⟨S4x2816x1024, .f32⟩
  | .hbm, ⟨12, _⟩ => ⟨S4x1x64x64, .f32⟩
  | .hbm, ⟨13, _⟩ => ⟨S4x64x64, .f32⟩
  | .hbm, ⟨14, _⟩ => ⟨S4x1x64x64, .f32⟩
  | .hbm, ⟨15, _⟩ => ⟨S4x64x64, .f32⟩
  | .hbm, ⟨16, _⟩ => ⟨S4x1x64x64, .f32⟩
  | .hbm, ⟨17, _⟩ => ⟨S4x64x64, .f32⟩
  | .hbm, ⟨18, _⟩ => ⟨S4x1x64x64, .f32⟩
  | .hbm, ⟨19, _⟩ => ⟨S4x64x64, .f32⟩
  | .hbm, ⟨20, _⟩ => ⟨S_, .f32⟩
  | .hbm, ⟨21, _⟩ => ⟨S4x64x64, .f32⟩
  | .hbm, ⟨22, _⟩ => ⟨S_, .f32⟩
  | .hbm, ⟨23, _⟩ => ⟨S4x64x64, .f32⟩
  | .hbm, ⟨24, _⟩ => ⟨S_, .f32⟩
  | .hbm, ⟨25, _⟩ => ⟨S4x64x64, .f32⟩
  | .hbm, ⟨26, _⟩ => ⟨S4x64x256, .f32⟩
  | .hbm, ⟨27, _⟩ => ⟨S_, .f32⟩
  | .hbm, ⟨28, _⟩ => ⟨S4x64x64, .f32⟩
  | .hbm, ⟨29, _⟩ => ⟨S_, .f32⟩
  | .hbm, ⟨30, _⟩ => ⟨S4x64x64, .f32⟩
  | .hbm, ⟨31, _⟩ => ⟨S_, .f32⟩
  | .hbm, ⟨32, _⟩ => ⟨S4x64x64, .f32⟩
  | .hbm, ⟨33, _⟩ => ⟨S4x64x256, .f32⟩
  | .hbm, ⟨34, _⟩ => ⟨S_, .f32⟩
  | .hbm, ⟨35, _⟩ => ⟨S4x64x64, .f32⟩
  | .hbm, ⟨36, _⟩ => ⟨S_, .f32⟩
  | .hbm, ⟨37, _⟩ => ⟨S4x64x64, .f32⟩
  | .hbm, ⟨38, _⟩ => ⟨S_, .f32⟩
  | .hbm, ⟨39, _⟩ => ⟨S4x64x64, .f32⟩
  | .hbm, ⟨40, _⟩ => ⟨S4x64x256, .f32⟩
  | .hbm, ⟨41, _⟩ => ⟨S_, .f32⟩
  | .hbm, ⟨42, _⟩ => ⟨S4x64x64, .f32⟩
  | .hbm, ⟨43, _⟩ => ⟨S_, .f32⟩
  | .hbm, ⟨44, _⟩ => ⟨S4x64x64, .f32⟩
  | .hbm, ⟨45, _⟩ => ⟨S_, .f32⟩
  | .hbm, ⟨46, _⟩ => ⟨S4x64x64, .f32⟩
  | .hbm, ⟨47, _⟩ => ⟨S4x64x256, .f32⟩
  | .hbm, ⟨48, _⟩ => ⟨S4x256x256, .f32⟩
  | .hbm, ⟨49, _⟩ => ⟨S4x256x256, .bf16⟩
  | .hbm, ⟨50, _⟩ => ⟨S4x1x1024, .f32⟩
  | .hbm, ⟨51, _⟩ => ⟨S4x1x256, .f32⟩
  | .hbm, ⟨52, _⟩ => ⟨S4x1024x1024, .bf16⟩
  | .hbm, ⟨53, _⟩ => ⟨S4x1024x5632, .bf16⟩
  | .hbm, ⟨54, _⟩ => ⟨S4x2816x1024, .bf16⟩
  | .hbm, ⟨55, _⟩ => ⟨S16x2048x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x768, .f32⟩
  | .local _ .vmem, ⟨3, _⟩ => ⟨S1x512x768, .f32⟩
  | .local _ .vmem, ⟨4, _⟩ => ⟨S1x512x512, .bf16⟩
  | .local _ .vmem, ⟨5, _⟩ => ⟨S1x512x512, .bf16⟩
  | .local _ .vmem, ⟨6, _⟩ => ⟨S1x512x1024, .f32⟩
  | .local _ .vmem, ⟨7, _⟩ => ⟨S1x512x1024, .f32⟩
  | .local _ .vmem, ⟨8, _⟩ => ⟨S1x256x256, .bf16⟩
  | .local _ .vmem, ⟨9, _⟩ => ⟨S1x1x256, .f32⟩
  | .local _ .vmem, ⟨10, _⟩ => ⟨S1x3x256, .f32⟩
  | .local _ .vmem, ⟨11, _⟩ => ⟨S1x1024x1024, .bf16⟩
  | .local _ .vmem, ⟨12, _⟩ => ⟨S1x1x1024, .f32⟩
  | .local _ .vmem, ⟨13, _⟩ => ⟨S1x1024x5632, .bf16⟩
  | .local _ .vmem, ⟨14, _⟩ => ⟨S1x3x2816, .f32⟩
  | .local _ .vmem, ⟨15, _⟩ => ⟨S1x2816x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S512x1024, .bf16⟩
  | .local _ .vmem, ⟨20, _⟩ => ⟨S512x2816, .bf16⟩
  | .local _ .vmem, ⟨21, _⟩ => ⟨S16x256, .f32⟩
  | .local _ .vmem, ⟨22, _⟩ => ⟨S16x256, .f32⟩
  | .local _ .vmem, ⟨23, _⟩ => ⟨S16x2816, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_cst_8 : Ref sig .tc := ⟨.hbm, 41, rfl⟩
abbrev main_v20 : Ref sig .tc := ⟨.hbm, 42, rfl⟩
abbrev main_cst_9 : Ref sig .tc := ⟨.hbm, 43, rfl⟩
abbrev main_v21 : Ref sig .tc := ⟨.hbm, 44, rfl⟩
abbrev main_cst_10 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16x2048x256 : Shape := ⟨3, ![16, 2048, 256]⟩
abbrev S16x2048x768 : Shape := ⟨3, ![16, 2048, 768]⟩
abbrev S16x2048x512 : Shape := ⟨3, ![16, 2048, 512]⟩
abbrev S16x2048x1024 : Shape := ⟨3, ![16, 2048, 1024]⟩
abbrev S4x4x64x64 : Shape := ⟨4, ![4, 4, 64, 64]⟩
abbrev S4x256 : Shape := ⟨2, ![4, 256]⟩
abbrev S4x3x256 : Shape := ⟨3, ![4, 3, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816x1024 : Shape := ⟨3, ![4, 2816, 1024]⟩
abbrev S1x4x64x64 : Shape := ⟨4, ![1, 4, 64, 64]⟩
abbrev S4x64x64 : Shape := ⟨3, ![4, 64, 64]⟩
abbrev S1x256 : Shape := ⟨2, ![1, 256]⟩
abbrev S256 : Shape := ⟨1, ![256]⟩
abbrev S16x2048x4x64 : Shape := ⟨4, ![16, 2048, 4, 64]⟩
abbrev S_ : Shape := ⟨0, ![]⟩
abbrev S16x1x4x64 : Shape := ⟨4, ![16, 1, 4, 64]⟩
abbrev S16x2049x4x64 : Shape := ⟨4, ![16, 2049, 4, 64]⟩
abbrev S2048 : Shape := ⟨1, ![2048]⟩
abbrev S1x2048x1 : Shape := ⟨3, ![1, 2048, 1]⟩
abbrev S16x2048x1x64 : Shape := ⟨4, ![16, 2048, 1, 64]⟩
abbrev S16x2048x64 : Shape := ⟨3, ![16, 2048, 64]⟩
abbrev S2048x1 : Shape := ⟨2, ![2048, 1]⟩
abbrev S2048x2 : Shape := ⟨2, ![2048, 2]⟩
abbrev S4x64x16x2048 : Shape := ⟨4, ![4, 64, 16, 2048]⟩
abbrev S1x1x256 : Shape := ⟨3, ![1, 1, 256]⟩
abbrev S1x3x256 : Shape := ⟨3, ![1, 3, 256]⟩
abbrev S3x256 : Shape := ⟨2, ![3, 256]⟩
abbrev S16x2050x256 : Shape := ⟨3, ![16, 2050, 256]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x3x2816 : Shape := ⟨3, ![1, 3, 2816]⟩
abbrev S3x2816 : Shape := ⟨2, ![3, 2816]⟩
abbrev S16x2050x2816 : Shape := ⟨3, ![16, 2050, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩

abbrev nBuf : Space → Nat
  | .hbm => 271
  | .vmem => 0
  | .smem => 0
  | _ => 0

abbrev hbmTy0_0 (i : Nat) : BufTy := match i % 128 with
  | 0 => ⟨S16x2048x256, .f32⟩
  | 1 => ⟨S16x2048x768, .f32⟩
  | 2 => ⟨S16x2048x512, .bf16⟩
  | 3 => ⟨S16x2048x1024, .f32⟩
  | 4 => ⟨S4x4x64x64, .f32⟩
  | 5 => ⟨S4x256, .f32⟩
  | 6 => ⟨S4x3x256, .f32⟩
  | 7 => ⟨S4x1024x1024, .f32⟩
  | 8 => ⟨S4x1024, .f32⟩
  | 9 => ⟨S4x1024x5632, .f32⟩
  | 10 => ⟨S4x3x2816, .f32⟩
  | 11 => ⟨S4x2816x1024, .f32⟩
  | 12 => ⟨S16x2048x256, .f32⟩
  | 13 => ⟨S16x2048x256, .f32⟩
  | 14 => ⟨S16x2048x256, .f32⟩
  | 15 => ⟨S1x4x64x64, .f32⟩
  | 16 => ⟨S4x64x64, .f32⟩
  | 17 => ⟨S1x256, .f32⟩
  | 18 => ⟨S256, .f32⟩
  | 19 => ⟨S16x2048x4x64, .f32⟩
  | 20 => ⟨S_, .f32⟩
  | 21 => ⟨S_, .f32⟩
  | 22 => ⟨S16x2048x4x64, .f32⟩
  | 23 => ⟨S16x1x4x64, .f32⟩
  | 24 => ⟨S_, .f32⟩
  | 25 => ⟨S16x1x4x64, .f32⟩
  | 26 => ⟨S16x2049x4x64, .f32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S2048, .i32⟩
  | 41 => ⟨S2048, .f32⟩
  | 42 => ⟨S1x2048x1, .f32⟩
  | 43 => ⟨S16x2048x1x64, .f32⟩
  | 44 => ⟨S16x2048x64, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S_, .i32⟩
  | 53 => ⟨S2048, .i32⟩
  | 54 => ⟨S2048, .i32⟩
  | 55 => ⟨S2048x1, .i32⟩
  | 56 => ⟨S2048x1, .i32⟩
  | 57 => ⟨S2048x2, .i32⟩
  | 58 => ⟨S16x2048x64, .f32⟩
  | 59 => ⟨S16x2048x64, .f32⟩
  | 60 => ⟨S16x2048x64, .f32⟩
  | 61 => ⟨S16x2048x64, .f32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .i32⟩
  | 75 => ⟨S2048, .f32⟩
  | 76 => ⟨S1x2048x1, .f32⟩
  | 77 => ⟨S16x2048x1x64, .f32⟩
  | 78 => ⟨S16x2048x64, .f32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048x1, .i32⟩
  | 90 => ⟨S2048x1, .i32⟩
  | 91 => ⟨S2048x2, .i32⟩
  | 92 => ⟨S16x2048x64, .f32⟩
  | 93 => ⟨S16x2048x64, .f32⟩
  | 94 => ⟨S16x2048x64, .f32⟩
  | 95 => ⟨S16x2048x64, .f32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S_, .i32⟩
  | 103 => ⟨S2048, .i32⟩
  | 104 => ⟨S2048, .i32⟩
  | 105 => ⟨S_, .i32⟩
  | 106 => ⟨S2048, .i32⟩
  | 107 => ⟨S2048, .i32⟩
  | 108 => ⟨S2048, .i32⟩
  | 109 => ⟨S2048, .f32⟩
  | 110 => ⟨S1x2048x1, .f32⟩
  | 111 => ⟨S16x2048x1x64, .f32⟩
  | 112 => ⟨S16x2048x64, .f32⟩
  | 113 => ⟨S_, .i32⟩
  | 114 => ⟨S2048, .i32⟩
  | 115 => ⟨S2048, .i1⟩
  | 116 => ⟨S_, .i32⟩
  | 117 => ⟨S2048, .i32⟩
  | 118 => ⟨S2048, .i32⟩
  | 119 => ⟨S2048, .i32⟩
  | 120 => ⟨S_, .i32⟩
  | 121 => ⟨S2048, .i32⟩
  | 122 => ⟨S2048, .i32⟩
  | 123 => ⟨S2048x1, .i32⟩
  | 124 => ⟨S2048x1, .i32⟩
  | 125 => ⟨S2048x2, .i32⟩
  | 126 => ⟨S16x2048x64, .f32⟩
  | 127 => ⟨S16x2048x64, .f32⟩
  | _ => ⟨S16x2048x256, .f32⟩

abbrev hbmTy0_1 (i : Nat) : BufTy := match i % 128 with
  | 0 => ⟨S16x2048x64, .f32⟩
  | 1 => ⟨S16x2048x64, .f32⟩
  | 2 => ⟨S_, .i32⟩
  | 3 => ⟨S2048, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S_, .i32⟩
  | 12 => ⟨S2048, .i32⟩
  | 13 => ⟨S2048, .i32⟩
  | 14 => ⟨S2048, .i32⟩
  | 15 => ⟨S2048, .f32⟩
  | 16 => ⟨S1x2048x1, .f32⟩
  | 17 => ⟨S16x2048x1x64, .f32⟩
  | 18 => ⟨S16x2048x64, .f32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048x1, .i32⟩
  | 30 => ⟨S2048x1, .i32⟩
  | 31 => ⟨S2048x2, .i32⟩
  | 32 => ⟨S16x2048x64, .f32⟩
  | 33 => ⟨S16x2048x64, .f32⟩
  | 34 => ⟨S16x2048x64, .f32⟩
  | 35 => ⟨S16x2048x64, .f32⟩
  | 36 => ⟨S16x2048x1x64, .f32⟩
  | 37 => ⟨S16x2048x1x64, .f32⟩
  | 38 => ⟨S16x2048x1x64, .f32⟩
  | 39 => ⟨S16x2048x1x64, .f32⟩
  | 40 => ⟨S16x2048x4x64, .f32⟩
  | 41 => ⟨S16x2048x4x64, .f32⟩
  | 42 => ⟨S4x64x16x2048, .f32⟩
  | 43 => ⟨S16x2048x4x64, .f32⟩
  | 44 => ⟨S16x2048x256, .f32⟩
  | 45 => ⟨S1x1x256, .f32⟩
  | 46 => ⟨S16x2048x256, .f32⟩
  | 47 => ⟨S16x2048x256, .f32⟩
  | 48 => ⟨S16x2048x256, .f32⟩
  | 49 => ⟨S1x3x256, .f32⟩
  | 50 => ⟨S3x256, .f32⟩
  | 51 => ⟨S_, .i32⟩
  | 52 => ⟨S_, .f32⟩
  | 53 => ⟨S16x2050x256, .f32⟩
  | 54 => ⟨S1x256, .f32⟩
  | 55 => ⟨S256, .f32⟩
  | 56 => ⟨S16x2048x256, .f32⟩
  | 57 => ⟨S1x1x256, .f32⟩
  | 58 => ⟨S16x2048x256, .f32⟩
  | 59 => ⟨S16x2048x256, .f32⟩
  | 60 => ⟨S1x256, .f32⟩
  | 61 => ⟨S256, .f32⟩
  | 62 => ⟨S16x2048x256, .f32⟩
  | 63 => ⟨S1x1x256, .f32⟩
  | 64 => ⟨S16x2048x256, .f32⟩
  | 65 => ⟨S16x2048x256, .f32⟩
  | 66 => ⟨S16x2048x256, .f32⟩
  | 67 => ⟨S1x256, .f32⟩
  | 68 => ⟨S256, .f32⟩
  | 69 => ⟨S16x2048x256, .f32⟩
  | 70 => ⟨S1x1x256, .f32⟩
  | 71 => ⟨S16x2048x256, .f32⟩
  | 72 => ⟨S16x2048x256, .f32⟩
  | 73 => ⟨S16x2048x256, .f32⟩
  | 74 => ⟨S16x2048x256, .f32⟩
  | 75 => ⟨S16x2048x512, .f32⟩
  | 76 => ⟨S16x2048x1024, .f32⟩
  | 77 => ⟨S1x1024x1024, .f32⟩
  | 78 => ⟨S1024x1024, .f32⟩
  | 79 => ⟨S16x2048x1024, .f32⟩
  | 80 => ⟨S16x2048x1024, .f32⟩
  | 81 => ⟨S1x1024, .f32⟩
  | 82 => ⟨S1024, .f32⟩
  | 83 => ⟨S16x2048x1024, .f32⟩
  | 84 => ⟨S_, .f32⟩
  | 85 => ⟨S16x2048, .f32⟩
  | 86 => ⟨S16x2048x1, .f32⟩
  | 87 => ⟨S_, .f32⟩
  | 88 => ⟨S16x2048x1, .f32⟩
  | 89 => ⟨S16x2048x1, .f32⟩
  | 90 => ⟨S_, .f32⟩
  | 91 => ⟨S16x2048x1, .f32⟩
  | 92 => ⟨S16x2048x1, .f32⟩
  | 93 => ⟨S16x2048x1, .f32⟩
  | 94 => ⟨S16x2048x1024, .f32⟩
  | 95 => ⟨S16x2048x1024, .f32⟩
  | 96 => ⟨S1x1x1024, .f32⟩
  | 97 => ⟨S16x2048x1024, .f32⟩
  | 98 => ⟨S16x2048x1024, .f32⟩
  | 99 => ⟨S1x1024x5632, .f32⟩
  | 100 => ⟨S1024x5632, .f32⟩
  | 101 => ⟨S16x2048x5632, .f32⟩
  | 102 => ⟨S16x2048x2816, .f32⟩
  | 103 => ⟨S16x2048x2816, .f32⟩
  | 104 => ⟨S1x3x2816, .f32⟩
  | 105 => ⟨S3x2816, .f32⟩
  | 106 => ⟨S_, .i32⟩
  | 107 => ⟨S_, .f32⟩
  | 108 => ⟨S16x2050x2816, .f32⟩
  | 109 => ⟨S1x2816, .f32⟩
  | 110 => ⟨S2816, .f32⟩
  | 111 => ⟨S16x2048x2816, .f32⟩
  | 112 => ⟨S1x1x2816, .f32⟩
  | 113 => ⟨S16x2048x2816, .f32⟩
  | 114 => ⟨S16x2048x2816, .f32⟩
  | 115 => ⟨S1x2816, .f32⟩
  | 116 => ⟨S2816, .f32⟩
  | 117 => ⟨S16x2048x2816, .f32⟩
  | 118 => ⟨S1x1x2816, .f32⟩
  | 119 => ⟨S16x2048x2816, .f32⟩
  | 120 => ⟨S16x2048x2816, .f32⟩
  | 121 => ⟨S16x2048x2816, .f32⟩
  | 122 => ⟨S1x2816, .f32⟩
  | 123 => ⟨S2816, .f32⟩
  | 124 => ⟨S16x2048x2816, .f32⟩
  | 125 => ⟨S1x1x2816, .f32⟩
  | 126 => ⟨S16x2048x2816, .f32⟩
  | 127 => ⟨S16x2048x2816, .f32⟩
  | _ => ⟨S16x2048x256, .f32⟩

abbrev hbmTy0_2 (i : Nat) : BufTy := match i % 128 with
  | 0 => ⟨S16x2048x2816, .f32⟩
  | 1 => ⟨S16x2048x2816, .f32⟩
  | 2 => ⟨S16x2048x2816, .f32⟩
  | 3 => ⟨S_, .f32⟩
  | 4 => ⟨S16x2048x2816, .f32⟩
  | 5 => ⟨S16x2048x2816, .f32⟩
  | 6 => ⟨S_, .f32⟩
  | 7 => ⟨S16x2048x2816, .f32⟩
  | 8 => ⟨S16x2048x2816, .f32⟩
  | 9 => ⟨S16x2048x2816, .f32⟩
  | 10 => ⟨S16x2048x2816, .f32⟩
  | 11 => ⟨S1x2816x1024, .f32⟩
  | 12 => ⟨S2816x1024, .f32⟩
  | 13 => ⟨S16x2048x1024, .f32⟩
  | 14 => ⟨S16x2048x1024, .f32⟩
  | _ => ⟨S16x2048x256, .f32⟩

abbrev hbmTy (i : Nat) : BufTy := match i / 128 with
  | 0 => hbmTy0_0 i
  | 1 => hbmTy0_1 i
  | 2 => hbmTy0_2 i
  | _ => ⟨S16x2048x256, .f32⟩

abbrev bufTy : (tb : Table) → Fin (tcTables nBuf tb) → BufTy
  | .hbm, ⟨i, _⟩ => hbmTy i
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_call0_cst : Ref sig .tc := ⟨.hbm, 20, rfl⟩
abbrev main_call0_call0_v0 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_20 : Ref sig .tc := ⟨.hbm, 130, rfl⟩
abbrev main_v94 : Ref sig .tc := ⟨.hbm, 131, rfl⟩
abbrev main_v95 : Ref sig .tc := ⟨.hbm, 132, rfl⟩
abbrev main_c_21 : Ref sig .tc := ⟨.hbm, 133, rfl⟩
abbrev main_v96 : Ref sig .tc := ⟨.hbm, 134, rfl⟩
abbrev main_v97 : Ref sig .tc := ⟨.hbm, 135, rfl⟩
abbrev main_c_22 : Ref sig .tc := ⟨.hbm, 136, rfl⟩
abbrev main_v98 : Ref sig .tc := ⟨.hbm, 137, rfl⟩
abbrev main_v99 : Ref sig .tc := ⟨.hbm, 138, rfl⟩
abbrev main_c_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_27 : Ref sig .tc := ⟨.hbm, 179, rfl⟩
abbrev main_call1_v0 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_28 : Ref sig .tc := ⟨.hbm, 212, rfl⟩
abbrev main_v167 : Ref sig .tc := ⟨.hbm, 213, rfl⟩
abbrev main_v168 : Ref sig .tc := ⟨.hbm, 214, rfl⟩
abbrev main_cst_29 : Ref sig .tc := ⟨.hbm, 215, rfl⟩
abbrev main_v169 : Ref sig .tc := ⟨.hbm, 216, rfl⟩
abbrev main_v170 : Ref sig .tc := ⟨.hbm, 217, rfl⟩
abbrev main_cst_30 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_c_31 : Ref sig .tc := ⟨.hbm, 234, rfl⟩
abbrev main_call2_v0 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_call3_v0 : Ref sig .tc := ⟨.hbm, 257, rfl⟩
abbrev main_call3_v1 : Ref sig .tc := ⟨.hbm, 258, rfl⟩
abbrev main_call3_cst : Ref sig .tc := ⟨.hbm, 259, rfl⟩
abbrev main_call3_v2 : Ref sig .tc := ⟨.hbm, 260, rfl⟩
abbrev main_call3_v3 : Ref sig .tc := ⟨.hbm, 261, rfl⟩
abbrev main_call3_cst_0 : Ref sig .tc := ⟨.hbm, 262, rfl⟩
abbrev main_call3_v4 : Ref sig .tc := ⟨.hbm, 263, rfl⟩
abbrev main_call3_v5 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩

abbrev nD : Nat := 1
abbrev τ : Topo := Topo.v7x

variable {F : FTy → Type} [FloatOps F]
-- ==== InProj.lean ====
abbrev S16x2048x1024 : Shape := ⟨3, ![16, 2048, 1024]⟩
abbrev S4x1024 : Shape := ⟨2, ![4, 1024]⟩
abbrev S4x1024x2328 : Shape := ⟨3, ![4, 1024, 2328]⟩
abbrev S4x1024x128 : Shape := ⟨3, ![4, 1024, 128]⟩
abbrev S4x1024x64 : Shape := ⟨3, ![4, 1024, 64]⟩
abbrev S4x1024x24 : Shape := ⟨3, ![4, 1024, 24]⟩
abbrev S_ : Shape := ⟨0, ![]⟩
abbrev S4x1024x768 : Shape := ⟨3, ![4, 1024, 768]⟩
abbrev S4x1024x2432 : Shape := ⟨3, ![4, 1024, 2432]⟩
abbrev S4x1x1024 : Shape := ⟨3, ![4, 1, 1024]⟩
abbrev S16x2048x256 : Shape := ⟨3, ![16, 2048, 256]⟩
abbrev S16x2048x512 : Shape := ⟨3, ![16, 2048, 512]⟩
abbrev S16x2048x768 : Shape := ⟨3, ![16, 2048, 768]⟩
abbrev S16x2048x128 : Shape := ⟨3, ![16, 2048, 128]⟩
abbrev S1x1024x1024 : Shape := ⟨3, ![1, 1024, 1024]⟩
abbrev S1x1x1024 : Shape := ⟨3, ![1, 1, 1024]⟩
abbrev S1x1024x2432 : Shape := ⟨3, ![1, 1024, 2432]⟩
abbrev S1x1024x256 : Shape := ⟨3, ![1, 1024, 256]⟩
abbrev S1x1024x512 : Shape := ⟨3, ![1, 1024, 512]⟩
abbrev S1x1024x768 : Shape := ⟨3, ![1, 1024, 768]⟩
abbrev S1x1024x128 : Shape := ⟨3, ![1, 1024, 128]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S1024x512 : Shape := ⟨2, ![1024, 512]⟩
abbrev S1024x768 : Shape := ⟨2, ![1024, 768]⟩
abbrev S1024x128 : Shape := ⟨2, ![1024, 128]⟩

abbrev nBuf : Space → Nat
  | .hbm => 36
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S4x1024x2328, .f32⟩
  | .hbm, ⟨3, _⟩ => ⟨S4x1024x128, .f32⟩
  | .hbm, ⟨4, _⟩ => ⟨S4x1024x128, .f32⟩
  | .hbm, ⟨5, _⟩ => ⟨S4x1024x128, .f32⟩
  | .hbm, ⟨6, _⟩ => ⟨S4x1024x128, .f32⟩
  | .hbm, ⟨7, _⟩ => ⟨S4x1024x128, .f32⟩
  | .hbm, ⟨8, _⟩ => ⟨S4x1024x128, .f32⟩
  | .hbm, ⟨9, _⟩ => ⟨S4x1024x64, .f32⟩
  | .hbm, ⟨10, _⟩ => ⟨S4x1024x64, .f32⟩
  | .hbm, ⟨11, _⟩ => ⟨S4x1024x64, .f32⟩
  | .hbm, ⟨12, _⟩ => ⟨S4x1024x64, .f32⟩
  | .hbm, ⟨13, _⟩ => ⟨S4x1024x64, .f32⟩
  | .hbm, ⟨14, _⟩ => ⟨S4x1024x64, .f32⟩
  | .hbm, ⟨15, _⟩ => ⟨S4x1024x64, .f32⟩
  | .hbm, ⟨16, _⟩ => ⟨S4x1024x64, .f32⟩
  | .hbm, ⟨17, _⟩ => ⟨S4x1024x64, .f32⟩
  | .hbm, ⟨18, _⟩ => ⟨S4x1024x64, .f32⟩
  | .hbm, ⟨19, _⟩ => ⟨S4x1024x64, .f32⟩
  | .hbm, ⟨20, _⟩ => ⟨S4x1024x64, .f32⟩
  | .hbm, ⟨21, _⟩ => ⟨S4x1024x24, .f32⟩
  | .hbm, ⟨22, _⟩ => ⟨S_, .i32⟩
  | .hbm, ⟨23, _⟩ => ⟨S_, .f32⟩
  | .hbm, ⟨24, _⟩ => ⟨S4x1024x128, .f32⟩
  | .hbm, ⟨25, _⟩ => ⟨S4x1024x768, .f32⟩
  | .hbm, ⟨26, _⟩ => ⟨S4x1024x768, .f32⟩
  | .hbm, ⟨27, _⟩ => ⟨S4x1024x2432, .f32⟩
  | .hbm, ⟨28, _⟩ => ⟨S4x1024x2432, .bf16⟩
  | .hbm, ⟨29, _⟩ => ⟨S4x1x1024, .f32⟩
  | .hbm, ⟨30, _⟩ => ⟨S16x2048x256, .f32⟩
  | .hbm, ⟨31, _⟩ => ⟨S16x2048x512, .f32⟩
  | .hbm, ⟨32, _⟩ => ⟨S16x2048x512, .f32⟩
  | .hbm, ⟨33, _⟩ => ⟨S16x2048x256, .f32⟩
  | .hbm, ⟨34, _⟩ => ⟨S16x2048x768, .f32⟩
  | .hbm, ⟨35, _⟩ => ⟨S16x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x2432, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x768, .f32⟩
  | .local _ .vmem, ⟨13, _⟩ => ⟨S1x1024x768, .f32⟩
  | .local _ .vmem, ⟨14, _⟩ => ⟨S1x1024x128, .f32⟩
  | .local _ .vmem, ⟨15, _⟩ => ⟨S1x1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_call0_v0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev main_v25_4 : Ref sig .tc := ⟨.hbm, 34, rfl⟩
abbrev main_v25_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InProjReferenceIdeal.lean ====
abbrev S16x2048x1024 : Shape := ⟨3, ![16, 2048, 1024]⟩
abbrev S4x1024 : Shape := ⟨2, ![4, 1024]⟩
abbrev S4x1024x2328 : Shape := ⟨3, ![4, 1024, 2328]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2328 : Shape := ⟨3, ![1, 1024, 2328]⟩
abbrev S1024x2328 : Shape := ⟨2, ![1024, 2328]⟩
abbrev S16x2048x2328 : Shape := ⟨3, ![16, 2048, 2328]⟩
abbrev S16x2048x256 : Shape := ⟨3, ![16, 2048, 256]⟩
abbrev S16x2048x512 : Shape := ⟨3, ![16, 2048, 512]⟩
abbrev S16x2048x768 : Shape := ⟨3, ![16, 2048, 768]⟩
abbrev S16x2048x24 : Shape := ⟨3, ![16, 2048, 24]⟩
abbrev S16x2048x6x2x64 : Shape := ⟨5, ![16, 2048, 6, 2, 64]⟩
abbrev S16x2048x4x2x64 : Shape := ⟨5, ![16, 2048, 4, 2, 64]⟩
abbrev S16x2048x2x4x64 : Shape := ⟨5, ![16, 2048, 2, 4, 64]⟩
abbrev S16x2048x2x2x64 : Shape := ⟨5, ![16, 2048, 2, 2, 64]⟩
abbrev S16x2048x128 : Shape := ⟨3, ![16, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S4x1024x2328, .f32⟩
  | .hbm, ⟨3, _⟩ => ⟨S1x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1x1024x2328, .f32⟩
  | .hbm, ⟨22, _⟩ => ⟨S1024x2328, .f32⟩
  | .hbm, ⟨23, _⟩ => ⟨S16x2048x2328, .f32⟩
  | .hbm, ⟨24, _⟩ => ⟨S16x2048x256, .f32⟩
  | .hbm, ⟨25, _⟩ => ⟨S16x2048x512, .f32⟩
  | .hbm, ⟨26, _⟩ => ⟨S16x2048x768, .f32⟩
  | .hbm, ⟨27, _⟩ => ⟨S16x2048x24, .f32⟩
  | .hbm, ⟨28, _⟩ => ⟨S16x2048x768, .f32⟩
  | .hbm, ⟨29, _⟩ => ⟨S16x2048x6x2x64, .f32⟩
  | .hbm, ⟨30, _⟩ => ⟨S16x2048x4x2x64, .f32⟩
  | .hbm, ⟨31, _⟩ => ⟨S16x2048x2x4x64, .f32⟩
  | .hbm, ⟨32, _⟩ => ⟨S16x2048x512, .f32⟩
  | .hbm, ⟨33, _⟩ => ⟨S16x2048x2x2x64, .f32⟩
  | .hbm, ⟨34, _⟩ => ⟨S16x2048x2x2x64, .f32⟩
  | .hbm, ⟨35, _⟩ => ⟨S16x2048x256, .f32⟩
  | .hbm, ⟨36, _⟩ => ⟨S_, .i32⟩
  | .hbm, ⟨37, _⟩ => ⟨S_, .f32⟩
  | .hbm, ⟨38, _⟩ => ⟨S16x2048x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_call0_v0 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Nsa.lean ====
abbrev S16x2048x512 : Shape := ⟨3, ![16, 2048, 512]⟩
abbrev S16x2048x256 : Shape := ⟨3, ![16, 2048, 256]⟩
abbrev S16x2048x128 : Shape := ⟨3, ![16, 2048, 128]⟩
abbrev S4x64 : Shape := ⟨2, ![4, 64]⟩
abbrev S4x3x64 : Shape := ⟨3, ![4, 3, 64]⟩
abbrev S4x2x32x64 : Shape := ⟨4, ![4, 2, 32, 64]⟩
abbrev S4x2x2048x64 : Shape := ⟨4, ![4, 2, 2048, 64]⟩
abbrev S4x2x64x64 : Shape := ⟨4, ![4, 2, 64, 64]⟩
abbrev S32x128 : Shape := ⟨2, ![32, 128]⟩
abbrev S2048x64 : Shape := ⟨2, ![2048, 64]⟩
abbrev S128x64 : Shape := ⟨2, ![128, 64]⟩
abbrev S4x1x32x64 : Shape := ⟨4, ![4, 1, 32, 64]⟩
abbrev S4x32x64 : Shape := ⟨3, ![4, 32, 64]⟩
abbrev S4x32x128 : Shape := ⟨3, ![4, 32, 128]⟩
abbrev S4x32x1x128 : Shape := ⟨4, ![4, 32, 1, 128]⟩
abbrev S4x2x32x64x64 : Shape := ⟨5, ![4, 2, 32, 64, 64]⟩
abbrev S4x1x32x64x64 : Shape := ⟨5, ![4, 1, 32, 64, 64]⟩
abbrev S4x32x64x64 : Shape := ⟨4, ![4, 32, 64, 64]⟩
abbrev S_ : Shape := ⟨0, ![]⟩
abbrev S4x32x64x128 : Shape := ⟨4, ![4, 32, 64, 128]⟩
abbrev S4x32x128x128 : Shape := ⟨4, ![4, 32, 128, 128]⟩
abbrev S4x1x64x64 : Shape := ⟨4, ![4, 1, 64, 64]⟩
abbrev S4x64x64 : Shape := ⟨3, ![4, 64, 64]⟩
abbrev S4x64x128 : Shape := ⟨3, ![4, 64, 128]⟩
abbrev S4x128x128 : Shape := ⟨3, ![4, 128, 128]⟩
abbrev S4x16x1x128 : Shape := ⟨4, ![4, 16, 1, 128]⟩
abbrev S4x16x128x128 : Shape := ⟨4, ![4, 16, 128, 128]⟩
abbrev S4x64x1 : Shape := ⟨3, ![4, 64, 1]⟩
abbrev S4x64x256 : Shape := ⟨3, ![4, 64, 256]⟩
abbrev S4x2x64 : Shape := ⟨3, ![4, 2, 64]⟩
abbrev S4x1x64 : Shape := ⟨3, ![4, 1, 64]⟩
abbrev S1x2048x256 : Shape := ⟨3, ![1, 2048, 256]⟩
abbrev S1x2048x128 : Shape := ⟨3, ![1, 2048, 128]⟩
abbrev S1x64x256 : Shape := ⟨3, ![1, 64, 256]⟩
abbrev S1x3x64 : Shape := ⟨3, ![1, 3, 64]⟩
abbrev S1x16x1x128 : Shape := ⟨4, ![1, 16, 1, 128]⟩
abbrev S1x16x128x128 : Shape := ⟨4, ![1, 16, 128, 128]⟩
abbrev S1x128x128 : Shape := ⟨3, ![1, 128, 128]⟩
abbrev S2048x128 : Shape := ⟨2, ![2048, 128]⟩
abbrev S8x80x256 : Shape := ⟨3, ![8, 80, 256]⟩
abbrev S128x128 : Shape := ⟨2, ![128, 128]⟩
abbrev S64x128 : Shape := ⟨2, ![64, 128]⟩
abbrev S4x128x256 : Shape := ⟨3, ![4, 128, 256]⟩
abbrev S2x256x256 : Shape := ⟨3, ![2, 256, 256]⟩
abbrev S4x1x256 : Shape := ⟨3, ![4, 1, 256]⟩
abbrev S4x80x256 : Shape := ⟨3, ![4, 80, 256]⟩
abbrev S3x4x256x256 : Shape := ⟨4, ![3, 4, 256, 256]⟩
abbrev S2x4x256x256 : Shape := ⟨4, ![2, 4, 256, 256]⟩
abbrev S16x256 : Shape := ⟨2, ![16, 256]⟩
abbrev S1x2048x64 : Shape := ⟨3, ![1, 2048, 64]⟩
abbrev S1x1x64 : Shape := ⟨3, ![1, 1, 64]⟩
abbrev S1x64 : Shape := ⟨2, ![1, 64]⟩
abbrev S2048 : Shape := ⟨1, ![2048]⟩
abbrev S2048x1 : Shape := ⟨2, ![2048, 1]⟩
abbrev S1x256x128 : Shape := ⟨3, ![1, 256, 128]⟩
abbrev S256x128 : Shape := ⟨2, ![256, 128]⟩
abbrev S128x256 : Shape := ⟨2, ![128, 256]⟩
abbrev S64x256 : Shape := ⟨2, ![64, 256]⟩
abbrev S1x16x256 : Shape := ⟨3, ![1, 16, 256]⟩
abbrev S1x1x1x128 : Shape := ⟨4, ![1, 1, 1, 128]⟩
abbrev S1x128 : Shape := ⟨2, ![1, 128]⟩
abbrev S1x1x128x128 : Shape := ⟨4, ![1, 1, 128, 128]⟩
abbrev S128 : Shape := ⟨1, ![128]⟩
abbrev S128x1 : Shape := ⟨2, ![128, 1]⟩
abbrev S1x256x256 : Shape := ⟨3, ![1, 256, 256]⟩
abbrev S256x256 : Shape := ⟨2, ![256, 256]⟩
abbrev S32x256 : Shape := ⟨2, ![32, 256]⟩
abbrev S256 : Shape := ⟨1, ![256]⟩
abbrev S1x256 : Shape := ⟨2, ![1, 256]⟩
abbrev S1x32x256 : Shape := ⟨3, ![1, 32, 256]⟩
abbrev S1x128x256 : Shape := ⟨3, ![1, 128, 256]⟩
abbrev S1x4x256x256 : Shape := ⟨4, ![1, 4, 256, 256]⟩
abbrev S4x256x256 : Shape := ⟨3, ![4, 256, 256]⟩
abbrev S1x80x256 : Shape := ⟨3, ![1, 80, 256]⟩
abbrev S80x256 : Shape := ⟨2, ![80, 256]⟩
abbrev S1x1x256 : Shape := ⟨3, ![1, 1, 256]⟩

abbrev nBuf : Space → Nat
  | .hbm => 54
  | .vmem => 33
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x256, .f32⟩
  | .hbm, ⟨3, _⟩ => ⟨S16x2048x128, .f32⟩
  | .hbm, ⟨4, _⟩ => ⟨S4x64, .f32⟩
  | .hbm, ⟨5, _⟩ => ⟨S4x3x64, .f32⟩
  | .hbm, ⟨6, _⟩ => ⟨S4x2x32x64, .f32⟩
  | .hbm, ⟨7, _⟩ => ⟨S4x2x2048x64, .f32⟩
  | .hbm, ⟨8, _⟩ => ⟨S4x2x64x64, .f32⟩
  | .hbm, ⟨9, _⟩ => ⟨S32x128, .bf16⟩
  | .hbm, ⟨10, _⟩ => ⟨S2048x64, .bf16⟩
  | .hbm, ⟨11, _⟩ => ⟨S2048x64, .bf16⟩
  | .hbm, ⟨12, _⟩ => ⟨S128x64, .bf16⟩
  | .hbm, ⟨13, _⟩ => ⟨S4x1x32x64, .f32⟩
  | .hbm, ⟨14, _⟩ => ⟨S4x32x64, .f32⟩
  | .hbm, ⟨15, _⟩ => ⟨S4x1x32x64, .f32⟩
  | .hbm, ⟨16, _⟩ => ⟨S4x32x64, .f32⟩
  | .hbm, ⟨17, _⟩ => ⟨S4x32x128, .f32⟩
  | .hbm, ⟨18, _⟩ => ⟨S4x32x1x128, .f32⟩
  | .hbm, ⟨19, _⟩ => ⟨S4x2x32x64x64, .f32⟩
  | .hbm, ⟨20, _⟩ => ⟨S4x1x32x64x64, .f32⟩
  | .hbm, ⟨21, _⟩ => ⟨S4x32x64x64, .f32⟩
  | .hbm, ⟨22, _⟩ => ⟨S4x1x32x64x64, .f32⟩
  | .hbm, ⟨23, _⟩ => ⟨S4x32x64x64, .f32⟩
  | .hbm, ⟨24, _⟩ => ⟨S_, .f32⟩
  | .hbm, ⟨25, _⟩ => ⟨S4x32x64x64, .f32⟩
  | .hbm, ⟨26, _⟩ => ⟨S4x32x64x128, .f32⟩
  | .hbm, ⟨27, _⟩ => ⟨S_, .f32⟩
  | .hbm, ⟨28, _⟩ => ⟨S4x32x64x64, .f32⟩
  | .hbm, ⟨29, _⟩ => ⟨S4x32x64x128, .f32⟩
  | .hbm, ⟨30, _⟩ => ⟨S4x32x128x128, .f32⟩
  | .hbm, ⟨31, _⟩ => ⟨S4x32x128x128, .bf16⟩
  | .hbm, ⟨32, _⟩ => ⟨S4x1x64x64, .f32⟩
  | .hbm, ⟨33, _⟩ => ⟨S4x64x64, .f32⟩
  | .hbm, ⟨34, _⟩ => ⟨S4x1x64x64, .f32⟩
  | .hbm, ⟨35, _⟩ => ⟨S4x64x64, .f32⟩
  | .hbm, ⟨36, _⟩ => ⟨S_, .f32⟩
  | .hbm, ⟨37, _⟩ => ⟨S4x64x64, .f32⟩
  | .hbm, ⟨38, _⟩ => ⟨S4x64x128, .f32⟩
  | .hbm, ⟨39, _⟩ => ⟨S_, .f32⟩
  | .hbm, ⟨40, _⟩ => ⟨S4x64x64, .f32⟩
  | .hbm, ⟨41, _⟩ => ⟨S4x64x128, .f32⟩
  | .hbm, ⟨42, _⟩ => ⟨S4x128x128, .f32⟩
  | .hbm, ⟨43, _⟩ => ⟨S4x128x128, .bf16⟩
  | .hbm, ⟨44, _⟩ => ⟨S4x16x1x128, .f32⟩
  | .hbm, ⟨45, _⟩ => ⟨S4x16x1x128, .f32⟩
  | .hbm, ⟨46, _⟩ => ⟨S4x16x128x128, .bf16⟩
  | .hbm, ⟨47, _⟩ => ⟨S4x16x128x128, .bf16⟩
  | .hbm, ⟨48, _⟩ => ⟨S4x64x1, .f32⟩
  | .hbm, ⟨49, _⟩ => ⟨S4x64x256, .f32⟩
  | .hbm, ⟨50, _⟩ => ⟨S4x2x64, .f32⟩
  | .hbm, ⟨51, _⟩ => ⟨S4x1x64, .f32⟩
  | .hbm, ⟨52, _⟩ => ⟨S4x3x64, .f32⟩
  | .hbm, ⟨53, _⟩ => ⟨S16x2048x512, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x64x256, .f32⟩
  | .local _ .vmem, ⟨9, _⟩ => ⟨S1x3x64, .f32⟩
  | .local _ .vmem, ⟨10, _⟩ => ⟨S32x128, .bf16⟩
  | .local _ .vmem, ⟨11, _⟩ => ⟨S2048x64, .bf16⟩
  | .local _ .vmem, ⟨12, _⟩ => ⟨S2048x64, .bf16⟩
  | .local _ .vmem, ⟨13, _⟩ => ⟨S128x64, .bf16⟩
  | .local _ .vmem, ⟨14, _⟩ => ⟨S1x16x1x128, .f32⟩
  | .local _ .vmem, ⟨15, _⟩ => ⟨S1x16x1x128, .f32⟩
  | .local _ .vmem, ⟨16, _⟩ => ⟨S1x16x128x128, .bf16⟩
  | .local _ .vmem, ⟨17, _⟩ => ⟨S1x16x128x128, .bf16⟩
  | .local _ .vmem, ⟨18, _⟩ => ⟨S1x128x128, .bf16⟩
  | .local _ .vmem, ⟨19, _⟩ => ⟨S1x2048x256, .bf16⟩
  | .local _ .vmem, ⟨20, _⟩ => ⟨S1x2048x256, .bf16⟩
  | .local _ .vmem, ⟨21, _⟩ => ⟨S2048x128, .bf16⟩
  | .local _ .vmem, ⟨22, _⟩ => ⟨S2048x128, .bf16⟩
  | .local _ .vmem, ⟨23, _⟩ => ⟨S8x80x256, .bf16⟩
  | .local _ .vmem, ⟨24, _⟩ => ⟨S8x80x256, .bf16⟩
  | .local _ .vmem, ⟨25, _⟩ => ⟨S128x128, .bf16⟩
  | .local _ .vmem, ⟨26, _⟩ => ⟨S64x128, .bf16⟩
  | .local _ .vmem, ⟨27, _⟩ => ⟨S4x128x256, .bf16⟩
  | .local _ .vmem, ⟨28, _⟩ => ⟨S2x256x256, .f32⟩
  | .local _ .vmem, ⟨29, _⟩ => ⟨S4x1x256, .f32⟩
  | .local _ .vmem, ⟨30, _⟩ => ⟨S4x80x256, .f32⟩
  | .local _ .vmem, ⟨31, _⟩ => ⟨S3x4x256x256, .f32⟩
  | .local _ .vmem, ⟨32, _⟩ => ⟨S2x4x256x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_504 : BitVec 32 := 0#32
  let c4_i32 : BitVec 32 := 4#32
  let v595 : BitVec 32 := Scalar.addi c0_i32_504 c4_i32
  let c1_i32 : BitVec 32 := 1#32
  ⟨c0_i32_504, v595, c1_i32⟩
def k0_mult1 (k0_t1 : Fin k0_t1_loop.trips) : BitVec 32 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32 : BitVec 32 := 256#32
  let v597 : BitVec 32 := Scalar.muli v596 c256_i32
  v597
def k0_off1 (k0_t1 : Fin k0_t1_loop.trips) : Fin 3 → Nat :=
  let c0_506 : Index := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32 : BitVec 32 := 256#32
  let v597 : BitVec 32 := Scalar.muli v596 c256_i32
  let v598 : BitVec 32 := v597
  let v599 : Index := Scalar.indexCast v598
  let c0_507 : Index := 0#32
  ![0, v599.toNat, 0]
def k0_off2 (k0_t1 : Fin k0_t1_loop.trips) : Fin 3 → Nat :=
  let c0_508 : Index := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32 : BitVec 32 := 256#32
  let v597 : BitVec 32 := Scalar.muli v596 c256_i32
  let v598 : BitVec 32 := v597
  let v604 : Index := Scalar.indexCast v598
  let c0_509 : Index := 0#32
  ![0, v604.toNat, 0]
def k0_mult2 (k0_t1 : Fin k0_t1_loop.trips) : BitVec 32 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c2_i32_597 : BitVec 32 := 2#32
  let v749 : BitVec 32 := Scalar.subi v596 c2_i32_597
  let c0_i32_598 : BitVec 32 := 0#32
  let v750 : BitVec 32 := Scalar.maxsi v749 c0_i32_598
  let c256_i32_627 : BitVec 32 := 256#32
  let v786 : BitVec 32 := Scalar.muli v750 c256_i32_627
  v786
def k0_off3 (k0_t1 : Fin k0_t1_loop.trips) (c2_i32_597 : BitVec 32) : Fin 2 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let v749 : BitVec 32 := Scalar.subi v596 c2_i32_597
  let c0_i32_598 : BitVec 32 := 0#32
  let v750 : BitVec 32 := Scalar.maxsi v749 c0_i32_598
  let c256_i32_627 : BitVec 32 := 256#32
  let v786 : BitVec 32 := Scalar.muli v750 c256_i32_627
  let v787 : BitVec 32 := v786
  let v788 : Index := Scalar.indexCast v787
  let c0_628 : Index := 0#32
  ![v788.toNat, 0]
def k0_mult3 (k0_t1 : Fin k0_t1_loop.trips) : BitVec 32 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c1_i32_599 : BitVec 32 := 1#32
  let v751 : BitVec 32 := Scalar.subi v596 c1_i32_599
  let c0_i32_600 : BitVec 32 := 0#32
  let v752 : BitVec 32 := Scalar.maxsi v751 c0_i32_600
  let c256_i32_732 : BitVec 32 := 256#32
  let v942 : BitVec 32 := Scalar.muli v752 c256_i32_732
  v942
def k0_mult4 (k0_t1 : Fin k0_t1_loop.trips) : BitVec 32 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32_778 : BitVec 32 := 256#32
  let v978 : BitVec 32 := Scalar.muli v596 c256_i32_778
  v978
def k0_off4 (k0_t1 : Fin k0_t1_loop.trips) : Fin 2 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32_778 : BitVec 32 := 256#32
  let v978 : BitVec 32 := Scalar.muli v596 c256_i32_778
  let v979 : BitVec 32 := v978
  let v980 : Index := Scalar.indexCast v979
  let c0_779 : Index := 0#32
  ![v980.toNat, 0]
def k0_off5 (k0_t1 : Fin k0_t1_loop.trips) (c2_i32_597 : BitVec 32) : Fin 3 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let v749 : BitVec 32 := Scalar.subi v596 c2_i32_597
  let c0_i32_598 : BitVec 32 := 0#32
  let v750 : BitVec 32 := Scalar.maxsi v749 c0_i32_598
  let v1562 : Index := Scalar.indexCast v750
  let c0_992 : Index := 0#32
  let c0_993 : Index := 0#32
  ![v1562.toNat, 0, 0]
def k0_mult5 : BitVec 32 :=
  let c0_i32_1097 : BitVec 32 := 0#32
  c0_i32_1097
def k0_off6 (k0_t1 : Fin k0_t1_loop.trips) : Fin 3 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let v1856 : Index := Scalar.indexCast v596
  let c0_1244 : Index := 0#32
  let c0_1245 : Index := 0#32
  ![v1856.toNat, 0, 0]
@[reducible] def k0_t2_loop (k0_t1 : Fin k0_t1_loop.trips) : Scf.Loop 32 :=
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let c1_i32_1408 : BitVec 32 := 1#32
  ⟨c0_i32_1406, v2091, c1_i32_1408⟩
def k0_mult6 (k0_t1 : Fin k0_t1_loop.trips) (k0_t2 : Fin (k0_t2_loop k0_t1).trips) : BitVec 32 :=
  let c2_i32_2502 : BitVec 32 := 2#32
  let c0_i32_1406 : BitVec 32 := 0#32
  let c1_i32_1408 : BitVec 32 := 1#32
  let arg31 : BitVec 32 := Scf.iv c0_i32_1406 c1_i32_1408 k0_t2
  let v3825 : BitVec 32 := Scalar.muli c2_i32_2502 arg31
  let c1_i32_2503 : BitVec 32 := 1#32
  let v3826 : BitVec 32 := Scalar.addi v3825 c1_i32_2503
  let c256_i32_2504 : BitVec 32 := 256#32
  let v3827 : BitVec 32 := Scalar.muli v3826 c256_i32_2504
  v3827
def k0_off7 (k0_t1 : Fin k0_t1_loop.trips) (k0_t2 : Fin (k0_t2_loop k0_t1).trips) (c1_i32_2503 : BitVec 32) : Fin 2 → Nat :=
  let c2_i32_2502 : BitVec 32 := 2#32
  let c0_i32_1406 : BitVec 32 := 0#32
  let c1_i32_1408 : BitVec 32 := 1#32
  let arg31 : BitVec 32 := Scf.iv c0_i32_1406 c1_i32_1408 k0_t2
  let v3825 : BitVec 32 := Scalar.muli c2_i32_2502 arg31
  let v3826 : BitVec 32 := Scalar.addi v3825 c1_i32_2503
  let c256_i32_2504 : BitVec 32 := 256#32
  let v3827 : BitVec 32 := Scalar.muli v3826 c256_i32_2504
  let v3828 : BitVec 32 := v3827
  let v3829 : Index := Scalar.indexCast v3828
  let c0_2505 : Index := 0#32
  ![v3829.toNat, 0]
def k0_off8 (k0_t1 : Fin k0_t1_loop.trips) (k0_t2 : Fin (k0_t2_loop k0_t1).trips) : Fin 3 → Nat :=
  let c2_i32_2502 : BitVec 32 := 2#32
  let c0_i32_1406 : BitVec 32 := 0#32
  let c1_i32_1408 : BitVec 32 := 1#32
  let arg31 : BitVec 32 := Scf.iv c0_i32_1406 c1_i32_1408 k0_t2
  let v3825 : BitVec 32 := Scalar.muli c2_i32_2502 arg31
  let v3863 : Index := Scalar.indexCast v3825
  let c0_2550 : Index := 0#32
  let c0_2551 : Index := 0#32
  ![v3863.toNat, 0, 0]
def k0_mult7 (k0_t1 : Fin k0_t1_loop.trips) (k0_t2 : Fin (k0_t2_loop k0_t1).trips) : BitVec 32 :=
  let c2_i32_2502 : BitVec 32 := 2#32
  let c0_i32_1406 : BitVec 32 := 0#32
  let c1_i32_1408 : BitVec 32 := 1#32
  let arg31 : BitVec 32 := Scf.iv c0_i32_1406 c1_i32_1408 k0_t2
  let v3825 : BitVec 32 := Scalar.muli c2_i32_2502 arg31
  let c2_i32_2636 : BitVec 32 := 2#32
  let v3974 : BitVec 32 := Scalar.addi v3825 c2_i32_2636
  let c256_i32_2637 : BitVec 32 := 256#32
  let v3975 : BitVec 32 := Scalar.muli v3974 c256_i32_2637
  v3975
def k0_off9 (k0_t1 : Fin k0_t1_loop.trips) (k0_t2 : Fin (k0_t2_loop k0_t1).trips) : Fin 3 → Nat :=
  let c2_i32_2502 : BitVec 32 := 2#32
  let c0_i32_1406 : BitVec 32 := 0#32
  let c1_i32_1408 : BitVec 32 := 1#32
  let arg31 : BitVec 32 := Scf.iv c0_i32_1406 c1_i32_1408 k0_t2
  let v3825 : BitVec 32 := Scalar.muli c2_i32_2502 arg31
  let c1_i32_2683 : BitVec 32 := 1#32
  let v4011 : BitVec 32 := Scalar.addi v3825 c1_i32_2683
  let v4012 : Index := Scalar.indexCast v4011
  let c0_2684 : Index := 0#32
  let c0_2685 : Index := 0#32
  ![v4012.toNat, 0, 0]
@[reducible] def k0_t3_loop (k0_t1 : Fin k0_t1_loop.trips) : Scf.Loop 32 :=
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let v2088 : BitVec 32 := Scalar.addi c0_i32_1406 v2087
  let c1_i32_1409 : BitVec 32 := 1#32
  ⟨v2091, v2088, c1_i32_1409⟩
def k0_mult8 (k0_t1 : Fin k0_t1_loop.trips) (k0_t3 : Fin (k0_t3_loop k0_t1).trips) : BitVec 32 :=
  let c2_i32_2502 : BitVec 32 := 2#32
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let c1_i32_1409 : BitVec 32 := 1#32
  let arg31 : BitVec 32 := Scf.iv v2091 c1_i32_1409 k0_t3
  let v3825 : BitVec 32 := Scalar.muli c2_i32_2502 arg31
  let c1_i32_2503 : BitVec 32 := 1#32
  let v3826 : BitVec 32 := Scalar.addi v3825 c1_i32_2503
  let c256_i32_2504 : BitVec 32 := 256#32
  let v3827 : BitVec 32 := Scalar.muli v3826 c256_i32_2504
  v3827
def k0_off10 (k0_t1 : Fin k0_t1_loop.trips) (k0_t3 : Fin (k0_t3_loop k0_t1).trips) (c1_i32_2503 : BitVec 32) : Fin 2 → Nat :=
  let c2_i32_2502 : BitVec 32 := 2#32
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let c1_i32_1409 : BitVec 32 := 1#32
  let arg31 : BitVec 32 := Scf.iv v2091 c1_i32_1409 k0_t3
  let v3825 : BitVec 32 := Scalar.muli c2_i32_2502 arg31
  let v3826 : BitVec 32 := Scalar.addi v3825 c1_i32_2503
  let c256_i32_2504 : BitVec 32 := 256#32
  let v3827 : BitVec 32 := Scalar.muli v3826 c256_i32_2504
  let v3828 : BitVec 32 := v3827
  let v3829 : Index := Scalar.indexCast v3828
  let c0_2505 : Index := 0#32
  ![v3829.toNat, 0]
def k0_off11 (k0_t1 : Fin k0_t1_loop.trips) (k0_t3 : Fin (k0_t3_loop k0_t1).trips) : Fin 3 → Nat :=
  let c2_i32_2502 : BitVec 32 := 2#32
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let c1_i32_1409 : BitVec 32 := 1#32
  let arg31 : BitVec 32 := Scf.iv v2091 c1_i32_1409 k0_t3
  let v3825 : BitVec 32 := Scalar.muli c2_i32_2502 arg31
  let v3863 : Index := Scalar.indexCast v3825
  let c0_2550 : Index := 0#32
  let c0_2551 : Index := 0#32
  ![v3863.toNat, 0, 0]
def k0_mult9 (k0_t1 : Fin k0_t1_loop.trips) (k0_t3 : Fin (k0_t3_loop k0_t1).trips) : BitVec 32 :=
  let c2_i32_2502 : BitVec 32 := 2#32
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let c1_i32_1409 : BitVec 32 := 1#32
  let arg31 : BitVec 32 := Scf.iv v2091 c1_i32_1409 k0_t3
  let v3825 : BitVec 32 := Scalar.muli c2_i32_2502 arg31
  let c2_i32_2636 : BitVec 32 := 2#32
  let v3974 : BitVec 32 := Scalar.addi v3825 c2_i32_2636
  let c256_i32_2637 : BitVec 32 := 256#32
  let v3975 : BitVec 32 := Scalar.muli v3974 c256_i32_2637
  v3975
def k0_off12 (k0_t1 : Fin k0_t1_loop.trips) (k0_t3 : Fin (k0_t3_loop k0_t1).trips) : Fin 3 → Nat :=
  let c2_i32_2502 : BitVec 32 := 2#32
  let c0_i32_1406 : BitVec 32 := 0#32
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c0_i32_1399 : BitVec 32 := 0#32
  let v2071 : BitVec 1 := Scalar.cmpi .sgt v596 c0_i32_1399
  let v2072 : BitVec 32 := Scalar.extui v2071
  let c0_i32_1400 : BitVec 32 := 0#32
  let v2073 : BitVec 1 := Scalar.cmpi .slt v596 c0_i32_1400
  let v2074 : BitVec 32 := Scalar.extui v2073
  let v2075 : BitVec 32 := Scalar.subi v2072 v2074
  let c2_i32_1398 : BitVec 32 := 2#32
  let c0_i32_1401 : BitVec 32 := 0#32
  let v2076 : BitVec 1 := Scalar.cmpi .sgt c2_i32_1398 c0_i32_1401
  let v2077 : BitVec 32 := Scalar.extui v2076
  let c0_i32_1402 : BitVec 32 := 0#32
  let v2078 : BitVec 1 := Scalar.cmpi .slt c2_i32_1398 c0_i32_1402
  let v2079 : BitVec 32 := Scalar.extui v2078
  let v2080 : BitVec 32 := Scalar.subi v2077 v2079
  let v2081 : BitVec 1 := Scalar.cmpi .ne v2075 v2080
  let v2082 : BitVec 32 := Scalar.remsi v596 c2_i32_1398
  let c0_i32_1403 : BitVec 32 := 0#32
  let v2083 : BitVec 1 := Scalar.cmpi .ne v2082 c0_i32_1403
  let v2084 : BitVec 1 := Scalar.andi v2081 v2083
  let v2070 : BitVec 32 := Scalar.divsi v596 c2_i32_1398
  let c1_i32_1404 : BitVec 32 := 1#32
  let v2085 : BitVec 32 := Scalar.subi v2070 c1_i32_1404
  let v2086 : BitVec 32 := Scalar.select v2084 v2085 v2070
  let v2087 : BitVec 32 := Scalar.subi v2086 c0_i32_1406
  let c1_i32_1407 : BitVec 32 := 1#32
  let v2089 : BitVec 32 := Scalar.divsi v2087 c1_i32_1407
  let v2090 : BitVec 32 := Scalar.muli v2089 c1_i32_1407
  let v2091 : BitVec 32 := Scalar.addi c0_i32_1406 v2090
  let c1_i32_1409 : BitVec 32 := 1#32
  let arg31 : BitVec 32 := Scf.iv v2091 c1_i32_1409 k0_t3
  let v3825 : BitVec 32 := Scalar.muli c2_i32_2502 arg31
  let c1_i32_2683 : BitVec 32 := 1#32
  let v4011 : BitVec 32 := Scalar.addi v3825 c1_i32_2683
  let v4012 : Index := Scalar.indexCast v4011
  let c0_2684 : Index := 0#32
  let c0_2685 : Index := 0#32
  ![v4012.toNat, 0, 0]
def k0_cond1 (k0_t1 : Fin k0_t1_loop.trips) : BitVec 1 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c2_i32_1410 : BitVec 32 := 2#32
  let c0_i32_1411 : BitVec 32 := 0#32
  let v2092 : BitVec 1 := Scalar.cmpi .eq c2_i32_1410 c0_i32_1411
  let c1_i32_1412 : BitVec 32 := 1#32
  let v2093 : BitVec 32 := Scalar.select v2092 c1_i32_1412 c2_i32_1410
  let v2094 : BitVec 32 := Scalar.remsi v596 v2093
  let c0_i32_1414 : BitVec 32 := 0#32
  let v2096 : BitVec 1 := Scalar.cmpi .slt v2094 c0_i32_1414
  let c0_i32_1415 : BitVec 32 := 0#32
  let v2097 : BitVec 1 := Scalar.cmpi .slt v2093 c0_i32_1415
  let v2098 : BitVec 1 := Scalar.xori v2096 v2097
  let c0_i32_1413 : BitVec 32 := 0#32
  let v2095 : BitVec 1 := Scalar.cmpi .ne v2094 c0_i32_1413
  let v2099 : BitVec 1 := Scalar.andi v2098 v2095
  let v2100 : BitVec 32 := Scalar.addi v2094 v2093
  let v2101 : BitVec 32 := Scalar.select v2099 v2100 v2094
  let c0_i32_1416 : BitVec 32 := 0#32
  let v2102 : BitVec 1 := Scalar.cmpi .eq v2101 c0_i32_1416
  let v2103 : BitVec 32 := Scalar.extui v2102
  let c0_i32_1417 : BitVec 32 := 0#32
  let v2104 : BitVec 1 := Scalar.cmpi .ne v2103 c0_i32_1417
  v2104

def k0_off13 (k0_t1 : Fin k0_t1_loop.trips) : Fin 3 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let v3825 : Index := Scalar.indexCast v596
  let c0_2502 : Index := 0#32
  let c0_2503 : Index := 0#32
  ![v3825.toNat, 0, 0]
def k0_cond2 (k0_t1 : Fin k0_t1_loop.trips) : BitVec 1 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c2_i32_1418 : BitVec 32 := 2#32
  let c0_i32_1419 : BitVec 32 := 0#32
  let v2105 : BitVec 1 := Scalar.cmpi .eq c2_i32_1418 c0_i32_1419
  let c1_i32_1420 : BitVec 32 := 1#32
  let v2106 : BitVec 32 := Scalar.select v2105 c1_i32_1420 c2_i32_1418
  let v2107 : BitVec 32 := Scalar.remsi v596 v2106
  let c0_i32_1422 : BitVec 32 := 0#32
  let v2109 : BitVec 1 := Scalar.cmpi .slt v2107 c0_i32_1422
  let c0_i32_1423 : BitVec 32 := 0#32
  let v2110 : BitVec 1 := Scalar.cmpi .slt v2106 c0_i32_1423
  let v2111 : BitVec 1 := Scalar.xori v2109 v2110
  let c0_i32_1421 : BitVec 32 := 0#32
  let v2108 : BitVec 1 := Scalar.cmpi .ne v2107 c0_i32_1421
  let v2112 : BitVec 1 := Scalar.andi v2111 v2108
  let v2113 : BitVec 32 := Scalar.addi v2107 v2106
  let v2114 : BitVec 32 := Scalar.select v2112 v2113 v2107
  let c1_i32_1424 : BitVec 32 := 1#32
  let v2115 : BitVec 1 := Scalar.cmpi .eq v2114 c1_i32_1424
  let v2116 : BitVec 32 := Scalar.extui v2115
  let c0_i32_1425 : BitVec 32 := 0#32
  let v2117 : BitVec 1 := Scalar.cmpi .ne v2116 c0_i32_1425
  v2117

def k0_mult10 (k0_t1 : Fin k0_t1_loop.trips) : BitVec 32 :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32_2502 : BitVec 32 := 256#32
  let v3825 : BitVec 32 := Scalar.muli v596 c256_i32_2502
  v3825
def k0_off14 (k0_t1 : Fin k0_t1_loop.trips) : Fin 2 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c256_i32_2502 : BitVec 32 := 256#32
  let v3825 : BitVec 32 := Scalar.muli v596 c256_i32_2502
  let v3826 : BitVec 32 := v3825
  let v3827 : Index := Scalar.indexCast v3826
  let c0_2503 : Index := 0#32
  ![v3827.toNat, 0]
def k0_off15 (k0_t1 : Fin k0_t1_loop.trips) : Fin 3 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let c1_i32_2548 : BitVec 32 := 1#32
  let v3861 : BitVec 32 := Scalar.subi v596 c1_i32_2548
  let v3862 : Index := Scalar.indexCast v3861
  let c0_2549 : Index := 0#32
  let c0_2550 : Index := 0#32
  ![v3862.toNat, 0, 0]
def k0_off16 (k0_t1 : Fin k0_t1_loop.trips) : Fin 3 → Nat :=
  let c2_i32 : BitVec 32 := 2#32
  let c0_i32_504 : BitVec 32 := 0#32
  let c1_i32 : BitVec 32 := 1#32
  let arg30 : BitVec 32 := Scf.iv c0_i32_504 c1_i32 k0_t1
  let v596 : BitVec 32 := Scalar.muli c2_i32 arg30
  let v3973 : Index := Scalar.indexCast v596
  let c0_2635 : Index := 0#32
  let c0_2636 : Index := 0#32
  ![v3973.toNat, 0, 0]
def k0_mult11 (k0_t1 : Fin k0_t1_loop.trips) : BitVec 32 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_1489 : BitVec 32 := 256#32
  let v2212 : BitVec 32 := Scalar.muli v2211 c256_i32_1489
  v2212
def k0_off17 (k0_t1 : Fin k0_t1_loop.trips) : Fin 3 → Nat :=
  let c0_1490 : Index := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_1489 : BitVec 32 := 256#32
  let v2212 : BitVec 32 := Scalar.muli v2211 c256_i32_1489
  let v2213 : BitVec 32 := v2212
  let v2214 : Index := Scalar.indexCast v2213
  let c0_1491 : Index := 0#32
  ![0, v2214.toNat, 0]
def k0_off18 (k0_t1 : Fin k0_t1_loop.trips) : Fin 3 → Nat :=
  let c0_1492 : Index := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_1489 : BitVec 32 := 256#32
  let v2212 : BitVec 32 := Scalar.muli v2211 c256_i32_1489
  let v2213 : BitVec 32 := v2212
  let v2219 : Index := Scalar.indexCast v2213
  let c0_1493 : Index := 0#32
  ![0, v2219.toNat, 0]
def k0_mult12 (k0_t1 : Fin k0_t1_loop.trips) : BitVec 32 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c2_i32_1582 : BitVec 32 := 2#32
  let v2364 : BitVec 32 := Scalar.subi v2211 c2_i32_1582
  let c0_i32_1583 : BitVec 32 := 0#32
  let v2365 : BitVec 32 := Scalar.maxsi v2364 c0_i32_1583
  let c256_i32_1614 : BitVec 32 := 256#32
  let v2401 : BitVec 32 := Scalar.muli v2365 c256_i32_1614
  v2401
def k0_off19 (k0_t1 : Fin k0_t1_loop.trips) (c2_i32_1582 : BitVec 32) : Fin 2 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let v2364 : BitVec 32 := Scalar.subi v2211 c2_i32_1582
  let c0_i32_1583 : BitVec 32 := 0#32
  let v2365 : BitVec 32 := Scalar.maxsi v2364 c0_i32_1583
  let c256_i32_1614 : BitVec 32 := 256#32
  let v2401 : BitVec 32 := Scalar.muli v2365 c256_i32_1614
  let v2402 : BitVec 32 := v2401
  let v2403 : Index := Scalar.indexCast v2402
  let c0_1615 : Index := 0#32
  ![v2403.toNat, 0]
def k0_mult13 (k0_t1 : Fin k0_t1_loop.trips) : BitVec 32 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c1_i32_1584 : BitVec 32 := 1#32
  let v2366 : BitVec 32 := Scalar.subi v2211 c1_i32_1584
  let c0_i32_1585 : BitVec 32 := 0#32
  let v2367 : BitVec 32 := Scalar.maxsi v2366 c0_i32_1585
  let c256_i32_1720 : BitVec 32 := 256#32
  let v2557 : BitVec 32 := Scalar.muli v2367 c256_i32_1720
  v2557
def k0_mult14 (k0_t1 : Fin k0_t1_loop.trips) : BitVec 32 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_1766 : BitVec 32 := 256#32
  let v2593 : BitVec 32 := Scalar.muli v2211 c256_i32_1766
  v2593
def k0_off20 (k0_t1 : Fin k0_t1_loop.trips) : Fin 2 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_1766 : BitVec 32 := 256#32
  let v2593 : BitVec 32 := Scalar.muli v2211 c256_i32_1766
  let v2594 : BitVec 32 := v2593
  let v2595 : Index := Scalar.indexCast v2594
  let c0_1767 : Index := 0#32
  ![v2595.toNat, 0]
def k0_off21 (k0_t1 : Fin k0_t1_loop.trips) (c2_i32_1582 : BitVec 32) : Fin 3 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let v2364 : BitVec 32 := Scalar.subi v2211 c2_i32_1582
  let c0_i32_1583 : BitVec 32 := 0#32
  let v2365 : BitVec 32 := Scalar.maxsi v2364 c0_i32_1583
  let v3177 : Index := Scalar.indexCast v2365
  let c0_2007 : Index := 0#32
  let c0_2008 : Index := 0#32
  ![v3177.toNat, 0, 0]
def k0_mult15 : BitVec 32 :=
  let c0_i32_2112 : BitVec 32 := 0#32
  c0_i32_2112
def k0_off22 (k0_t1 : Fin k0_t1_loop.trips) : Fin 3 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let v3471 : Index := Scalar.indexCast v2211
  let c0_2259 : Index := 0#32
  let c0_2260 : Index := 0#32
  ![v3471.toNat, 0, 0]
@[reducible] def k0_t4_loop (k0_t1 : Fin k0_t1_loop.trips) : Scf.Loop 32 :=
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let c1_i32_2423 : BitVec 32 := 1#32
  ⟨c0_i32_2421, v3706, c1_i32_2423⟩
def k0_mult16 (k0_t1 : Fin k0_t1_loop.trips) (k0_t4 : Fin (k0_t4_loop k0_t1).trips) : BitVec 32 :=
  let c2_i32_2502 : BitVec 32 := 2#32
  let c0_i32_2421 : BitVec 32 := 0#32
  let c1_i32_2423 : BitVec 32 := 1#32
  let arg31 : BitVec 32 := Scf.iv c0_i32_2421 c1_i32_2423 k0_t4
  let v3825 : BitVec 32 := Scalar.muli c2_i32_2502 arg31
  let c1_i32_2503 : BitVec 32 := 1#32
  let v3826 : BitVec 32 := Scalar.addi v3825 c1_i32_2503
  let c256_i32_2504 : BitVec 32 := 256#32
  let v3827 : BitVec 32 := Scalar.muli v3826 c256_i32_2504
  v3827
def k0_off23 (k0_t1 : Fin k0_t1_loop.trips) (k0_t4 : Fin (k0_t4_loop k0_t1).trips) (c1_i32_2503 : BitVec 32) : Fin 2 → Nat :=
  let c2_i32_2502 : BitVec 32 := 2#32
  let c0_i32_2421 : BitVec 32 := 0#32
  let c1_i32_2423 : BitVec 32 := 1#32
  let arg31 : BitVec 32 := Scf.iv c0_i32_2421 c1_i32_2423 k0_t4
  let v3825 : BitVec 32 := Scalar.muli c2_i32_2502 arg31
  let v3826 : BitVec 32 := Scalar.addi v3825 c1_i32_2503
  let c256_i32_2504 : BitVec 32 := 256#32
  let v3827 : BitVec 32 := Scalar.muli v3826 c256_i32_2504
  let v3828 : BitVec 32 := v3827
  let v3829 : Index := Scalar.indexCast v3828
  let c0_2505 : Index := 0#32
  ![v3829.toNat, 0]
def k0_off24 (k0_t1 : Fin k0_t1_loop.trips) (k0_t4 : Fin (k0_t4_loop k0_t1).trips) : Fin 3 → Nat :=
  let c2_i32_2502 : BitVec 32 := 2#32
  let c0_i32_2421 : BitVec 32 := 0#32
  let c1_i32_2423 : BitVec 32 := 1#32
  let arg31 : BitVec 32 := Scf.iv c0_i32_2421 c1_i32_2423 k0_t4
  let v3825 : BitVec 32 := Scalar.muli c2_i32_2502 arg31
  let v3863 : Index := Scalar.indexCast v3825
  let c0_2550 : Index := 0#32
  let c0_2551 : Index := 0#32
  ![v3863.toNat, 0, 0]
def k0_mult17 (k0_t1 : Fin k0_t1_loop.trips) (k0_t4 : Fin (k0_t4_loop k0_t1).trips) : BitVec 32 :=
  let c2_i32_2502 : BitVec 32 := 2#32
  let c0_i32_2421 : BitVec 32 := 0#32
  let c1_i32_2423 : BitVec 32 := 1#32
  let arg31 : BitVec 32 := Scf.iv c0_i32_2421 c1_i32_2423 k0_t4
  let v3825 : BitVec 32 := Scalar.muli c2_i32_2502 arg31
  let c2_i32_2636 : BitVec 32 := 2#32
  let v3974 : BitVec 32 := Scalar.addi v3825 c2_i32_2636
  let c256_i32_2637 : BitVec 32 := 256#32
  let v3975 : BitVec 32 := Scalar.muli v3974 c256_i32_2637
  v3975
def k0_off25 (k0_t1 : Fin k0_t1_loop.trips) (k0_t4 : Fin (k0_t4_loop k0_t1).trips) : Fin 3 → Nat :=
  let c2_i32_2502 : BitVec 32 := 2#32
  let c0_i32_2421 : BitVec 32 := 0#32
  let c1_i32_2423 : BitVec 32 := 1#32
  let arg31 : BitVec 32 := Scf.iv c0_i32_2421 c1_i32_2423 k0_t4
  let v3825 : BitVec 32 := Scalar.muli c2_i32_2502 arg31
  let c1_i32_2683 : BitVec 32 := 1#32
  let v4011 : BitVec 32 := Scalar.addi v3825 c1_i32_2683
  let v4012 : Index := Scalar.indexCast v4011
  let c0_2684 : Index := 0#32
  let c0_2685 : Index := 0#32
  ![v4012.toNat, 0, 0]
@[reducible] def k0_t5_loop (k0_t1 : Fin k0_t1_loop.trips) : Scf.Loop 32 :=
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let v3703 : BitVec 32 := Scalar.addi c0_i32_2421 v3702
  let c1_i32_2424 : BitVec 32 := 1#32
  ⟨v3706, v3703, c1_i32_2424⟩
def k0_mult18 (k0_t1 : Fin k0_t1_loop.trips) (k0_t5 : Fin (k0_t5_loop k0_t1).trips) : BitVec 32 :=
  let c2_i32_2502 : BitVec 32 := 2#32
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let c1_i32_2424 : BitVec 32 := 1#32
  let arg31 : BitVec 32 := Scf.iv v3706 c1_i32_2424 k0_t5
  let v3825 : BitVec 32 := Scalar.muli c2_i32_2502 arg31
  let c1_i32_2503 : BitVec 32 := 1#32
  let v3826 : BitVec 32 := Scalar.addi v3825 c1_i32_2503
  let c256_i32_2504 : BitVec 32 := 256#32
  let v3827 : BitVec 32 := Scalar.muli v3826 c256_i32_2504
  v3827
def k0_off26 (k0_t1 : Fin k0_t1_loop.trips) (k0_t5 : Fin (k0_t5_loop k0_t1).trips) (c1_i32_2503 : BitVec 32) : Fin 2 → Nat :=
  let c2_i32_2502 : BitVec 32 := 2#32
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let c1_i32_2424 : BitVec 32 := 1#32
  let arg31 : BitVec 32 := Scf.iv v3706 c1_i32_2424 k0_t5
  let v3825 : BitVec 32 := Scalar.muli c2_i32_2502 arg31
  let v3826 : BitVec 32 := Scalar.addi v3825 c1_i32_2503
  let c256_i32_2504 : BitVec 32 := 256#32
  let v3827 : BitVec 32 := Scalar.muli v3826 c256_i32_2504
  let v3828 : BitVec 32 := v3827
  let v3829 : Index := Scalar.indexCast v3828
  let c0_2505 : Index := 0#32
  ![v3829.toNat, 0]
def k0_off27 (k0_t1 : Fin k0_t1_loop.trips) (k0_t5 : Fin (k0_t5_loop k0_t1).trips) : Fin 3 → Nat :=
  let c2_i32_2502 : BitVec 32 := 2#32
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let c1_i32_2424 : BitVec 32 := 1#32
  let arg31 : BitVec 32 := Scf.iv v3706 c1_i32_2424 k0_t5
  let v3825 : BitVec 32 := Scalar.muli c2_i32_2502 arg31
  let v3863 : Index := Scalar.indexCast v3825
  let c0_2550 : Index := 0#32
  let c0_2551 : Index := 0#32
  ![v3863.toNat, 0, 0]
def k0_mult19 (k0_t1 : Fin k0_t1_loop.trips) (k0_t5 : Fin (k0_t5_loop k0_t1).trips) : BitVec 32 :=
  let c2_i32_2502 : BitVec 32 := 2#32
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let c1_i32_2424 : BitVec 32 := 1#32
  let arg31 : BitVec 32 := Scf.iv v3706 c1_i32_2424 k0_t5
  let v3825 : BitVec 32 := Scalar.muli c2_i32_2502 arg31
  let c2_i32_2636 : BitVec 32 := 2#32
  let v3974 : BitVec 32 := Scalar.addi v3825 c2_i32_2636
  let c256_i32_2637 : BitVec 32 := 256#32
  let v3975 : BitVec 32 := Scalar.muli v3974 c256_i32_2637
  v3975
def k0_off28 (k0_t1 : Fin k0_t1_loop.trips) (k0_t5 : Fin (k0_t5_loop k0_t1).trips) : Fin 3 → Nat :=
  let c2_i32_2502 : BitVec 32 := 2#32
  let c0_i32_2421 : BitVec 32 := 0#32
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c0_i32_2414 : BitVec 32 := 0#32
  let v3686 : BitVec 1 := Scalar.cmpi .sgt v2211 c0_i32_2414
  let v3687 : BitVec 32 := Scalar.extui v3686
  let c0_i32_2415 : BitVec 32 := 0#32
  let v3688 : BitVec 1 := Scalar.cmpi .slt v2211 c0_i32_2415
  let v3689 : BitVec 32 := Scalar.extui v3688
  let v3690 : BitVec 32 := Scalar.subi v3687 v3689
  let c2_i32_2413 : BitVec 32 := 2#32
  let c0_i32_2416 : BitVec 32 := 0#32
  let v3691 : BitVec 1 := Scalar.cmpi .sgt c2_i32_2413 c0_i32_2416
  let v3692 : BitVec 32 := Scalar.extui v3691
  let c0_i32_2417 : BitVec 32 := 0#32
  let v3693 : BitVec 1 := Scalar.cmpi .slt c2_i32_2413 c0_i32_2417
  let v3694 : BitVec 32 := Scalar.extui v3693
  let v3695 : BitVec 32 := Scalar.subi v3692 v3694
  let v3696 : BitVec 1 := Scalar.cmpi .ne v3690 v3695
  let v3697 : BitVec 32 := Scalar.remsi v2211 c2_i32_2413
  let c0_i32_2418 : BitVec 32 := 0#32
  let v3698 : BitVec 1 := Scalar.cmpi .ne v3697 c0_i32_2418
  let v3699 : BitVec 1 := Scalar.andi v3696 v3698
  let v3685 : BitVec 32 := Scalar.divsi v2211 c2_i32_2413
  let c1_i32_2419 : BitVec 32 := 1#32
  let v3700 : BitVec 32 := Scalar.subi v3685 c1_i32_2419
  let v3701 : BitVec 32 := Scalar.select v3699 v3700 v3685
  let v3702 : BitVec 32 := Scalar.subi v3701 c0_i32_2421
  let c1_i32_2422 : BitVec 32 := 1#32
  let v3704 : BitVec 32 := Scalar.divsi v3702 c1_i32_2422
  let v3705 : BitVec 32 := Scalar.muli v3704 c1_i32_2422
  let v3706 : BitVec 32 := Scalar.addi c0_i32_2421 v3705
  let c1_i32_2424 : BitVec 32 := 1#32
  let arg31 : BitVec 32 := Scf.iv v3706 c1_i32_2424 k0_t5
  let v3825 : BitVec 32 := Scalar.muli c2_i32_2502 arg31
  let c1_i32_2683 : BitVec 32 := 1#32
  let v4011 : BitVec 32 := Scalar.addi v3825 c1_i32_2683
  let v4012 : Index := Scalar.indexCast v4011
  let c0_2684 : Index := 0#32
  let c0_2685 : Index := 0#32
  ![v4012.toNat, 0, 0]
def k0_cond3 (k0_t1 : Fin k0_t1_loop.trips) : BitVec 1 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c2_i32_2425 : BitVec 32 := 2#32
  let c0_i32_2426 : BitVec 32 := 0#32
  let v3707 : BitVec 1 := Scalar.cmpi .eq c2_i32_2425 c0_i32_2426
  let c1_i32_2427 : BitVec 32 := 1#32
  let v3708 : BitVec 32 := Scalar.select v3707 c1_i32_2427 c2_i32_2425
  let v3709 : BitVec 32 := Scalar.remsi v2211 v3708
  let c0_i32_2429 : BitVec 32 := 0#32
  let v3711 : BitVec 1 := Scalar.cmpi .slt v3709 c0_i32_2429
  let c0_i32_2430 : BitVec 32 := 0#32
  let v3712 : BitVec 1 := Scalar.cmpi .slt v3708 c0_i32_2430
  let v3713 : BitVec 1 := Scalar.xori v3711 v3712
  let c0_i32_2428 : BitVec 32 := 0#32
  let v3710 : BitVec 1 := Scalar.cmpi .ne v3709 c0_i32_2428
  let v3714 : BitVec 1 := Scalar.andi v3713 v3710
  let v3715 : BitVec 32 := Scalar.addi v3709 v3708
  let v3716 : BitVec 32 := Scalar.select v3714 v3715 v3709
  let c0_i32_2431 : BitVec 32 := 0#32
  let v3717 : BitVec 1 := Scalar.cmpi .eq v3716 c0_i32_2431
  let v3718 : BitVec 32 := Scalar.extui v3717
  let c0_i32_2432 : BitVec 32 := 0#32
  let v3719 : BitVec 1 := Scalar.cmpi .ne v3718 c0_i32_2432
  v3719

def k0_off29 (k0_t1 : Fin k0_t1_loop.trips) : Fin 3 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let v3825 : Index := Scalar.indexCast v2211
  let c0_2502 : Index := 0#32
  let c0_2503 : Index := 0#32
  ![v3825.toNat, 0, 0]
def k0_cond4 (k0_t1 : Fin k0_t1_loop.trips) : BitVec 1 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c2_i32_2433 : BitVec 32 := 2#32
  let c0_i32_2434 : BitVec 32 := 0#32
  let v3720 : BitVec 1 := Scalar.cmpi .eq c2_i32_2433 c0_i32_2434
  let c1_i32_2435 : BitVec 32 := 1#32
  let v3721 : BitVec 32 := Scalar.select v3720 c1_i32_2435 c2_i32_2433
  let v3722 : BitVec 32 := Scalar.remsi v2211 v3721
  let c0_i32_2437 : BitVec 32 := 0#32
  let v3724 : BitVec 1 := Scalar.cmpi .slt v3722 c0_i32_2437
  let c0_i32_2438 : BitVec 32 := 0#32
  let v3725 : BitVec 1 := Scalar.cmpi .slt v3721 c0_i32_2438
  let v3726 : BitVec 1 := Scalar.xori v3724 v3725
  let c0_i32_2436 : BitVec 32 := 0#32
  let v3723 : BitVec 1 := Scalar.cmpi .ne v3722 c0_i32_2436
  let v3727 : BitVec 1 := Scalar.andi v3726 v3723
  let v3728 : BitVec 32 := Scalar.addi v3722 v3721
  let v3729 : BitVec 32 := Scalar.select v3727 v3728 v3722
  let c1_i32_2439 : BitVec 32 := 1#32
  let v3730 : BitVec 1 := Scalar.cmpi .eq v3729 c1_i32_2439
  let v3731 : BitVec 32 := Scalar.extui v3730
  let c0_i32_2440 : BitVec 32 := 0#32
  let v3732 : BitVec 1 := Scalar.cmpi .ne v3731 c0_i32_2440
  v3732

def k0_mult20 (k0_t1 : Fin k0_t1_loop.trips) : BitVec 32 :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_2502 : BitVec 32 := 256#32
  let v3825 : BitVec 32 := Scalar.muli v2211 c256_i32_2502
  v3825
def k0_off30 (k0_t1 : Fin k0_t1_loop.trips) : Fin 2 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c256_i32_2502 : BitVec 32 := 256#32
  let v3825 : BitVec 32 := Scalar.muli v2211 c256_i32_2502
  let v3826 : BitVec 32 := v3825
  let v3827 : Index := Scalar.indexCast v3826
  let c0_2503 : Index := 0#32
  ![v3827.toNat, 0]
def k0_off31 (k0_t1 : Fin k0_t1_loop.trips) : Fin 3 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let c1_i32_2548 : BitVec 32 := 1#32
  let v3861 : BitVec 32 := Scalar.subi v2211 c1_i32_2548
  let v3862 : Index := Scalar.indexCast v3861
  let c0_2549 : Index := 0#32
  let c0_2550 : Index := 0#32
  ![v3862.toNat, 0, 0]
def k0_off32 (k0_t1 : Fin k0_t1_loop.trips) : Fin 3 → Nat :=
  let c2_i32_1487 : BitVec 32 := 2#32
  let c0_i32_504 : BitVec 32 := 0#32
  let c1_i32 : BitVec 32 := 1#32
  let arg30 : BitVec 32 := Scf.iv c0_i32_504 c1_i32 k0_t1
  let v2210 : BitVec 32 := Scalar.muli c2_i32_1487 arg30
  let c1_i32_1488 : BitVec 32 := 1#32
  let v2211 : BitVec 32 := Scalar.addi v2210 c1_i32_1488
  let v3973 : Index := Scalar.indexCast v2211
  let c0_2635 : Index := 0#32
  let c0_2636 : Index := 0#32
  ![v3973.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x16x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x16x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x16x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x16x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Proof.SafeRun.lean ====
/- A program that only loads from and stores to buffers it owns runs to its end and hands the same
   ownership back, whatever it stores. `Kept h p` says so of the program `p` and the resource of the
   holder `h`; it is closed under sequence, counted loops and branches, and a load or a store has it
   as soon as the resource lends the buffer out. -/
module

public import Idealize.ShloMosaic.Lib.Scf
public import Idealize.ShloMosaic.Lib.Tactic
public import Idealize.ShloMosaic.Lib.Memref

@[expose] public section

noncomputable section

namespace Cert.SafeRun

open Idealize.ShloMosaic Idealize.ShloMosaic.TcCoe
open Idealize.SL Idealize.SL.RA Idealize.SL.Sem Idealize.SL.ProofMode Idealize.SL.BI
open scoped Idealize.SL.BI
open Idealize.SL.BI.BIBase Idealize.SL.BI.Laws

/-- A TensorCore that runs programs, the functions it may call, and the resource it holds meanwhile. -/
structure Holder (nD : Nat) (τ : Topo) (sig : RefSig) (Ix : Type) [DecidableEq Ix] (Val : EltTy → Type) (Name : Type) [DecidableEq Name]
    (U : Type) [URA U] (Lvl : Type) [Preorder Lvl] (Λ : Labels) where
  defs : Defs nD τ sig Val Λ
  vars : Variants
  dev : Dev nD
  mask : Set Name
  res : sProp (MT nD τ sig Ix Val Name U Lvl)

variable {nD : Nat} {τ : Topo} {sig : RefSig} {Ix : Type} [DecidableEq Ix]
variable {Val : EltTy → Type} {Name : Type} [DecidableEq Name]
variable {U : Type} [URA U]
variable {Lvl : Type} [Preorder Lvl] {Λ : Labels}
variable (h : Holder nD τ sig Ix Val Name U Lvl Λ)

/-- `A` lends the buffer at `ℓ` out for reading: some share of it, given back unchanged. -/
def LendsOf (_ : Holder nD τ sig Ix Val Name U Lvl Λ) (A : sProp (MT nD τ sig Ix Val Name U Lvl)) (ℓ : Loc nD τ sig) : Prop :=
  A ⊢ iprop(∃ (q : PosShare TreeShare) (f : Buf Val ℓ), (ℓ ↦{q} f) ∗ ((ℓ ↦{q} f) -∗ A))

/-- `A` lends the buffer at `ℓ` out for writing: the whole of it, given back at any contents. -/
def YieldsOf (_ : Holder nD τ sig Ix Val Name U Lvl Λ) (A : sProp (MT nD τ sig Ix Val Name U Lvl)) (ℓ : Loc nD τ sig) : Prop :=
  A ⊢ iprop(∃ (f : Buf Val ℓ), (ℓ ↦{fullShare} f) ∗ (∀ g, (ℓ ↦{fullShare} g) -∗ A))

/-- The holder's resource lends the buffer at `ℓ` out for reading. -/
abbrev Lends (ℓ : Loc nD τ sig) : Prop := LendsOf h h.res ℓ

/-- The holder's resource lends the buffer at `ℓ` out for writing. -/
abbrev Yields (ℓ : Loc nD τ sig) : Prop := YieldsOf h h.res ℓ

variable {h} {A B : sProp (MT nD τ sig Ix Val Name U Lvl)}

theorem YieldsOf.lends {ℓ : Loc nD τ sig} (y : YieldsOf h A ℓ) : LendsOf h A ℓ := by
  unfold YieldsOf at y; unfold LendsOf
  refine y.trans ?_
  iintro ⟨%f, Hf, Hk⟩
  iexists fullShare, f
  isplitl [Hf]
  · iexact Hf
  iintro Hf
  iapply Hk
  iexact Hf

theorem LendsOf.left {ℓ : Loc nD τ sig} (y : LendsOf h A ℓ) : LendsOf h iprop(A ∗ B) ℓ := by
  unfold LendsOf at *
  iintro ⟨HA, HB⟩
  icases y $$ HA with ⟨%q, %f, Hf, Hk⟩
  iexists q, f
  isplitl [Hf]
  · iexact Hf
  iintro Hf
  isplitl [Hf Hk]
  · iapply Hk; iexact Hf
  iexact HB

theorem LendsOf.right {ℓ : Loc nD τ sig} (y : LendsOf h B ℓ) : LendsOf h iprop(A ∗ B) ℓ := by
  unfold LendsOf at *
  iintro ⟨HA, HB⟩
  icases y $$ HB with ⟨%q, %f, Hf, Hk⟩
  iexists q, f
  isplitl [Hf]
  · iexact Hf
  iintro Hf
  isplitl [HA]
  · iexact HA
  iapply Hk; iexact Hf

theorem YieldsOf.left {ℓ : Loc nD τ sig} (y : YieldsOf h A ℓ) : YieldsOf h iprop(A ∗ B) ℓ := by
  unfold YieldsOf at *
  iintro ⟨HA, HB⟩
  icases y $$ HA with ⟨%f, Hf, Hk⟩
  iexists f
  isplitl [Hf]
  · iexact Hf
  iintro %g Hf
  isplitl [Hf Hk]
  · iapply Hk; iexact Hf
  iexact HB

theorem YieldsOf.right {ℓ : Loc nD τ sig} (y : YieldsOf h B ℓ) : YieldsOf h iprop(A ∗ B) ℓ := by
  unfold YieldsOf at *
  iintro ⟨HA, HB⟩
  icases y $$ HB with ⟨%f, Hf, Hk⟩
  iexists f
  isplitl [Hf]
  · iexact Hf
  iintro %g Hf
  isplitl [HA]
  · iexact HA
  iapply Hk; iexact Hf

/-- A buffer owned at some contents can be written. -/
theorem yieldsOf_buffer (ℓ : Loc nD τ sig) : YieldsOf h iprop(∃ f : Buf Val ℓ, ℓ ↦{fullShare} f) ℓ := by
  unfold YieldsOf
  iintro ⟨%f, Hf⟩
  iexists f
  isplitl [Hf]
  · iexact Hf
  iintro %g Hg
  iexists g
  iexact Hg

/-- A whole operand owned at named contents can be read. -/
theorem lendsOf_operand {sp : Space} {s : Shape} {e : EltTy} {m : Memref sig .tc sp s e} (hm : m.IsWhole) (q : PosShare TreeShare)
    (X : s.Idx → Val e) : LendsOf h (owns (h.dev : Thread nD τ) m q X) (m.view.loc (h.dev : Thread nD τ)) := by
  unfold LendsOf owns
  rw [hm.set_eq_univ]
  iintro ⟨%f, %hf, Hf⟩
  iexists q, f
  isplitl [Hf]
  · iexact Hf
  iintro Hf
  iexists f
  isplitr
  · ipureintro; exact hf
  iexact Hf

/-- A whole operand owned at some contents can be written. -/
theorem yieldsOf_operand {sp : Space} {s : Shape} {e : EltTy} {m : Memref sig .tc sp s e} (hm : m.IsWhole) :
    YieldsOf h iprop(∃ X, owns (h.dev : Thread nD τ) m fullShare X) (m.view.loc (h.dev : Thread nD τ)) := by
  unfold YieldsOf owns
  rw [hm.set_eq_univ]
  iintro ⟨%X, %f, %hf, Hf⟩
  iexists f
  isplitl [Hf]
  · iexact Hf
  iintro %g Hg
  iexists (m.view.read Val g), g
  isplitr
  · ipureintro; rfl
  iexact Hg

variable (h) in
/-- From the resource the program runs to its end and leaves the resource. -/
def Kept {α : Type} (p : Prog (TpuEff nD τ sig Val Λ .tc) α) : Prop :=
  h.res ⊢ wp frame (wpE h.defs h.vars (h.dev : Thread nD τ) none) h.mask p (fun _ => h.res)

variable {α β : Type}

theorem kept_pure (a : α) : Kept h (pure a) := by
  unfold Kept
  rw [show (pure a : Prog (TpuEff nD τ sig Val Λ .tc) α) = .ret a from rfl, wp_ret]
  exact fupd_intro

theorem kept_bind {p : Prog (TpuEff nD τ sig Val Λ .tc) α} {k : α → Prog (TpuEff nD τ sig Val Λ .tc) β}
    (hp : Kept h p) (hk : ∀ a, Kept h (k a)) : Kept h (p >>= k) := by
  unfold Kept at *
  rw [wp_bind]
  exact hp.trans (wp_mono _ _ _ fun a => hk a)

theorem kept_dite {P : Prop} [Decidable P] {p : P → Prog (TpuEff nD τ sig Val Λ .tc) α} {p' : ¬ P → Prog (TpuEff nD τ sig Val Λ .tc) α}
    (hp : ∀ x, Kept h (p x)) (hp' : ∀ x, Kept h (p' x)) : Kept h (dite P p p') := by
  by_cases x : P
  · rw [dif_pos x]; exact hp x
  · rw [dif_neg x]; exact hp' x

theorem kept_for {w : Nat} {σ : Type} {l : Scf.Loop w} {hok : l.OK} {init : σ}
    {body : Fin l.trips → σ → Prog (TpuEff nD τ sig Val Λ .tc) σ}
    (hb : ∀ k acc, Kept h (body k acc)) : Kept h (Scf.Loop.for l hok init body) := by
  unfold Kept at *
  refine BI.BIBase.Entails.trans ?_ (Scf.wp_for _ _ _ l.lb l.ub l.st hok init body (fun _ _ => h.res) (fun k acc => hb k acc))
  iintro H
  isplitl [H]
  · iexact H
  iintro %acc H
  iexact H

theorem kept_load {cs : CoreSpace} {s : Shape} {e : EltTy} {m : Memref sig .tc cs s e} {r : LoadRect s} {hl : m.view.LoadsAt r}
    (hm : Lends h (m.view.loc (h.dev : Thread nD τ))) : Kept h (Prog.lift (.load m r hl)) := by
  unfold Kept; unfold Lends LendsOf at hm
  refine hm.trans ?_
  iintro ⟨%q, %f, Hf, Hk⟩
  iapply (wp_load h.vars (h.dev : Thread nD τ) none h.mask (Finset.subset_univ _)) $$ Hf
  iintro Hf
  rw [wp_ret]
  iapply fupd_intro
  iapply Hk
  iexact Hf

theorem kept_store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (hy : Yields h (m.view.loc (h.dev : Thread nD τ))) : Kept h (Prog.lift (.store m r w Mk hx hm)) := by
  unfold Kept; unfold Yields YieldsOf at hy
  refine hy.trans ?_
  iintro ⟨%f, Hf, Hk⟩
  iapply (wp_store h.vars (h.dev : Thread nD τ) none h.mask (m := m) (r := r) (f := f) (Finset.subset_univ _)) $$ Hf
  iintro Hf
  rw [wp_ret]
  iapply fupd_intro
  iapply Hk
  iexact Hf

end Cert.SafeRun

end
-- ==== Proof.NsaIdealSafeA.lean ====
/- The attention kernel only loads from its operands and scratch and stores to its result and scratch: part by part, the first half. -/
module

public import proofs.«01_k».proof.Proof.Gen.NsaIdeal.Skeleton
public import proofs.«01_k».proof.Proof.Gen.NsaIdeal.Launch
public import proofs.«01_k».proof.Proof.SafeRun

@[expose] public section

noncomputable section

namespace Cert.NsaIdeal.Safe

open Idealize.ShloMosaic Idealize.ShloMosaic.TcCoe Cert.SafeRun Cert.NsaIdeal Cert.NsaIdeal.Gen
open Idealize.SL Idealize.SL.RA Idealize.SL.Sem

variable {F : FTy → Type} [FloatOps F]

/-- The resource lends every operand of the kernel out for reading and its result and scratch for writing. -/
structure Lent (h : Holder nD τ sig Unit (Elt F) ℕ (UR sig nD τ) ℕ Λ₀)
    (arg2 : Memref sig .tc .vmem S1x2048x256 .f32)
    (arg3 : Memref sig .tc .vmem S1x2048x256 .f32)
    (arg4 : Memref sig .tc .vmem S1x2048x128 .f32)
    (arg5 : Memref sig .tc .vmem S1x2048x128 .f32)
    (arg6 : Memref sig .tc .vmem S1x64x256 .f32)
    (arg7 : Memref sig .tc .vmem S1x3x64 .f32)
    (arg8 : Memref sig .tc .vmem S32x128 .bf16)
    (arg9 : Memref sig .tc .vmem S2048x64 .bf16)
    (arg10 : Memref sig .tc .vmem S2048x64 .bf16)
    (arg11 : Memref sig .tc .vmem S128x64 .bf16)
    (arg12 : Memref sig .tc .vmem S1x16x1x128 .f32)
    (arg13 : Memref sig .tc .vmem S1x16x1x128 .f32)
    (arg14 : Memref sig .tc .vmem S1x16x128x128 .bf16)
    (arg15 : Memref sig .tc .vmem S1x16x128x128 .bf16)
    (arg16 : Memref sig .tc .vmem S1x128x128 .bf16)
    (arg17 : Memref sig .tc .vmem S1x2048x256 .bf16)
    (arg18 : Memref sig .tc .vmem S2048x128 .bf16)
    (arg19 : Memref sig .tc .vmem S2048x128 .bf16)
    (arg20 : Memref sig .tc .vmem S8x80x256 .bf16)
    (arg21 : Memref sig .tc .vmem S8x80x256 .bf16)
    (arg22 : Memref sig .tc .vmem S128x128 .bf16)
    (arg23 : Memref sig .tc .vmem S64x128 .bf16)
    (arg24 : Memref sig .tc .vmem S4x128x256 .bf16)
    (arg25 : Memref sig .tc .vmem S2x256x256 .f32)
    (arg26 : Memref sig .tc .vmem S4x1x256 .f32)
    (arg27 : Memref sig .tc .vmem S4x80x256 .f32)
    (arg28 : Memref sig .tc .vmem S3x4x256x256 .f32)
    (arg29 : Memref sig .tc .vmem S2x4x256x256 .f32)
    : Prop where
  l2 : Lends h (arg2.view.loc (h.dev : Thread nD τ))
  l3 : Lends h (arg3.view.loc (h.dev : Thread nD τ))
  l4 : Lends h (arg4.view.loc (h.dev : Thread nD τ))
  l5 : Lends h (arg5.view.loc (h.dev : Thread nD τ))
  l6 : Lends h (arg6.view.loc (h.dev : Thread nD τ))
  l7 : Lends h (arg7.view.loc (h.dev : Thread nD τ))
  l8 : Lends h (arg8.view.loc (h.dev : Thread nD τ))
  l9 : Lends h (arg9.view.loc (h.dev : Thread nD τ))
  l10 : Lends h (arg10.view.loc (h.dev : Thread nD τ))
  l11 : Lends h (arg11.view.loc (h.dev : Thread nD τ))
  l12 : Lends h (arg12.view.loc (h.dev : Thread nD τ))
  l13 : Lends h (arg13.view.loc (h.dev : Thread nD τ))
  l14 : Lends h (arg14.view.loc (h.dev : Thread nD τ))
  l15 : Lends h (arg15.view.loc (h.dev : Thread nD τ))
  l16 : Lends h (arg16.view.loc (h.dev : Thread nD τ))
  l17 : Lends h (arg17.view.loc (h.dev : Thread nD τ))
  l18 : Lends h (arg18.view.loc (h.dev : Thread nD τ))
  l19 : Lends h (arg19.view.loc (h.dev : Thread nD τ))
  l20 : Lends h (arg20.view.loc (h.dev : Thread nD τ))
  l21 : Lends h (arg21.view.loc (h.dev : Thread nD τ))
  l22 : Lends h (arg22.view.loc (h.dev : Thread nD τ))
  l23 : Lends h (arg23.view.loc (h.dev : Thread nD τ))
  l24 : Lends h (arg24.view.loc (h.dev : Thread nD τ))
  l25 : Lends h (arg25.view.loc (h.dev : Thread nD τ))
  l26 : Lends h (arg26.view.loc (h.dev : Thread nD τ))
  l27 : Lends h (arg27.view.loc (h.dev : Thread nD τ))
  l28 : Lends h (arg28.view.loc (h.dev : Thread nD τ))
  l29 : Lends h (arg29.view.loc (h.dev : Thread nD τ))
  s17 : Yields h (arg17.view.loc (h.dev : Thread nD τ))
  s18 : Yields h (arg18.view.loc (h.dev : Thread nD τ))
  s19 : Yields h (arg19.view.loc (h.dev : Thread nD τ))
  s20 : Yields h (arg20.view.loc (h.dev : Thread nD τ))
  s21 : Yields h (arg21.view.loc (h.dev : Thread nD τ))
  s22 : Yields h (arg22.view.loc (h.dev : Thread nD τ))
  s23 : Yields h (arg23.view.loc (h.dev : Thread nD τ))
  s24 : Yields h (arg24.view.loc (h.dev : Thread nD τ))
  s25 : Yields h (arg25.view.loc (h.dev : Thread nD τ))
  s26 : Yields h (arg26.view.loc (h.dev : Thread nD τ))
  s27 : Yields h (arg27.view.loc (h.dev : Thread nD τ))
  s28 : Yields h (arg28.view.loc (h.dev : Thread nD τ))
  s29 : Yields h (arg29.view.loc (h.dev : Thread nD τ))

variable {h : Holder nD τ sig Unit (Elt F) ℕ (UR sig nD τ) ℕ Λ₀}
variable {i : grid0.Coords}
  {arg2 : Memref sig .tc .vmem S1x2048x256 .f32} {harg2 : arg2.IsWhole}
  {arg3 : Memref sig .tc .vmem S1x2048x256 .f32} {harg3 : arg3.IsWhole}
  {arg4 : Memref sig .tc .vmem S1x2048x128 .f32} {harg4 : arg4.IsWhole}
  {arg5 : Memref sig .tc .vmem S1x2048x128 .f32} {harg5 : arg5.IsWhole}
  {arg6 : Memref sig .tc .vmem S1x64x256 .f32} {harg6 : arg6.IsWhole}
  {arg7 : Memref sig .tc .vmem S1x3x64 .f32} {harg7 : arg7.IsWhole}
  {arg8 : Memref sig .tc .vmem S32x128 .bf16} {harg8 : arg8.IsWhole}
  {arg9 : Memref sig .tc .vmem S2048x64 .bf16} {harg9 : arg9.IsWhole}
  {arg10 : Memref sig .tc .vmem S2048x64 .bf16} {harg10 : arg10.IsWhole}
  {arg11 : Memref sig .tc .vmem S128x64 .bf16} {harg11 : arg11.IsWhole}
  {arg12 : Memref sig .tc .vmem S1x16x1x128 .f32} {harg12 : arg12.IsWhole}
  {arg13 : Memref sig .tc .vmem S1x16x1x128 .f32} {harg13 : arg13.IsWhole}
  {arg14 : Memref sig .tc .vmem S1x16x128x128 .bf16} {harg14 : arg14.IsWhole}
  {arg15 : Memref sig .tc .vmem S1x16x128x128 .bf16} {harg15 : arg15.IsWhole}
  {arg16 : Memref sig .tc .vmem S1x128x128 .bf16} {harg16 : arg16.IsWhole}
  {arg17 : Memref sig .tc .vmem S1x2048x256 .bf16} {harg17 : arg17.IsWhole}
  {arg18 : Memref sig .tc .vmem S2048x128 .bf16} {harg18 : arg18.IsWhole}
  {arg19 : Memref sig .tc .vmem S2048x128 .bf16} {harg19 : arg19.IsWhole}
  {arg20 : Memref sig .tc .vmem S8x80x256 .bf16} {harg20 : arg20.IsWhole}
  {arg21 : Memref sig .tc .vmem S8x80x256 .bf16} {harg21 : arg21.IsWhole}
  {arg22 : Memref sig .tc .vmem S128x128 .bf16} {harg22 : arg22.IsWhole}
  {arg23 : Memref sig .tc .vmem S64x128 .bf16} {harg23 : arg23.IsWhole}
  {arg24 : Memref sig .tc .vmem S4x128x256 .bf16} {harg24 : arg24.IsWhole}
  {arg25 : Memref sig .tc .vmem S2x256x256 .f32} {harg25 : arg25.IsWhole}
  {arg26 : Memref sig .tc .vmem S4x1x256 .f32} {harg26 : arg26.IsWhole}
  {arg27 : Memref sig .tc .vmem S4x80x256 .f32} {harg27 : arg27.IsWhole}
  {arg28 : Memref sig .tc .vmem S3x4x256x256 .f32} {harg28 : arg28.IsWhole}
  {arg29 : Memref sig .tc .vmem S2x4x256x256 .f32} {harg29 : arg29.IsWhole}
variable (H : Lent h arg2 arg3 arg4 arg5 arg6 arg7 arg8 arg9 arg10 arg11 arg12 arg13 arg14 arg15 arg16 arg17 arg18 arg19 arg20 arg21 arg22 arg23 arg24 arg25 arg26 arg27 arg28 arg29)
include H

theorem part154 : Kept h (k0_part154 i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29) := by
  rw [k0_part154_eq_skeleton]; unfold k0_part154_skel
  exact kept_bind (kept_load H.l3) fun _ => kept_bind (kept_load H.l7) fun _ => kept_bind (kept_load H.l9) fun _ => kept_bind (kept_load
      H.l18) fun _ => kept_bind (kept_store H.s18) fun _ => kept_bind (kept_load H.l3) fun _ => kept_bind (kept_load H.l20) fun _ =>
      kept_pure _

theorem part155 : ∀ x0 x1 x2, Kept h (k0_part155 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part155_eq_skeleton]; unfold k0_part155_skel
  exact kept_bind (kept_store H.s20) fun _ => kept_bind (kept_load H.l20) fun _ => kept_bind (kept_store H.s20) fun _ => kept_bind
      (kept_load H.l3) fun _ => kept_bind (kept_load H.l20) fun _ => kept_bind (kept_store H.s20) fun _ => kept_bind (kept_load H.l20) fun
      _ => kept_bind (kept_store H.s20) fun _ => kept_bind (kept_load H.l3) fun _ => kept_bind (kept_load H.l20) fun _ => kept_bind
      (kept_store H.s20) fun _ => kept_bind (kept_load H.l20) fun _ => kept_bind (kept_store H.s20) fun _ => kept_bind (kept_load H.l3)
      fun _ => kept_pure _

theorem part156 : ∀ x0 x1, Kept h (k0_part156 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part156_eq_skeleton]; unfold k0_part156_skel
  exact kept_bind (kept_load H.l20) fun _ => kept_bind (kept_store H.s20) fun _ => kept_bind (kept_load H.l20) fun _ => kept_bind
      (kept_store H.s20) fun _ => kept_bind (kept_load H.l3) fun _ => kept_bind (kept_load H.l20) fun _ => kept_bind (kept_store H.s20)
      fun _ => kept_bind (kept_load H.l20) fun _ => kept_bind (kept_store H.s20) fun _ => kept_bind (kept_load H.l3) fun _ => kept_bind
      (kept_load H.l20) fun _ => kept_bind (kept_store H.s20) fun _ => kept_bind (kept_load H.l20) fun _ => kept_bind (kept_store H.s20)
      fun _ => kept_pure _

theorem part157 : ∀ x0, Kept h (k0_part157 i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 x0) := by
  intro x0
  rw [k0_part157_eq_skeleton]; unfold k0_part157_skel
  exact kept_bind (kept_load H.l3) fun _ => kept_bind (kept_load H.l20) fun _ => kept_bind (kept_store H.s20) fun _ => kept_bind
      (kept_load H.l20) fun _ => kept_bind (kept_store H.s20) fun _ => kept_bind (kept_load H.l3) fun _ => kept_bind (kept_load H.l20) fun
      _ => kept_bind (kept_store H.s20) fun _ => kept_bind (kept_load H.l20) fun _ => kept_bind (kept_store H.s20) fun _ => kept_bind
      (kept_load H.l3) fun _ => kept_bind (kept_load H.l7) fun _ => kept_pure _

theorem part158 : ∀ x0 x1 x2 x3 x4, Kept h (k0_part158 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part158_eq_skeleton]; unfold k0_part158_skel
  exact kept_bind (kept_load H.l10) fun _ => kept_bind (kept_load H.l19) fun _ => kept_bind (kept_store H.s19) fun _ => kept_bind
      (kept_load H.l3) fun _ => kept_bind (kept_load H.l21) fun _ => kept_bind (kept_store H.s21) fun _ => kept_bind (kept_load H.l21) fun
      _ => kept_bind (kept_store H.s21) fun _ => kept_bind (kept_load H.l3) fun _ => kept_bind (kept_load H.l21) fun _ => kept_bind
      (kept_store H.s21) fun _ => kept_pure _

theorem part159 : ∀ x0, Kept h (k0_part159 i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 x0) := by
  intro x0
  rw [k0_part159_eq_skeleton]; unfold k0_part159_skel
  exact kept_bind (kept_load H.l21) fun _ => kept_bind (kept_store H.s21) fun _ => kept_bind (kept_load H.l3) fun _ => kept_bind
      (kept_load H.l21) fun _ => kept_bind (kept_store H.s21) fun _ => kept_bind (kept_load H.l21) fun _ => kept_bind (kept_store H.s21)
      fun _ => kept_bind (kept_load H.l3) fun _ => kept_bind (kept_load H.l21) fun _ => kept_bind (kept_store H.s21) fun _ => kept_bind
      (kept_load H.l21) fun _ => kept_bind (kept_store H.s21) fun _ => kept_bind (kept_load H.l3) fun _ => kept_bind (kept_load H.l21) fun
      _ => kept_pure _

theorem part160 : ∀ x0 x1 x2, Kept h (k0_part160 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part160_eq_skeleton]; unfold k0_part160_skel
  exact kept_bind (kept_store H.s21) fun _ => kept_bind (kept_load H.l21) fun _ => kept_bind (kept_store H.s21) fun _ => kept_bind
      (kept_load H.l3) fun _ => kept_bind (kept_load H.l21) fun _ => kept_bind (kept_store H.s21) fun _ => kept_bind (kept_load H.l21) fun
      _ => kept_bind (kept_store H.s21) fun _ => kept_bind (kept_load H.l3) fun _ => kept_bind (kept_load H.l21) fun _ => kept_bind
      (kept_store H.s21) fun _ => kept_bind (kept_load H.l21) fun _ => kept_bind (kept_store H.s21) fun _ => kept_bind (kept_load H.l3)
      fun _ => kept_pure _

theorem part161 : ∀ x0 x1, Kept h (k0_part161 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part161_eq_skeleton]; unfold k0_part161_skel
  exact kept_bind (kept_load H.l21) fun _ => kept_bind (kept_store H.s21) fun _ => kept_bind (kept_load H.l21) fun _ => kept_bind
      (kept_store H.s21) fun _ => kept_bind (kept_load H.l4) fun _ => kept_bind (kept_load H.l12) fun _ => kept_bind (kept_load H.l14) fun
      _ => kept_bind (kept_load H.l13) fun _ => kept_bind (kept_load H.l15) fun _ => kept_pure _

theorem part162 : ∀ x0 x1 x2, Kept h (k0_part162 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part162_eq_skeleton]; unfold k0_part162_skel
  exact kept_bind (kept_load H.l4) fun _ => kept_bind (kept_load H.l12) fun _ => kept_bind (kept_load H.l14) fun _ => kept_bind (kept_load
      H.l13) fun _ => kept_bind (kept_load H.l15) fun _ => kept_bind (kept_load H.l4) fun _ => kept_bind (kept_load H.l12) fun _ =>
      kept_pure _

theorem part163 : ∀ x0 x1 x2 x3, Kept h (k0_part163 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part163_eq_skeleton]; unfold k0_part163_skel
  exact kept_bind (kept_load H.l14) fun _ => kept_bind (kept_load H.l13) fun _ => kept_bind (kept_load H.l15) fun _ => kept_bind
      (kept_load H.l4) fun _ => kept_bind (kept_load H.l12) fun _ => kept_bind (kept_load H.l14) fun _ => kept_bind (kept_load H.l13) fun
      _ => kept_bind (kept_load H.l15) fun _ => kept_pure _

theorem part164 : ∀ x0 x1 x2 x3, Kept h (k0_part164 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part164_eq_skeleton]; unfold k0_part164_skel
  exact kept_bind (kept_load H.l4) fun _ => kept_bind (kept_load H.l12) fun _ => kept_bind (kept_load H.l14) fun _ => kept_bind (kept_load
      H.l13) fun _ => kept_bind (kept_load H.l15) fun _ => kept_bind (kept_load H.l4) fun _ => kept_bind (kept_load H.l12) fun _ =>
      kept_pure _

theorem part165 : ∀ x0 x1 x2 x3, Kept h (k0_part165 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part165_eq_skeleton]; unfold k0_part165_skel
  exact kept_bind (kept_load H.l14) fun _ => kept_bind (kept_load H.l13) fun _ => kept_bind (kept_load H.l15) fun _ => kept_bind
      (kept_load H.l4) fun _ => kept_bind (kept_load H.l12) fun _ => kept_bind (kept_load H.l14) fun _ => kept_bind (kept_load H.l13) fun
      _ => kept_pure _

theorem part166 : ∀ x0 x1 x2, Kept h (k0_part166 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part166_eq_skeleton]; unfold k0_part166_skel
  exact kept_bind (kept_load H.l15) fun _ => kept_bind (kept_load H.l4) fun _ => kept_bind (kept_load H.l12) fun _ => kept_bind (kept_load
      H.l14) fun _ => kept_bind (kept_load H.l13) fun _ => kept_bind (kept_load H.l15) fun _ => kept_bind (kept_load H.l4) fun _ =>
      kept_bind (kept_load H.l12) fun _ => kept_pure _

theorem part167 : ∀ x0 x1 x2 x3, Kept h (k0_part167 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part167_eq_skeleton]; unfold k0_part167_skel
  exact kept_bind (kept_load H.l14) fun _ => kept_bind (kept_load H.l13) fun _ => kept_bind (kept_load H.l15) fun _ => kept_bind
      (kept_load H.l4) fun _ => kept_bind (kept_load H.l12) fun _ => kept_bind (kept_load H.l14) fun _ => kept_bind (kept_load H.l13) fun
      _ => kept_pure _

theorem part168 : ∀ x0 x1 x2, Kept h (k0_part168 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part168_eq_skeleton]; unfold k0_part168_skel
  exact kept_bind (kept_load H.l15) fun _ => kept_bind (kept_load H.l4) fun _ => kept_bind (kept_load H.l12) fun _ => kept_bind (kept_load
      H.l14) fun _ => kept_bind (kept_load H.l13) fun _ => kept_bind (kept_load H.l15) fun _ => kept_bind (kept_load H.l4) fun _ =>
      kept_pure _

theorem part169 : ∀ x0 x1 x2, Kept h (k0_part169 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part169_eq_skeleton]; unfold k0_part169_skel
  exact kept_bind (kept_load H.l12) fun _ => kept_bind (kept_load H.l14) fun _ => kept_bind (kept_load H.l13) fun _ => kept_bind
      (kept_load H.l15) fun _ => kept_bind (kept_load H.l4) fun _ => kept_bind (kept_load H.l12) fun _ => kept_bind (kept_load H.l14) fun
      _ => kept_bind (kept_load H.l13) fun _ => kept_pure _

theorem part170 : ∀ x0 x1 x2 x3, Kept h (k0_part170 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part170_eq_skeleton]; unfold k0_part170_skel
  exact kept_bind (kept_load H.l15) fun _ => kept_bind (kept_load H.l4) fun _ => kept_bind (kept_load H.l12) fun _ => kept_bind (kept_load
      H.l14) fun _ => kept_bind (kept_load H.l13) fun _ => kept_bind (kept_load H.l15) fun _ => kept_bind (kept_load H.l4) fun _ =>
      kept_pure _

theorem part171 : ∀ x0 x1 x2, Kept h (k0_part171 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part171_eq_skeleton]; unfold k0_part171_skel
  exact kept_bind (kept_load H.l12) fun _ => kept_bind (kept_load H.l14) fun _ => kept_bind (kept_load H.l13) fun _ => kept_bind
      (kept_load H.l15) fun _ => kept_bind (kept_load H.l4) fun _ => kept_bind (kept_load H.l12) fun _ => kept_bind (kept_load H.l14) fun
      _ => kept_pure _

theorem part172 : ∀ x0 x1 x2, Kept h (k0_part172 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part172_eq_skeleton]; unfold k0_part172_skel
  exact kept_bind (kept_load H.l13) fun _ => kept_bind (kept_load H.l15) fun _ => kept_bind (kept_load H.l16) fun _ => kept_bind
      (kept_load H.l7) fun _ => kept_pure _

theorem part63 : ∀ x0 x1 x2 x3, Kept h (k0_part63 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part63_eq_skeleton]; unfold k0_part63_skel
  exact kept_bind (kept_load H.l5) fun _ => kept_bind (kept_load H.l2) fun _ => kept_bind (kept_load H.l6) fun _ => kept_bind (kept_load
      H.l24) fun _ => kept_bind (kept_store H.s24) fun _ => kept_pure _

theorem part64 : ∀ x0 x1 x2 x3 x4 x5, Kept h (k0_part64 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part64_eq_skeleton]; unfold k0_part64_skel
  exact kept_bind (kept_load H.l24) fun _ => kept_bind (kept_store H.s24) fun _ => kept_bind (kept_load H.l24) fun _ => kept_bind
      (kept_store H.s24) fun _ => kept_bind (kept_load H.l6) fun _ => kept_bind (kept_load H.l24) fun _ => kept_bind (kept_store H.s24)
      fun _ => kept_pure _

theorem part65 : ∀ x0 x1 x2 x3 x4 x5, Kept h (k0_part65 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part65_eq_skeleton]; unfold k0_part65_skel
  exact kept_bind (kept_load H.l24) fun _ => kept_bind (kept_store H.s24) fun _ => kept_bind (kept_load H.l24) fun _ => kept_bind
      (kept_store H.s24) fun _ => kept_bind (kept_load H.l6) fun _ => kept_bind (kept_load H.l24) fun _ => kept_bind (kept_store H.s24)
      fun _ => kept_pure _

theorem part66 : ∀ x0 x1 x2 x3 x4 x5, Kept h (k0_part66 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part66_eq_skeleton]; unfold k0_part66_skel
  exact kept_bind (kept_load H.l24) fun _ => kept_bind (kept_store H.s24) fun _ => kept_bind (kept_load H.l24) fun _ => kept_bind
      (kept_store H.s24) fun _ => kept_bind (kept_load H.l6) fun _ => kept_bind (kept_load H.l24) fun _ => kept_bind (kept_store H.s24)
      fun _ => kept_pure _

theorem part67 : ∀ x0 x1 x2 x3 x4, Kept h (k0_part67 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part67_eq_skeleton]; unfold k0_part67_skel
  exact kept_bind (kept_load H.l24) fun _ => kept_bind (kept_store H.s24) fun _ => kept_bind (kept_load H.l24) fun _ => kept_bind
      (kept_store H.s24) fun _ => kept_bind (kept_load H.l22) fun _ => kept_bind (kept_load H.l24) fun _ => kept_pure _

theorem part68 : ∀ x0 x1, Kept h (k0_part68 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part68_eq_skeleton]; unfold k0_part68_skel
  exact kept_bind (kept_load H.l22) fun _ => kept_bind (kept_load H.l24) fun _ => kept_bind (kept_load H.l22) fun _ => kept_bind
      (kept_load H.l24) fun _ => kept_bind (kept_load H.l22) fun _ => kept_bind (kept_load H.l24) fun _ => kept_bind (kept_load H.l19) fun
      _ => kept_bind (kept_load H.l24) fun _ => kept_bind (kept_load H.l28) fun _ => kept_bind (kept_store H.s28) fun _ => kept_bind
      (kept_load H.l24) fun _ => kept_pure _

theorem part69 : ∀ x0 x1 x2 x3, Kept h (k0_part69 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part69_eq_skeleton]; unfold k0_part69_skel
  exact kept_bind (kept_load H.l28) fun _ => kept_bind (kept_store H.s28) fun _ => kept_bind (kept_load H.l24) fun _ => kept_bind
      (kept_load H.l28) fun _ => kept_bind (kept_store H.s28) fun _ => kept_bind (kept_load H.l24) fun _ => kept_bind (kept_load H.l28)
      fun _ => kept_bind (kept_store H.s28) fun _ => kept_pure _

theorem part70 : ∀ x0 x1 x2 x3 x4 x5 x6 x7, Kept h (k0_part70 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part70_eq_skeleton]; unfold k0_part70_skel
  exact kept_bind (kept_load H.l23) fun _ => kept_bind (kept_load H.l25) fun _ => kept_bind (kept_store H.s25) fun _ => kept_bind
      (kept_load H.l8) fun _ => kept_pure _

theorem part71 : ∀ x0 x1 x2 x3 x4 x5 x6 x7, Kept h (k0_part71 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part71_eq_skeleton]; unfold k0_part71_skel
  exact kept_bind (kept_load H.l23) fun _ => kept_bind (kept_load H.l25) fun _ => kept_bind (kept_store H.s25) fun _ => kept_bind
      (kept_load H.l8) fun _ => kept_bind (kept_load H.l23) fun _ => kept_pure _

theorem part72 : ∀ x0 x1 x2 x3 x4 x5 x6 x7, Kept h (k0_part72 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part72_eq_skeleton]; unfold k0_part72_skel
  exact kept_bind (kept_load H.l25) fun _ => kept_bind (kept_store H.s25) fun _ => kept_bind (kept_load H.l8) fun _ => kept_bind
      (kept_load H.l23) fun _ => kept_bind (kept_load H.l25) fun _ => kept_bind (kept_store H.s25) fun _ => kept_bind (kept_load H.l8) fun
      _ => kept_pure _

theorem part73 : ∀ x0 x1 x2, Kept h (k0_part73 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part73_eq_skeleton]; unfold k0_part73_skel
  exact kept_bind (kept_load H.l19) fun _ => kept_bind (kept_load H.l24) fun _ => kept_bind (kept_load H.l28) fun _ => kept_bind
      (kept_store H.s28) fun _ => kept_bind (kept_load H.l24) fun _ => kept_bind (kept_load H.l28) fun _ => kept_bind (kept_store H.s28)
      fun _ => kept_bind (kept_load H.l24) fun _ => kept_pure _

theorem part74 : ∀ x0 x1 x2 x3, Kept h (k0_part74 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part74_eq_skeleton]; unfold k0_part74_skel
  exact kept_bind (kept_load H.l28) fun _ => kept_bind (kept_store H.s28) fun _ => kept_bind (kept_load H.l24) fun _ => kept_bind
      (kept_load H.l28) fun _ => kept_bind (kept_store H.s28) fun _ => kept_bind (kept_load H.l19) fun _ => kept_bind (kept_load H.l24)
      fun _ => kept_bind (kept_load H.l28) fun _ => kept_bind (kept_store H.s28) fun _ => kept_bind (kept_load H.l24) fun _ => kept_pure _

theorem part75 : ∀ x0 x1 x2, Kept h (k0_part75 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part75_eq_skeleton]; unfold k0_part75_skel
  exact kept_bind (kept_load H.l28) fun _ => kept_bind (kept_store H.s28) fun _ => kept_bind (kept_load H.l24) fun _ => kept_bind
      (kept_load H.l28) fun _ => kept_bind (kept_store H.s28) fun _ => kept_bind (kept_load H.l24) fun _ => kept_bind (kept_load H.l28)
      fun _ => kept_bind (kept_store H.s28) fun _ => kept_pure _

theorem part76 : ∀ x0 x1 x2 x3 x4 x5, Kept h (k0_part76 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part76_eq_skeleton]; unfold k0_part76_skel
  exact kept_pure _

theorem part77 : ∀ x0 x1 x2 x3 x4 x5 x6 x7, Kept h (k0_part77 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part77_eq_skeleton]; unfold k0_part77_skel
  exact kept_pure _

theorem part78 : ∀ x0 x1 x2 x3 x4 x5 x6 x7, Kept h (k0_part78 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part78_eq_skeleton]; unfold k0_part78_skel
  exact kept_pure _

theorem part79 : ∀ x0 x1 x2 x3 x4 x5 x6 x7, Kept h (k0_part79 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part79_eq_skeleton]; unfold k0_part79_skel
  exact kept_pure _

theorem part80 : ∀ x0 x1 x2 x3 x4 x5 x6 x7, Kept h (k0_part80 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part80_eq_skeleton]; unfold k0_part80_skel
  exact kept_pure _

theorem part81 : ∀ x0 x1 x2 x3 x4 x5 x6 x7, Kept h (k0_part81 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part81_eq_skeleton]; unfold k0_part81_skel
  exact kept_pure _

theorem part82 : ∀ x0 x1 x2 x3 x4 x5 x6 x7, Kept h (k0_part82 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part82_eq_skeleton]; unfold k0_part82_skel
  exact kept_pure _

theorem part83 : ∀ x0 x1 x2 x3 x4 x5 x6 x7, Kept h (k0_part83 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part83_eq_skeleton]; unfold k0_part83_skel
  exact kept_pure _

theorem part84 : ∀ x0 x1 x2 x3 x4 x5 x6 x7, Kept h (k0_part84 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part84_eq_skeleton]; unfold k0_part84_skel
  exact kept_pure _

theorem part85 : ∀ x0 x1 x2 x3 x4 x5 x6 x7, Kept h (k0_part85 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part85_eq_skeleton]; unfold k0_part85_skel
  exact kept_pure _

theorem part86 : ∀ x0 x1 x2 x3 x4 x5 x6 x7, Kept h (k0_part86 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part86_eq_skeleton]; unfold k0_part86_skel
  exact kept_pure _

theorem part87 : ∀ x0 x1 x2 x3 x4 x5 x6 x7, Kept h (k0_part87 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part87_eq_skeleton]; unfold k0_part87_skel
  exact kept_bind (kept_load H.l24) fun _ => kept_bind (kept_store H.s24) fun _ => kept_bind (kept_load H.l24) fun _ => kept_bind
      (kept_store H.s24) fun _ => kept_bind (kept_load H.l24) fun _ => kept_bind (kept_store H.s24) fun _ => kept_bind (kept_load H.l24)
      fun _ => kept_pure _

theorem part88 : ∀ x0 x1 x2, Kept h (k0_part88 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part88_eq_skeleton]; unfold k0_part88_skel
  exact kept_bind (kept_store H.s24) fun _ => kept_bind (kept_load H.l26) fun _ => kept_bind (kept_store H.s26) fun _ => kept_bind
      (kept_load H.l27) fun _ => kept_bind (kept_store H.s27) fun _ => kept_bind (kept_load H.l21) fun _ => kept_bind (kept_load H.l28)
      fun _ => kept_bind (kept_load H.l26) fun _ => kept_pure _

theorem part89 : ∀ x0 x1 x2 x3 x4, Kept h (k0_part89 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part89_eq_skeleton]; unfold k0_part89_skel
  exact kept_bind (kept_load H.l27) fun _ => kept_bind (kept_load H.l27) fun _ => kept_bind (kept_store H.s27) fun _ => kept_bind
      (kept_load H.l26) fun _ => kept_bind (kept_store H.s26) fun _ => kept_bind (kept_load H.l28) fun _ => kept_bind (kept_load H.l26)
      fun _ => kept_bind (kept_load H.l27) fun _ => kept_pure _

theorem part90 : ∀ x0 x1 x2 x3, Kept h (k0_part90 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part90_eq_skeleton]; unfold k0_part90_skel
  exact kept_bind (kept_load H.l27) fun _ => kept_bind (kept_store H.s27) fun _ => kept_bind (kept_load H.l26) fun _ => kept_bind
      (kept_store H.s26) fun _ => kept_bind (kept_load H.l28) fun _ => kept_bind (kept_load H.l26) fun _ => kept_bind (kept_load H.l27)
      fun _ => kept_bind (kept_load H.l27) fun _ => kept_bind (kept_store H.s27) fun _ => kept_pure _

theorem part91 : ∀ x0 x1 x2, Kept h (k0_part91 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part91_eq_skeleton]; unfold k0_part91_skel
  exact kept_bind (kept_load H.l26) fun _ => kept_bind (kept_store H.s26) fun _ => kept_bind (kept_load H.l28) fun _ => kept_bind
      (kept_load H.l26) fun _ => kept_bind (kept_load H.l27) fun _ => kept_bind (kept_load H.l27) fun _ => kept_bind (kept_store H.s27)
      fun _ => kept_bind (kept_load H.l26) fun _ => kept_bind (kept_store H.s26) fun _ => kept_pure _

theorem part92 : ∀ x0, Kept h (k0_part92 i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 x0) := by
  intro x0
  rw [k0_part92_eq_skeleton]; unfold k0_part92_skel
  exact kept_bind (kept_load H.l26) fun _ => kept_bind (kept_load H.l26) fun _ => kept_bind (kept_store H.s26) fun _ => kept_bind
      (kept_load H.l27) fun _ => kept_bind (kept_load H.l27) fun _ => kept_bind (kept_store H.s27) fun _ => kept_bind (kept_load H.l18)
      fun _ => kept_bind (kept_load H.l24) fun _ => kept_bind (kept_load H.l29) fun _ => kept_bind (kept_store H.s29) fun _ => kept_bind
      (kept_load H.l24) fun _ => kept_pure _

theorem part93 : ∀ x0 x1 x2 x3, Kept h (k0_part93 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part93_eq_skeleton]; unfold k0_part93_skel
  exact kept_bind (kept_load H.l29) fun _ => kept_bind (kept_store H.s29) fun _ => kept_bind (kept_load H.l24) fun _ => kept_bind
      (kept_load H.l29) fun _ => kept_bind (kept_store H.s29) fun _ => kept_bind (kept_load H.l24) fun _ => kept_bind (kept_load H.l29)
      fun _ => kept_bind (kept_store H.s29) fun _ => kept_bind (kept_load H.l21) fun _ => kept_pure _

theorem part94 : ∀ x0, Kept h (k0_part94 i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 x0) := by
  intro x0
  rw [k0_part94_eq_skeleton]; unfold k0_part94_skel
  exact kept_bind (kept_load H.l28) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_load H.l28

theorem part95 : ∀ x0 x1, Kept h (k0_part95 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part95_eq_skeleton]; unfold k0_part95_skel
  exact kept_bind (kept_load H.l26) fun _ => kept_bind (kept_load H.l27) fun _ => kept_bind (kept_load H.l27) fun _ => kept_bind
      (kept_store H.s27) fun _ => kept_bind (kept_load H.l26) fun _ => kept_bind (kept_store H.s26) fun _ => kept_bind (kept_load H.l28)
      fun _ => kept_bind (kept_load H.l26) fun _ => kept_pure _

theorem part96 : ∀ x0 x1 x2 x3, Kept h (k0_part96 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part96_eq_skeleton]; unfold k0_part96_skel
  exact kept_bind (kept_load H.l27) fun _ => kept_bind (kept_load H.l27) fun _ => kept_bind (kept_store H.s27) fun _ => kept_bind
      (kept_load H.l26) fun _ => kept_bind (kept_store H.s26) fun _ => kept_bind (kept_load H.l28) fun _ => kept_bind (kept_load H.l26)
      fun _ => kept_bind (kept_load H.l27) fun _ => kept_pure _

theorem part97 : ∀ x0 x1 x2 x3 x4 x5 x6, Kept h (k0_part97 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5 x6) := by
  intro x0 x1 x2 x3 x4 x5 x6
  rw [k0_part97_eq_skeleton]; unfold k0_part97_skel
  exact kept_bind (kept_load H.l27) fun _ => kept_bind (kept_store H.s27) fun _ => kept_bind (kept_load H.l26) fun _ => kept_bind
      (kept_store H.s26) fun _ => kept_bind (kept_load H.l26) fun _ => kept_bind (kept_load H.l26) fun _ => kept_bind (kept_store H.s26)
      fun _ => kept_bind (kept_load H.l27) fun _ => kept_bind (kept_load H.l27) fun _ => kept_bind (kept_store H.s27) fun _ => kept_bind
      (kept_load H.l21) fun _ => kept_pure _

theorem part98 : ∀ x0 x1, Kept h (k0_part98 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part98_eq_skeleton]; unfold k0_part98_skel
  exact kept_bind (kept_load H.l28) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_pure _

theorem part99 : ∀ x0 x1, Kept h (k0_part99 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part99_eq_skeleton]; unfold k0_part99_skel
  exact kept_bind (kept_load H.l28) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l28) fun _ => kept_pure _

theorem part100 : ∀ x0 x1 x2, Kept h (k0_part100 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part100_eq_skeleton]; unfold k0_part100_skel
  exact kept_bind (kept_load H.l26) fun _ => kept_bind (kept_load H.l27) fun _ => kept_bind (kept_load H.l27) fun _ => kept_bind
      (kept_store H.s27) fun _ => kept_bind (kept_load H.l26) fun _ => kept_bind (kept_store H.s26) fun _ => kept_bind (kept_load H.l28)
      fun _ => kept_bind (kept_load H.l26) fun _ => kept_pure _

theorem part101 : ∀ x0 x1 x2 x3 x4 x5, Kept h (k0_part101 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part101_eq_skeleton]; unfold k0_part101_skel
  exact kept_bind (kept_load H.l27) fun _ => kept_bind (kept_load H.l27) fun _ => kept_bind (kept_store H.s27) fun _ => kept_bind
      (kept_load H.l26) fun _ => kept_bind (kept_store H.s26) fun _ => kept_bind (kept_load H.l27) fun _ => kept_bind (kept_load H.l25)
      fun _ => kept_pure _

theorem part102 : ∀ x0 x1 x2, Kept h (k0_part102 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part102_eq_skeleton]; unfold k0_part102_skel
  exact kept_bind (kept_load H.l25) fun _ => kept_bind (kept_store H.s25) fun _ => kept_bind (kept_load H.l27) fun _ => kept_bind
      (kept_load H.l25) fun _ => kept_bind (kept_load H.l25) fun _ => kept_bind (kept_store H.s25) fun _ => kept_bind (kept_load H.l27)
      fun _ => kept_bind (kept_load H.l25) fun _ => kept_pure _

theorem part103 : ∀ x0 x1 x2 x3 x4, Kept h (k0_part103 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part103_eq_skeleton]; unfold k0_part103_skel
  exact kept_bind (kept_load H.l25) fun _ => kept_bind (kept_store H.s25) fun _ => kept_bind (kept_load H.l27) fun _ => kept_bind
      (kept_load H.l25) fun _ => kept_bind (kept_load H.l25) fun _ => kept_bind (kept_store H.s25) fun _ => kept_bind (kept_load H.l26)
      fun _ => kept_pure _

theorem part1 : ∀ x0 x1 x2 x3, Kept h (k0_part1 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2 x3) := by
  intro x0 x1 x2 x3
  rw [k0_part1_eq_skeleton]; unfold k0_part1_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part2 : ∀ x0 x1 x2 x3 x4, Kept h (k0_part2 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part2_eq_skeleton]; unfold k0_part2_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part3 : ∀ x0 x1 x2 x3, Kept h (k0_part3 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2 x3) := by
  intro x0 x1 x2 x3
  rw [k0_part3_eq_skeleton]; unfold k0_part3_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part4 : ∀ x0 x1 x2 x3 x4, Kept h (k0_part4 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part4_eq_skeleton]; unfold k0_part4_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_pure _

theorem part5 : ∀ x0 x1 x2, Kept h (k0_part5 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part5_eq_skeleton]; unfold k0_part5_skel
  exact kept_bind (kept_load H.l26) fun _ => kept_bind (kept_store H.s26) fun _ => kept_bind (kept_load H.l29) fun _ => kept_bind
      (kept_load H.l26) fun _ => kept_bind (kept_load H.l27) fun _ => kept_bind (kept_load H.l27) fun _ => kept_bind (kept_store H.s27)
      fun _ => kept_bind (kept_load H.l26) fun _ => kept_bind (kept_store H.s26) fun _ => kept_pure _

theorem part6 : ∀ x0 x1 x2, Kept h (k0_part6 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part6_eq_skeleton]; unfold k0_part6_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part7 : ∀ x0 x1 x2 x3 x4, Kept h (k0_part7 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part7_eq_skeleton]; unfold k0_part7_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part8 : ∀ x0 x1 x2 x3, Kept h (k0_part8 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2 x3) := by
  intro x0 x1 x2 x3
  rw [k0_part8_eq_skeleton]; unfold k0_part8_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part9 : ∀ x0 x1 x2, Kept h (k0_part9 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part9_eq_skeleton]; unfold k0_part9_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_bind (kept_load H.l26) fun _ => kept_pure _

theorem part10 : ∀ x0 x1 x2 x3, Kept h (k0_part10 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part10_eq_skeleton]; unfold k0_part10_skel
  exact kept_bind (part1 H _ _ _ _) fun _ => kept_bind (part2 H _ _ _ _ _) fun _ => kept_bind (part3 H _ _ _ _) fun _ => kept_bind (part4
      H _ _ _ _ _) fun _ => kept_bind (part5 H _ _ _) fun _ => kept_bind (part6 H _ _ _) fun _ => kept_bind (part7 H _ _ _ _ _) fun _ =>
      kept_bind (part8 H _ _ _ _) fun _ => kept_bind (part9 H _ _ _) fun _ => kept_bind (kept_store H.s26) fun _ => kept_bind (kept_load
      H.l29) fun _ => kept_bind (kept_load H.l26) fun _ => kept_bind (kept_load H.l27) fun _ => kept_bind (kept_load H.l27) fun _ =>
      kept_bind (kept_store H.s27) fun _ => kept_bind (kept_load H.l26) fun _ => kept_bind (kept_store H.s26) fun _ => kept_pure _

theorem body2 : ∀ x0 x1 x2 x3, ∀ k u, Kept h (k0_t2_body i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 k u) := by
  intro x0 x1 x2 x3
  intro k u; unfold k0_t2_body
  exact kept_bind (part10 H _ _ _ _) fun _ => kept_pure _

theorem part11 : ∀ x0 x1 x2 x3, Kept h (k0_part11 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part11_eq_skeleton]; unfold k0_part11_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part12 : ∀ x0 x1 x2 x3 x4, Kept h (k0_part12 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part12_eq_skeleton]; unfold k0_part12_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part13 : ∀ x0 x1 x2 x3, Kept h (k0_part13 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part13_eq_skeleton]; unfold k0_part13_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part14 : ∀ x0 x1 x2 x3 x4, Kept h (k0_part14 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part14_eq_skeleton]; unfold k0_part14_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_pure _

theorem part15 : ∀ x0 x1 x2, Kept h (k0_part15 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part15_eq_skeleton]; unfold k0_part15_skel
  exact kept_bind (kept_load H.l26) fun _ => kept_bind (kept_store H.s26) fun _ => kept_bind (kept_load H.l29) fun _ => kept_bind
      (kept_load H.l26) fun _ => kept_bind (kept_load H.l27) fun _ => kept_bind (kept_load H.l27) fun _ => kept_bind (kept_store H.s27)
      fun _ => kept_bind (kept_load H.l26) fun _ => kept_bind (kept_store H.s26) fun _ => kept_pure _

theorem part16 : ∀ x0 x1 x2, Kept h (k0_part16 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part16_eq_skeleton]; unfold k0_part16_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part17 : ∀ x0 x1 x2 x3 x4, Kept h (k0_part17 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part17_eq_skeleton]; unfold k0_part17_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part18 : ∀ x0 x1 x2 x3, Kept h (k0_part18 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part18_eq_skeleton]; unfold k0_part18_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part19 : ∀ x0 x1 x2, Kept h (k0_part19 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part19_eq_skeleton]; unfold k0_part19_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_bind (kept_load H.l26) fun _ => kept_pure _

theorem part20 : ∀ x0 x1 x2 x3, Kept h (k0_part20 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part20_eq_skeleton]; unfold k0_part20_skel
  exact kept_bind (part11 H _ _ _ _) fun _ => kept_bind (part12 H _ _ _ _ _) fun _ => kept_bind (part13 H _ _ _ _) fun _ => kept_bind
      (part14 H _ _ _ _ _) fun _ => kept_bind (part15 H _ _ _) fun _ => kept_bind (part16 H _ _ _) fun _ => kept_bind (part17 H _ _ _ _ _)
      fun _ => kept_bind (part18 H _ _ _ _) fun _ => kept_bind (part19 H _ _ _) fun _ => kept_bind (kept_store H.s26) fun _ => kept_bind
      (kept_load H.l29) fun _ => kept_bind (kept_load H.l26) fun _ => kept_bind (kept_load H.l27) fun _ => kept_bind (kept_load H.l27) fun
      _ => kept_bind (kept_store H.s27) fun _ => kept_bind (kept_load H.l26) fun _ => kept_bind (kept_store H.s26) fun _ => kept_pure _

theorem body3 : ∀ x0 x1 x2 x3 x4, ∀ k u, Kept h (k0_t3_body i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 k u) := by
  intro x0 x1 x2 x3 x4
  intro k u; unfold k0_t3_body
  exact kept_bind (part20 H _ _ _ _) fun _ => kept_pure _

theorem part104 : ∀ x0 x1 x2 x3, Kept h (k0_part104 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part104_eq_skeleton]; unfold k0_part104_skel
  exact kept_bind (kept_store H.s26) fun _ => kept_bind (kept_load H.l27) fun _ => kept_bind (kept_store H.s27) fun _ => kept_bind
      (kept_for fun _ _ => body2 H _ _ _ _ _ _) fun _ => kept_bind (kept_for fun _ _ => body3 H _ _ _ _ _ _ _) fun _ => kept_pure _

theorem part21 : ∀ x0 x1 x2, Kept h (k0_part21 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part21_eq_skeleton]; unfold k0_part21_skel
  exact kept_bind (kept_load H.l20) fun _ => kept_bind (kept_load H.l29) fun _ => kept_bind (kept_load H.l26) fun _ => kept_bind
      (kept_load H.l27) fun _ => kept_bind (kept_load H.l27) fun _ => kept_bind (kept_store H.s27) fun _ => kept_bind (kept_load H.l26)
      fun _ => kept_pure _

theorem part22 : ∀ x0 x1 x2, Kept h (k0_part22 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part22_eq_skeleton]; unfold k0_part22_skel
  exact kept_bind (kept_store H.s26) fun _ => kept_bind (kept_load H.l29) fun _ => kept_bind (kept_load H.l26) fun _ => kept_bind
      (kept_load H.l27) fun _ => kept_bind (kept_load H.l27) fun _ => kept_bind (kept_store H.s27) fun _ => kept_bind (kept_load H.l26)
      fun _ => kept_bind (kept_store H.s26) fun _ => kept_pure _

theorem part23 : ∀ x0 x1, Kept h (k0_part23 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part23_eq_skeleton]; unfold k0_part23_skel
  exact kept_bind (kept_load H.l29) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l29) fun _ => kept_pure _

theorem part24 : ∀ x0 x1 x2, Kept h (k0_part24 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part24_eq_skeleton]; unfold k0_part24_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part25 : ∀ x0 x1 x2 x3 x4, Kept h (k0_part25 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part25_eq_skeleton]; unfold k0_part25_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part26 : ∀ x0 x1 x2 x3, Kept h (k0_part26 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part26_eq_skeleton]; unfold k0_part26_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part27 : ∀ x0 x1 x2, Kept h (k0_part27 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part27_eq_skeleton]; unfold k0_part27_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_bind (kept_load H.l26) fun _ => kept_pure _

theorem part28 : ∀ x0 x1 x2 x3 x4 x5, Kept h (k0_part28 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part28_eq_skeleton]; unfold k0_part28_skel
  exact kept_bind (kept_store H.s26) fun _ => kept_bind (kept_load H.l29) fun _ => kept_bind (kept_load H.l26) fun _ => kept_bind
      (kept_load H.l27) fun _ => kept_bind (kept_load H.l27) fun _ => kept_bind (kept_store H.s27) fun _ => kept_bind (kept_load H.l26)
      fun _ => kept_bind (kept_store H.s26) fun _ => kept_bind (kept_load H.l20) fun _ => kept_pure _

theorem part29 : ∀ x0 x1 x2, Kept h (k0_part29 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part29_eq_skeleton]; unfold k0_part29_skel
  exact kept_bind (kept_load H.l29) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_pure _

end Cert.NsaIdeal.Safe

end
-- ==== Proof.NsaIdealSafeB.lean ====
/- The attention kernel only loads from its operands and scratch and stores to its result and scratch: the remaining parts, the loops and the whole body. -/
module

public import proofs.«01_k».proof.Proof.NsaIdealSafeA

@[expose] public section

noncomputable section

namespace Cert.NsaIdeal.Safe

open Idealize.ShloMosaic Idealize.ShloMosaic.TcCoe Cert.SafeRun Cert.NsaIdeal Cert.NsaIdeal.Gen
open Idealize.SL Idealize.SL.RA Idealize.SL.Sem

variable {F : FTy → Type} [FloatOps F]

variable {h : Holder nD τ sig Unit (Elt F) ℕ (UR sig nD τ) ℕ Λ₀}
variable {i : grid0.Coords}
  {arg2 : Memref sig .tc .vmem S1x2048x256 .f32} {harg2 : arg2.IsWhole}
  {arg3 : Memref sig .tc .vmem S1x2048x256 .f32} {harg3 : arg3.IsWhole}
  {arg4 : Memref sig .tc .vmem S1x2048x128 .f32} {harg4 : arg4.IsWhole}
  {arg5 : Memref sig .tc .vmem S1x2048x128 .f32} {harg5 : arg5.IsWhole}
  {arg6 : Memref sig .tc .vmem S1x64x256 .f32} {harg6 : arg6.IsWhole}
  {arg7 : Memref sig .tc .vmem S1x3x64 .f32} {harg7 : arg7.IsWhole}
  {arg8 : Memref sig .tc .vmem S32x128 .bf16} {harg8 : arg8.IsWhole}
  {arg9 : Memref sig .tc .vmem S2048x64 .bf16} {harg9 : arg9.IsWhole}
  {arg10 : Memref sig .tc .vmem S2048x64 .bf16} {harg10 : arg10.IsWhole}
  {arg11 : Memref sig .tc .vmem S128x64 .bf16} {harg11 : arg11.IsWhole}
  {arg12 : Memref sig .tc .vmem S1x16x1x128 .f32} {harg12 : arg12.IsWhole}
  {arg13 : Memref sig .tc .vmem S1x16x1x128 .f32} {harg13 : arg13.IsWhole}
  {arg14 : Memref sig .tc .vmem S1x16x128x128 .bf16} {harg14 : arg14.IsWhole}
  {arg15 : Memref sig .tc .vmem S1x16x128x128 .bf16} {harg15 : arg15.IsWhole}
  {arg16 : Memref sig .tc .vmem S1x128x128 .bf16} {harg16 : arg16.IsWhole}
  {arg17 : Memref sig .tc .vmem S1x2048x256 .bf16} {harg17 : arg17.IsWhole}
  {arg18 : Memref sig .tc .vmem S2048x128 .bf16} {harg18 : arg18.IsWhole}
  {arg19 : Memref sig .tc .vmem S2048x128 .bf16} {harg19 : arg19.IsWhole}
  {arg20 : Memref sig .tc .vmem S8x80x256 .bf16} {harg20 : arg20.IsWhole}
  {arg21 : Memref sig .tc .vmem S8x80x256 .bf16} {harg21 : arg21.IsWhole}
  {arg22 : Memref sig .tc .vmem S128x128 .bf16} {harg22 : arg22.IsWhole}
  {arg23 : Memref sig .tc .vmem S64x128 .bf16} {harg23 : arg23.IsWhole}
  {arg24 : Memref sig .tc .vmem S4x128x256 .bf16} {harg24 : arg24.IsWhole}
  {arg25 : Memref sig .tc .vmem S2x256x256 .f32} {harg25 : arg25.IsWhole}
  {arg26 : Memref sig .tc .vmem S4x1x256 .f32} {harg26 : arg26.IsWhole}
  {arg27 : Memref sig .tc .vmem S4x80x256 .f32} {harg27 : arg27.IsWhole}
  {arg28 : Memref sig .tc .vmem S3x4x256x256 .f32} {harg28 : arg28.IsWhole}
  {arg29 : Memref sig .tc .vmem S2x4x256x256 .f32} {harg29 : arg29.IsWhole}
variable (H : Lent h arg2 arg3 arg4 arg5 arg6 arg7 arg8 arg9 arg10 arg11 arg12 arg13 arg14 arg15 arg16 arg17 arg18 arg19 arg20 arg21 arg22 arg23 arg24 arg25 arg26 arg27 arg28 arg29)
include H

theorem part30 : ∀ x0 x1, Kept h (k0_part30 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part30_eq_skeleton]; unfold k0_part30_skel
  exact kept_bind (kept_load H.l29) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l29) fun _ => kept_pure _

theorem part31 : ∀ x0 x1 x2 x3, Kept h (k0_part31 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part31_eq_skeleton]; unfold k0_part31_skel
  exact kept_bind (kept_load H.l26) fun _ => kept_bind (kept_load H.l27) fun _ => kept_bind (kept_load H.l27) fun _ => kept_bind
      (kept_store H.s27) fun _ => kept_bind (kept_load H.l26) fun _ => kept_bind (kept_store H.s26) fun _ => kept_bind (kept_load H.l29)
      fun _ => kept_bind (kept_load H.l26) fun _ => kept_pure _

theorem part105 : ∀ x0 x1 x2 x3 x4 x5 x6 x7 x8, Kept h (k0_part105 i arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26 harg26 arg27 harg27 arg28
    harg28 arg29 harg29 x0 x1 x2 x3 x4 x5 x6 x7 x8) := by
  intro x0 x1 x2 x3 x4 x5 x6 x7 x8
  rw [k0_part105_eq_skeleton]; unfold k0_part105_skel
  exact kept_dite (fun _ => kept_bind (part21 H _ _ _) fun _ => kept_bind (part22 H _ _ _) fun _ => kept_bind (part23 H _ _) fun _ =>
      kept_bind (kept_load H.l26) fun _ => kept_bind (kept_load H.l27) fun _ => kept_bind (kept_load H.l27) fun _ => kept_bind (kept_store
      H.s27) fun _ => kept_bind (kept_load H.l26) fun _ => kept_bind (kept_store H.s26) fun _ => kept_dite (fun _ => kept_bind (part24 H _
      _ _) fun _ => kept_bind (part25 H _ _ _ _ _) fun _ => kept_bind (part26 H _ _ _ _) fun _ => kept_bind (part27 H _ _ _) fun _ =>
      kept_bind (part28 H _ _ _ _ _ _) fun _ => kept_bind (part29 H _ _ _) fun _ => kept_bind (part30 H _ _) fun _ => kept_bind (part31 H
      _ _ _ _) fun _ => kept_bind (kept_load H.l27) fun _ => kept_bind (kept_load H.l27) fun _ => kept_bind (kept_store H.s27) fun _ =>
      kept_bind (kept_load H.l26) fun _ => kept_bind (kept_store H.s26) fun _ => kept_bind (kept_load H.l27) fun _ => kept_bind (kept_load
      H.l25) fun _ => kept_pure _) fun _ => kept_bind (kept_load H.l27) fun _ => kept_bind (kept_load H.l25) fun _ => kept_pure _) fun _
      => kept_dite (fun _ => kept_bind (part24 H _ _ _) fun _ => kept_bind (part25 H _ _ _ _ _) fun _ => kept_bind (part26 H _ _ _ _) fun
      _ => kept_bind (part27 H _ _ _) fun _ => kept_bind (part28 H _ _ _ _ _ _) fun _ => kept_bind (part29 H _ _ _) fun _ => kept_bind
      (part30 H _ _) fun _ => kept_bind (part31 H _ _ _ _) fun _ => kept_bind (kept_load H.l27) fun _ => kept_bind (kept_load H.l27) fun _
      => kept_bind (kept_store H.s27) fun _ => kept_bind (kept_load H.l26) fun _ => kept_bind (kept_store H.s26) fun _ => kept_bind
      (kept_load H.l27) fun _ => kept_bind (kept_load H.l25) fun _ => kept_pure _) fun _ => kept_bind (kept_load H.l27) fun _ => kept_bind
      (kept_load H.l25) fun _ => kept_pure _

theorem part106 : ∀ x0 x1 x2, Kept h (k0_part106 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part106_eq_skeleton]; unfold k0_part106_skel
  exact kept_bind (kept_load H.l25) fun _ => kept_bind (kept_store H.s25) fun _ => kept_bind (kept_load H.l27) fun _ => kept_bind
      (kept_load H.l25) fun _ => kept_bind (kept_load H.l25) fun _ => kept_bind (kept_store H.s25) fun _ => kept_bind (kept_load H.l27)
      fun _ => kept_pure _

theorem part107 : ∀ x0 x1 x2, Kept h (k0_part107 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part107_eq_skeleton]; unfold k0_part107_skel
  exact kept_bind (kept_load H.l25) fun _ => kept_bind (kept_load H.l25) fun _ => kept_bind (kept_store H.s25) fun _ => kept_bind
      (kept_load H.l27) fun _ => kept_bind (kept_load H.l25) fun _ => kept_bind (kept_load H.l25) fun _ => kept_bind (kept_store H.s25)
      fun _ => kept_load H.l25

theorem part108 : ∀ x0 x1 x2 x3 x4, Kept h (k0_part108 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part108_eq_skeleton]; unfold k0_part108_skel
  exact kept_bind (kept_load H.l17) fun _ => kept_bind (kept_store H.s17) fun _ => kept_bind (kept_load H.l5) fun _ => kept_bind
      (kept_load H.l2) fun _ => kept_bind (kept_load H.l6) fun _ => kept_pure _

theorem part109 : ∀ x0 x1 x2 x3 x4, Kept h (k0_part109 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part109_eq_skeleton]; unfold k0_part109_skel
  exact kept_bind (kept_load H.l24) fun _ => kept_bind (kept_store H.s24) fun _ => kept_bind (kept_load H.l24) fun _ => kept_bind
      (kept_store H.s24) fun _ => kept_bind (kept_load H.l24) fun _ => kept_bind (kept_store H.s24) fun _ => kept_bind (kept_load H.l6)
      fun _ => kept_pure _

theorem part110 : ∀ x0 x1 x2 x3 x4, Kept h (k0_part110 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part110_eq_skeleton]; unfold k0_part110_skel
  exact kept_bind (kept_load H.l24) fun _ => kept_bind (kept_store H.s24) fun _ => kept_bind (kept_load H.l24) fun _ => kept_bind
      (kept_store H.s24) fun _ => kept_bind (kept_load H.l24) fun _ => kept_bind (kept_store H.s24) fun _ => kept_bind (kept_load H.l6)
      fun _ => kept_pure _

theorem part111 : ∀ x0 x1 x2 x3 x4, Kept h (k0_part111 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part111_eq_skeleton]; unfold k0_part111_skel
  exact kept_bind (kept_load H.l24) fun _ => kept_bind (kept_store H.s24) fun _ => kept_bind (kept_load H.l24) fun _ => kept_bind
      (kept_store H.s24) fun _ => kept_bind (kept_load H.l24) fun _ => kept_bind (kept_store H.s24) fun _ => kept_bind (kept_load H.l6)
      fun _ => kept_pure _

theorem part112 : ∀ x0 x1 x2 x3 x4, Kept h (k0_part112 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part112_eq_skeleton]; unfold k0_part112_skel
  exact kept_bind (kept_load H.l24) fun _ => kept_bind (kept_store H.s24) fun _ => kept_bind (kept_load H.l24) fun _ => kept_bind
      (kept_store H.s24) fun _ => kept_bind (kept_load H.l24) fun _ => kept_bind (kept_store H.s24) fun _ => kept_pure _

theorem part113 : ∀ x0 x1, Kept h (k0_part113 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part113_eq_skeleton]; unfold k0_part113_skel
  exact kept_bind (kept_load H.l22) fun _ => kept_bind (kept_load H.l24) fun _ => kept_bind (kept_load H.l22) fun _ => kept_bind
      (kept_load H.l24) fun _ => kept_bind (kept_load H.l22) fun _ => kept_bind (kept_load H.l24) fun _ => kept_bind (kept_load H.l22) fun
      _ => kept_bind (kept_load H.l24) fun _ => kept_bind (kept_load H.l19) fun _ => kept_bind (kept_load H.l24) fun _ => kept_pure _

theorem part114 : ∀ x0 x1, Kept h (k0_part114 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part114_eq_skeleton]; unfold k0_part114_skel
  exact kept_bind (kept_load H.l28) fun _ => kept_bind (kept_store H.s28) fun _ => kept_bind (kept_load H.l24) fun _ => kept_bind
      (kept_load H.l28) fun _ => kept_bind (kept_store H.s28) fun _ => kept_bind (kept_load H.l24) fun _ => kept_bind (kept_load H.l28)
      fun _ => kept_bind (kept_store H.s28) fun _ => kept_bind (kept_load H.l24) fun _ => kept_pure _

theorem part115 : ∀ x0 x1 x2 x3 x4 x5 x6 x7, Kept h (k0_part115 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part115_eq_skeleton]; unfold k0_part115_skel
  exact kept_bind (kept_load H.l28) fun _ => kept_bind (kept_store H.s28) fun _ => kept_bind (kept_load H.l23) fun _ => kept_bind
      (kept_load H.l25) fun _ => kept_bind (kept_store H.s25) fun _ => kept_bind (kept_load H.l8) fun _ => kept_pure _

theorem part116 : ∀ x0 x1 x2 x3 x4 x5 x6, Kept h (k0_part116 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6) := by
  intro x0 x1 x2 x3 x4 x5 x6
  rw [k0_part116_eq_skeleton]; unfold k0_part116_skel
  exact kept_bind (kept_load H.l23) fun _ => kept_bind (kept_load H.l25) fun _ => kept_bind (kept_store H.s25) fun _ => kept_bind
      (kept_load H.l8) fun _ => kept_pure _

theorem part117 : ∀ x0 x1 x2 x3 x4 x5 x6 x7, Kept h (k0_part117 i arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 arg26 harg26 arg27 harg27 arg28 harg28
    arg29 harg29 x0 x1 x2 x3 x4 x5 x6 x7) := by
  intro x0 x1 x2 x3 x4 x5 x6 x7
  rw [k0_part117_eq_skeleton]; unfold k0_part117_skel
  exact kept_bind (kept_load H.l23) fun _ => kept_bind (kept_load H.l25) fun _ => kept_bind (kept_store H.s25) fun _ => kept_bind
      (kept_load H.l8) fun _ => kept_bind (kept_load H.l23) fun _ => kept_pure _

theorem part118 : ∀ x0 x1 x2 x3 x4, Kept h (k0_part118 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part118_eq_skeleton]; unfold k0_part118_skel
  exact kept_bind (kept_load H.l25) fun _ => kept_bind (kept_store H.s25) fun _ => kept_bind (kept_load H.l8) fun _ => kept_bind
      (kept_load H.l19) fun _ => kept_bind (kept_load H.l24) fun _ => kept_bind (kept_load H.l28) fun _ => kept_bind (kept_store H.s28)
      fun _ => kept_bind (kept_load H.l24) fun _ => kept_bind (kept_load H.l28) fun _ => kept_bind (kept_store H.s28) fun _ => kept_bind
      (kept_load H.l24) fun _ => kept_pure _

theorem part119 : ∀ x0 x1 x2 x3, Kept h (k0_part119 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part119_eq_skeleton]; unfold k0_part119_skel
  exact kept_bind (kept_load H.l28) fun _ => kept_bind (kept_store H.s28) fun _ => kept_bind (kept_load H.l24) fun _ => kept_bind
      (kept_load H.l28) fun _ => kept_bind (kept_store H.s28) fun _ => kept_bind (kept_load H.l19) fun _ => kept_bind (kept_load H.l24)
      fun _ => kept_bind (kept_load H.l28) fun _ => kept_pure _

theorem part120 : ∀ x0 x1, Kept h (k0_part120 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part120_eq_skeleton]; unfold k0_part120_skel
  exact kept_bind (kept_store H.s28) fun _ => kept_bind (kept_load H.l24) fun _ => kept_bind (kept_load H.l28) fun _ => kept_bind
      (kept_store H.s28) fun _ => kept_bind (kept_load H.l24) fun _ => kept_bind (kept_load H.l28) fun _ => kept_bind (kept_store H.s28)
      fun _ => kept_bind (kept_load H.l24) fun _ => kept_bind (kept_load H.l28) fun _ => kept_pure _

theorem part121 : ∀ x0 x1 x2, Kept h (k0_part121 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part121_eq_skeleton]; unfold k0_part121_skel
  exact kept_bind (kept_store H.s28) fun _ => kept_pure _

theorem part122 : ∀ x0 x1 x2 x3 x4, Kept h (k0_part122 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part122_eq_skeleton]; unfold k0_part122_skel
  exact kept_pure _

theorem part153 : ∀ x0 x1 x2 x3, Kept h (k0_part153 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part153_eq_skeleton]; unfold k0_part153_skel
  exact kept_bind (part63 H _ _ _ _) fun _ => kept_bind (part64 H _ _ _ _ _ _) fun _ => kept_bind (part65 H _ _ _ _ _ _) fun _ =>
      kept_bind (part66 H _ _ _ _ _ _) fun _ => kept_bind (part67 H _ _ _ _ _) fun _ => kept_bind (part68 H _ _) fun _ => kept_bind
      (part69 H _ _ _ _) fun _ => kept_bind (part70 H _ _ _ _ _ _ _ _) fun _ => kept_bind (part71 H _ _ _ _ _ _ _ _) fun _ => kept_bind
      (part72 H _ _ _ _ _ _ _ _) fun _ => kept_bind (part73 H _ _ _) fun _ => kept_bind (part74 H _ _ _ _) fun _ => kept_bind (part75 H _
      _ _) fun _ => kept_bind (part76 H _ _ _ _ _ _) fun _ => kept_bind (part77 H _ _ _ _ _ _ _ _) fun _ => kept_bind (part78 H _ _ _ _ _
      _ _ _) fun _ => kept_bind (part79 H _ _ _ _ _ _ _ _) fun _ => kept_bind (part80 H _ _ _ _ _ _ _ _) fun _ => kept_bind (part81 H _ _
      _ _ _ _ _ _) fun _ => kept_bind (part82 H _ _ _ _ _ _ _ _) fun _ => kept_bind (part83 H _ _ _ _ _ _ _ _) fun _ => kept_bind (part84
      H _ _ _ _ _ _ _ _) fun _ => kept_bind (part85 H _ _ _ _ _ _ _ _) fun _ => kept_bind (part86 H _ _ _ _ _ _ _ _) fun _ => kept_bind
      (part87 H _ _ _ _ _ _ _ _) fun _ => kept_bind (part88 H _ _ _) fun _ => kept_bind (part89 H _ _ _ _ _) fun _ => kept_bind (part90 H
      _ _ _ _) fun _ => kept_bind (part91 H _ _ _) fun _ => kept_bind (part92 H _) fun _ => kept_bind (part93 H _ _ _ _) fun _ =>
      kept_bind (part94 H _) fun _ => kept_bind (part95 H _ _) fun _ => kept_bind (part96 H _ _ _ _) fun _ => kept_bind (part97 H _ _ _ _
      _ _ _) fun _ => kept_bind (part98 H _ _) fun _ => kept_bind (part99 H _ _) fun _ => kept_bind (part100 H _ _ _) fun _ => kept_bind
      (part101 H _ _ _ _ _ _) fun _ => kept_bind (part102 H _ _ _) fun _ => kept_bind (part103 H _ _ _ _ _) fun _ => kept_bind (part104 H
      _ _ _ _) fun _ => kept_bind (part105 H _ _ _ _ _ _ _ _ _) fun _ => kept_bind (part106 H _ _ _) fun _ => kept_bind (part107 H _ _ _)
      fun _ => kept_bind (part108 H _ _ _ _ _) fun _ => kept_bind (part109 H _ _ _ _ _) fun _ => kept_bind (part110 H _ _ _ _ _) fun _ =>
      kept_bind (part111 H _ _ _ _ _) fun _ => kept_bind (part112 H _ _ _ _ _) fun _ => kept_bind (part113 H _ _) fun _ => kept_bind
      (part114 H _ _) fun _ => kept_bind (part115 H _ _ _ _ _ _ _ _) fun _ => kept_bind (part116 H _ _ _ _ _ _ _) fun _ => kept_bind
      (part117 H _ _ _ _ _ _ _ _) fun _ => kept_bind (part118 H _ _ _ _ _) fun _ => kept_bind (part119 H _ _ _ _) fun _ => kept_bind
      (part120 H _ _) fun _ => kept_bind (part121 H _ _ _) fun _ => kept_bind (part122 H _ _ _ _ _) fun _ => kept_pure _

theorem part123 : ∀ x0 x1 x2 x3 x4, Kept h (k0_part123 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part123_eq_skeleton]; unfold k0_part123_skel
  exact kept_pure _

theorem part124 : ∀ x0 x1 x2 x3 x4, Kept h (k0_part124 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part124_eq_skeleton]; unfold k0_part124_skel
  exact kept_pure _

theorem part125 : ∀ x0 x1 x2 x3 x4, Kept h (k0_part125 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part125_eq_skeleton]; unfold k0_part125_skel
  exact kept_pure _

theorem part126 : ∀ x0 x1 x2 x3 x4, Kept h (k0_part126 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part126_eq_skeleton]; unfold k0_part126_skel
  exact kept_pure _

theorem part127 : ∀ x0 x1 x2 x3 x4, Kept h (k0_part127 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part127_eq_skeleton]; unfold k0_part127_skel
  exact kept_pure _

theorem part128 : ∀ x0 x1 x2 x3 x4, Kept h (k0_part128 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part128_eq_skeleton]; unfold k0_part128_skel
  exact kept_pure _

theorem part129 : ∀ x0 x1 x2 x3 x4, Kept h (k0_part129 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part129_eq_skeleton]; unfold k0_part129_skel
  exact kept_pure _

theorem part130 : ∀ x0 x1 x2 x3 x4, Kept h (k0_part130 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part130_eq_skeleton]; unfold k0_part130_skel
  exact kept_pure _

theorem part131 : ∀ x0 x1 x2 x3 x4, Kept h (k0_part131 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part131_eq_skeleton]; unfold k0_part131_skel
  exact kept_pure _

theorem part132 : ∀ x0 x1 x2 x3 x4, Kept h (k0_part132 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part132_eq_skeleton]; unfold k0_part132_skel
  exact kept_bind (kept_load H.l24) fun _ => kept_bind (kept_store H.s24) fun _ => kept_bind (kept_load H.l24) fun _ => kept_bind
      (kept_store H.s24) fun _ => kept_pure _

theorem part133 : ∀ x0 x1 x2, Kept h (k0_part133 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part133_eq_skeleton]; unfold k0_part133_skel
  exact kept_bind (kept_load H.l24) fun _ => kept_bind (kept_store H.s24) fun _ => kept_bind (kept_load H.l24) fun _ => kept_bind
      (kept_store H.s24) fun _ => kept_bind (kept_load H.l26) fun _ => kept_bind (kept_store H.s26) fun _ => kept_bind (kept_load H.l27)
      fun _ => kept_bind (kept_store H.s27) fun _ => kept_bind (kept_load H.l21) fun _ => kept_bind (kept_load H.l28) fun _ => kept_bind
      (kept_load H.l26) fun _ => kept_pure _

theorem part134 : ∀ x0 x1 x2 x3 x4, Kept h (k0_part134 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part134_eq_skeleton]; unfold k0_part134_skel
  exact kept_bind (kept_load H.l27) fun _ => kept_bind (kept_load H.l27) fun _ => kept_bind (kept_store H.s27) fun _ => kept_bind
      (kept_load H.l26) fun _ => kept_bind (kept_store H.s26) fun _ => kept_bind (kept_load H.l28) fun _ => kept_bind (kept_load H.l26)
      fun _ => kept_pure _

theorem part135 : ∀ x0 x1 x2 x3 x4, Kept h (k0_part135 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part135_eq_skeleton]; unfold k0_part135_skel
  exact kept_bind (kept_load H.l27) fun _ => kept_bind (kept_load H.l27) fun _ => kept_bind (kept_store H.s27) fun _ => kept_bind
      (kept_load H.l26) fun _ => kept_bind (kept_store H.s26) fun _ => kept_bind (kept_load H.l28) fun _ => kept_bind (kept_load H.l26)
      fun _ => kept_bind (kept_load H.l27) fun _ => kept_pure _

theorem part136 : ∀ x0 x1 x2 x3 x4 x5, Kept h (k0_part136 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part136_eq_skeleton]; unfold k0_part136_skel
  exact kept_bind (kept_load H.l27) fun _ => kept_bind (kept_store H.s27) fun _ => kept_bind (kept_load H.l26) fun _ => kept_bind
      (kept_store H.s26) fun _ => kept_bind (kept_load H.l28) fun _ => kept_bind (kept_load H.l26) fun _ => kept_bind (kept_load H.l27)
      fun _ => kept_pure _

theorem part137 : ∀ x0 x1 x2, Kept h (k0_part137 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part137_eq_skeleton]; unfold k0_part137_skel
  exact kept_bind (kept_load H.l27) fun _ => kept_bind (kept_store H.s27) fun _ => kept_bind (kept_load H.l26) fun _ => kept_bind
      (kept_store H.s26) fun _ => kept_bind (kept_load H.l26) fun _ => kept_bind (kept_load H.l26) fun _ => kept_bind (kept_store H.s26)
      fun _ => kept_bind (kept_load H.l27) fun _ => kept_bind (kept_load H.l27) fun _ => kept_bind (kept_store H.s27) fun _ => kept_bind
      (kept_load H.l18) fun _ => kept_bind (kept_load H.l24) fun _ => kept_pure _

theorem part138 : ∀ x0 x1, Kept h (k0_part138 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part138_eq_skeleton]; unfold k0_part138_skel
  exact kept_bind (kept_load H.l29) fun _ => kept_bind (kept_store H.s29) fun _ => kept_bind (kept_load H.l24) fun _ => kept_bind
      (kept_load H.l29) fun _ => kept_bind (kept_store H.s29) fun _ => kept_bind (kept_load H.l24) fun _ => kept_bind (kept_load H.l29)
      fun _ => kept_bind (kept_store H.s29) fun _ => kept_bind (kept_load H.l24) fun _ => kept_pure _

theorem part139 : ∀ x0 x1 x2, Kept h (k0_part139 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part139_eq_skeleton]; unfold k0_part139_skel
  exact kept_bind (kept_load H.l29) fun _ => kept_bind (kept_store H.s29) fun _ => kept_bind (kept_load H.l21) fun _ => kept_bind
      (kept_load H.l28) fun _ => kept_bind (kept_load H.l26) fun _ => kept_bind (kept_load H.l27) fun _ => kept_bind (kept_load H.l27) fun
      _ => kept_bind (kept_store H.s27) fun _ => kept_bind (kept_load H.l26) fun _ => kept_pure _

theorem part140 : ∀ x0 x1, Kept h (k0_part140 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part140_eq_skeleton]; unfold k0_part140_skel
  exact kept_bind (kept_store H.s26) fun _ => kept_bind (kept_load H.l28) fun _ => kept_bind (kept_load H.l26) fun _ => kept_bind
      (kept_load H.l27) fun _ => kept_bind (kept_load H.l27) fun _ => kept_bind (kept_store H.s27) fun _ => kept_bind (kept_load H.l26)
      fun _ => kept_bind (kept_store H.s26) fun _ => kept_pure _

theorem part141 : ∀ x0, Kept h (k0_part141 i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29 x0) := by
  intro x0
  rw [k0_part141_eq_skeleton]; unfold k0_part141_skel
  exact kept_bind (kept_load H.l28) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l28) fun _ => kept_bind (kept_load H.l26) fun _ => kept_pure _

theorem part142 : ∀ x0 x1 x2 x3 x4, Kept h (k0_part142 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part142_eq_skeleton]; unfold k0_part142_skel
  exact kept_bind (kept_load H.l27) fun _ => kept_bind (kept_load H.l27) fun _ => kept_bind (kept_store H.s27) fun _ => kept_bind
      (kept_load H.l26) fun _ => kept_bind (kept_store H.s26) fun _ => kept_bind (kept_load H.l26) fun _ => kept_bind (kept_load H.l26)
      fun _ => kept_bind (kept_store H.s26) fun _ => kept_bind (kept_load H.l27) fun _ => kept_bind (kept_load H.l27) fun _ => kept_pure _

theorem part143 : ∀ x0 x1 x2, Kept h (k0_part143 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part143_eq_skeleton]; unfold k0_part143_skel
  exact kept_bind (kept_store H.s27) fun _ => kept_bind (kept_load H.l21) fun _ => kept_bind (kept_load H.l28) fun _ => kept_bind
      (kept_load H.l26) fun _ => kept_bind (kept_load H.l27) fun _ => kept_bind (kept_load H.l27) fun _ => kept_bind (kept_store H.s27)
      fun _ => kept_bind (kept_load H.l26) fun _ => kept_pure _

theorem part144 : ∀ x0 x1 x2, Kept h (k0_part144 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part144_eq_skeleton]; unfold k0_part144_skel
  exact kept_bind (kept_store H.s26) fun _ => kept_bind (kept_load H.l28) fun _ => kept_bind (kept_load H.l26) fun _ => kept_bind
      (kept_load H.l27) fun _ => kept_bind (kept_load H.l27) fun _ => kept_bind (kept_store H.s27) fun _ => kept_bind (kept_load H.l26)
      fun _ => kept_bind (kept_store H.s26) fun _ => kept_pure _

theorem part145 : ∀ x0 x1, Kept h (k0_part145 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part145_eq_skeleton]; unfold k0_part145_skel
  exact kept_bind (kept_load H.l28) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l28) fun _ => kept_pure _

theorem part146 : ∀ x0 x1 x2 x3 x4, Kept h (k0_part146 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part146_eq_skeleton]; unfold k0_part146_skel
  exact kept_bind (kept_load H.l26) fun _ => kept_bind (kept_load H.l27) fun _ => kept_bind (kept_load H.l27) fun _ => kept_bind
      (kept_store H.s27) fun _ => kept_bind (kept_load H.l26) fun _ => kept_bind (kept_store H.s26) fun _ => kept_bind (kept_load H.l27)
      fun _ => kept_bind (kept_load H.l25) fun _ => kept_pure _

theorem part147 : ∀ x0 x1 x2 x3 x4, Kept h (k0_part147 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part147_eq_skeleton]; unfold k0_part147_skel
  exact kept_bind (kept_load H.l25) fun _ => kept_bind (kept_store H.s25) fun _ => kept_bind (kept_load H.l27) fun _ => kept_bind
      (kept_load H.l25) fun _ => kept_bind (kept_load H.l25) fun _ => kept_bind (kept_store H.s25) fun _ => kept_bind (kept_load H.l27)
      fun _ => kept_pure _

theorem part148 : ∀ x0 x1 x2 x3, Kept h (k0_part148 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part148_eq_skeleton]; unfold k0_part148_skel
  exact kept_bind (kept_load H.l25) fun _ => kept_bind (kept_load H.l25) fun _ => kept_bind (kept_store H.s25) fun _ => kept_bind
      (kept_load H.l27) fun _ => kept_bind (kept_load H.l25) fun _ => kept_pure _

theorem part32 : ∀ x0 x1 x2 x3, Kept h (k0_part32 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part32_eq_skeleton]; unfold k0_part32_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part33 : ∀ x0 x1 x2 x3 x4, Kept h (k0_part33 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part33_eq_skeleton]; unfold k0_part33_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part34 : ∀ x0 x1 x2 x3, Kept h (k0_part34 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part34_eq_skeleton]; unfold k0_part34_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part35 : ∀ x0 x1 x2 x3 x4, Kept h (k0_part35 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part35_eq_skeleton]; unfold k0_part35_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_pure _

theorem part36 : ∀ x0 x1 x2, Kept h (k0_part36 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part36_eq_skeleton]; unfold k0_part36_skel
  exact kept_bind (kept_load H.l26) fun _ => kept_bind (kept_store H.s26) fun _ => kept_bind (kept_load H.l29) fun _ => kept_bind
      (kept_load H.l26) fun _ => kept_bind (kept_load H.l27) fun _ => kept_bind (kept_load H.l27) fun _ => kept_bind (kept_store H.s27)
      fun _ => kept_bind (kept_load H.l26) fun _ => kept_bind (kept_store H.s26) fun _ => kept_pure _

theorem part37 : ∀ x0 x1 x2, Kept h (k0_part37 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part37_eq_skeleton]; unfold k0_part37_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part38 : ∀ x0 x1 x2 x3 x4, Kept h (k0_part38 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part38_eq_skeleton]; unfold k0_part38_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part39 : ∀ x0 x1 x2 x3, Kept h (k0_part39 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part39_eq_skeleton]; unfold k0_part39_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part40 : ∀ x0 x1 x2, Kept h (k0_part40 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part40_eq_skeleton]; unfold k0_part40_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_bind (kept_load H.l26) fun _ => kept_pure _

theorem part41 : ∀ x0 x1 x2 x3, Kept h (k0_part41 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part41_eq_skeleton]; unfold k0_part41_skel
  exact kept_bind (part32 H _ _ _ _) fun _ => kept_bind (part33 H _ _ _ _ _) fun _ => kept_bind (part34 H _ _ _ _) fun _ => kept_bind
      (part35 H _ _ _ _ _) fun _ => kept_bind (part36 H _ _ _) fun _ => kept_bind (part37 H _ _ _) fun _ => kept_bind (part38 H _ _ _ _ _)
      fun _ => kept_bind (part39 H _ _ _ _) fun _ => kept_bind (part40 H _ _ _) fun _ => kept_bind (kept_store H.s26) fun _ => kept_bind
      (kept_load H.l29) fun _ => kept_bind (kept_load H.l26) fun _ => kept_bind (kept_load H.l27) fun _ => kept_bind (kept_load H.l27) fun
      _ => kept_bind (kept_store H.s27) fun _ => kept_bind (kept_load H.l26) fun _ => kept_bind (kept_store H.s26) fun _ => kept_pure _

theorem body4 : ∀ x0 x1 x2, ∀ k u, Kept h (k0_t4_body i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 k u) := by
  intro x0 x1 x2
  intro k u; unfold k0_t4_body
  exact kept_bind (part41 H _ _ _ _) fun _ => kept_pure _

theorem part42 : ∀ x0 x1 x2 x3, Kept h (k0_part42 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part42_eq_skeleton]; unfold k0_part42_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part43 : ∀ x0 x1 x2 x3 x4, Kept h (k0_part43 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part43_eq_skeleton]; unfold k0_part43_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part44 : ∀ x0 x1 x2 x3, Kept h (k0_part44 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part44_eq_skeleton]; unfold k0_part44_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part45 : ∀ x0 x1 x2 x3 x4, Kept h (k0_part45 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part45_eq_skeleton]; unfold k0_part45_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_pure _

theorem part46 : ∀ x0 x1 x2, Kept h (k0_part46 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part46_eq_skeleton]; unfold k0_part46_skel
  exact kept_bind (kept_load H.l26) fun _ => kept_bind (kept_store H.s26) fun _ => kept_bind (kept_load H.l29) fun _ => kept_bind
      (kept_load H.l26) fun _ => kept_bind (kept_load H.l27) fun _ => kept_bind (kept_load H.l27) fun _ => kept_bind (kept_store H.s27)
      fun _ => kept_bind (kept_load H.l26) fun _ => kept_bind (kept_store H.s26) fun _ => kept_pure _

theorem part47 : ∀ x0 x1 x2, Kept h (k0_part47 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part47_eq_skeleton]; unfold k0_part47_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part48 : ∀ x0 x1 x2 x3 x4, Kept h (k0_part48 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part48_eq_skeleton]; unfold k0_part48_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part49 : ∀ x0 x1 x2 x3, Kept h (k0_part49 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part49_eq_skeleton]; unfold k0_part49_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part50 : ∀ x0 x1 x2, Kept h (k0_part50 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part50_eq_skeleton]; unfold k0_part50_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_bind (kept_load H.l26) fun _ => kept_pure _

theorem part51 : ∀ x0 x1 x2 x3, Kept h (k0_part51 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part51_eq_skeleton]; unfold k0_part51_skel
  exact kept_bind (part42 H _ _ _ _) fun _ => kept_bind (part43 H _ _ _ _ _) fun _ => kept_bind (part44 H _ _ _ _) fun _ => kept_bind
      (part45 H _ _ _ _ _) fun _ => kept_bind (part46 H _ _ _) fun _ => kept_bind (part47 H _ _ _) fun _ => kept_bind (part48 H _ _ _ _ _)
      fun _ => kept_bind (part49 H _ _ _ _) fun _ => kept_bind (part50 H _ _ _) fun _ => kept_bind (kept_store H.s26) fun _ => kept_bind
      (kept_load H.l29) fun _ => kept_bind (kept_load H.l26) fun _ => kept_bind (kept_load H.l27) fun _ => kept_bind (kept_load H.l27) fun
      _ => kept_bind (kept_store H.s27) fun _ => kept_bind (kept_load H.l26) fun _ => kept_bind (kept_store H.s26) fun _ => kept_pure _

theorem body5 : ∀ x0 x1 x2 x3, ∀ k u, Kept h (k0_t5_body i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 k u) := by
  intro x0 x1 x2 x3
  intro k u; unfold k0_t5_body
  exact kept_bind (part51 H _ _ _ _) fun _ => kept_pure _

theorem part149 : ∀ x0 x1 x2, Kept h (k0_part149 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part149_eq_skeleton]; unfold k0_part149_skel
  exact kept_bind (kept_load H.l25) fun _ => kept_bind (kept_store H.s25) fun _ => kept_bind (kept_load H.l26) fun _ => kept_bind
      (kept_store H.s26) fun _ => kept_bind (kept_load H.l27) fun _ => kept_bind (kept_store H.s27) fun _ => kept_bind (kept_for fun _ _
      => body4 H _ _ _ _ _) fun _ => kept_bind (kept_for fun _ _ => body5 H _ _ _ _ _ _) fun _ => kept_pure _

theorem part52 : ∀ x0 x1 x2, Kept h (k0_part52 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part52_eq_skeleton]; unfold k0_part52_skel
  exact kept_bind (kept_load H.l20) fun _ => kept_bind (kept_load H.l29) fun _ => kept_bind (kept_load H.l26) fun _ => kept_bind
      (kept_load H.l27) fun _ => kept_bind (kept_load H.l27) fun _ => kept_bind (kept_store H.s27) fun _ => kept_bind (kept_load H.l26)
      fun _ => kept_pure _

theorem part53 : ∀ x0 x1 x2, Kept h (k0_part53 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part53_eq_skeleton]; unfold k0_part53_skel
  exact kept_bind (kept_store H.s26) fun _ => kept_bind (kept_load H.l29) fun _ => kept_bind (kept_load H.l26) fun _ => kept_bind
      (kept_load H.l27) fun _ => kept_bind (kept_load H.l27) fun _ => kept_bind (kept_store H.s27) fun _ => kept_bind (kept_load H.l26)
      fun _ => kept_bind (kept_store H.s26) fun _ => kept_pure _

theorem part54 : ∀ x0 x1, Kept h (k0_part54 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part54_eq_skeleton]; unfold k0_part54_skel
  exact kept_bind (kept_load H.l29) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l29) fun _ => kept_pure _

theorem part55 : ∀ x0 x1 x2, Kept h (k0_part55 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part55_eq_skeleton]; unfold k0_part55_skel
  exact kept_bind (kept_load H.l18) fun _ => kept_bind (kept_load H.l24) fun _ => kept_bind (kept_load H.l29) fun _ => kept_bind
      (kept_store H.s29) fun _ => kept_bind (kept_load H.l24) fun _ => kept_bind (kept_load H.l29) fun _ => kept_bind (kept_store H.s29)
      fun _ => kept_bind (kept_load H.l24) fun _ => kept_pure _

theorem part56 : ∀ x0 x1 x2 x3 x4, Kept h (k0_part56 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4) := by
  intro x0 x1 x2 x3 x4
  rw [k0_part56_eq_skeleton]; unfold k0_part56_skel
  exact kept_bind (kept_load H.l29) fun _ => kept_bind (kept_store H.s29) fun _ => kept_bind (kept_load H.l24) fun _ => kept_bind
      (kept_load H.l29) fun _ => kept_bind (kept_store H.s29) fun _ => kept_bind (kept_load H.l20) fun _ => kept_bind (kept_load H.l29)
      fun _ => kept_bind (kept_load H.l26) fun _ => kept_pure _

theorem part57 : ∀ x0 x1 x2 x3, Kept h (k0_part57 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part57_eq_skeleton]; unfold k0_part57_skel
  exact kept_bind (kept_load H.l27) fun _ => kept_bind (kept_load H.l27) fun _ => kept_bind (kept_store H.s27) fun _ => kept_bind
      (kept_load H.l26) fun _ => kept_bind (kept_store H.s26) fun _ => kept_bind (kept_load H.l29) fun _ => kept_bind (kept_load H.l26)
      fun _ => kept_bind (kept_load H.l27) fun _ => kept_pure _

theorem part58 : ∀ x0 x1 x2, Kept h (k0_part58 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part58_eq_skeleton]; unfold k0_part58_skel
  exact kept_bind (kept_load H.l27) fun _ => kept_bind (kept_store H.s27) fun _ => kept_bind (kept_load H.l26) fun _ => kept_bind
      (kept_store H.s26) fun _ => kept_bind (kept_load H.l29) fun _ => kept_bind (kept_load H.l26) fun _ => kept_bind (kept_load H.l27)
      fun _ => kept_bind (kept_load H.l27) fun _ => kept_bind (kept_store H.s27) fun _ => kept_bind (kept_load H.l26) fun _ => kept_pure _

theorem part59 : ∀ x0 x1 x2 x3 x4 x5, Kept h (k0_part59 i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3 x4 x5) := by
  intro x0 x1 x2 x3 x4 x5
  rw [k0_part59_eq_skeleton]; unfold k0_part59_skel
  exact kept_bind (kept_store H.s26) fun _ => kept_bind (kept_load H.l29) fun _ => kept_bind (kept_load H.l26) fun _ => kept_bind
      (kept_load H.l27) fun _ => kept_bind (kept_load H.l27) fun _ => kept_bind (kept_store H.s27) fun _ => kept_bind (kept_load H.l26)
      fun _ => kept_bind (kept_store H.s26) fun _ => kept_bind (kept_load H.l20) fun _ => kept_pure _

theorem part60 : ∀ x0 x1 x2, Kept h (k0_part60 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part60_eq_skeleton]; unfold k0_part60_skel
  exact kept_bind (kept_load H.l29) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_pure _

theorem part61 : ∀ x0 x1, Kept h (k0_part61 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1) := by
  intro x0 x1
  rw [k0_part61_eq_skeleton]; unfold k0_part61_skel
  exact kept_bind (kept_load H.l29) fun _ => kept_bind (kept_load H.l26) fun _ => kept_bind (kept_load H.l27) fun _ => kept_bind
      (kept_load H.l27) fun _ => kept_bind (kept_store H.s27) fun _ => kept_bind (kept_load H.l26) fun _ => kept_bind (kept_store H.s26)
      fun _ => kept_bind (kept_load H.l29) fun _ => kept_pure _

theorem part62 : ∀ x0 x1 x2 x3, Kept h (k0_part62 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part62_eq_skeleton]; unfold k0_part62_skel
  exact kept_bind (kept_load H.l26) fun _ => kept_bind (kept_load H.l27) fun _ => kept_bind (kept_load H.l27) fun _ => kept_bind
      (kept_store H.s27) fun _ => kept_bind (kept_load H.l26) fun _ => kept_bind (kept_store H.s26) fun _ => kept_bind (kept_load H.l29)
      fun _ => kept_bind (kept_load H.l26) fun _ => kept_pure _

theorem part150 : ∀ x0 x1 x2, Kept h (k0_part150 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part150_eq_skeleton]; unfold k0_part150_skel
  exact kept_dite (fun _ => kept_bind (part52 H _ _ _) fun _ => kept_bind (part53 H _ _ _) fun _ => kept_bind (part54 H _ _) fun _ =>
      kept_bind (kept_load H.l26) fun _ => kept_bind (kept_load H.l27) fun _ => kept_bind (kept_load H.l27) fun _ => kept_bind (kept_store
      H.s27) fun _ => kept_bind (kept_load H.l26) fun _ => kept_bind (kept_store H.s26) fun _ => kept_dite (fun _ => kept_bind (part55 H _
      _ _) fun _ => kept_bind (part56 H _ _ _ _ _) fun _ => kept_bind (part57 H _ _ _ _) fun _ => kept_bind (part58 H _ _ _) fun _ =>
      kept_bind (part59 H _ _ _ _ _ _) fun _ => kept_bind (part60 H _ _ _) fun _ => kept_bind (part61 H _ _) fun _ => kept_bind (part62 H
      _ _ _ _) fun _ => kept_bind (kept_load H.l27) fun _ => kept_bind (kept_load H.l27) fun _ => kept_bind (kept_store H.s27) fun _ =>
      kept_bind (kept_load H.l26) fun _ => kept_bind (kept_store H.s26) fun _ => kept_bind (kept_load H.l27) fun _ => kept_bind (kept_load
      H.l25) fun _ => kept_pure _) fun _ => kept_bind (kept_load H.l27) fun _ => kept_bind (kept_load H.l25) fun _ => kept_pure _) fun _
      => kept_dite (fun _ => kept_bind (part55 H _ _ _) fun _ => kept_bind (part56 H _ _ _ _ _) fun _ => kept_bind (part57 H _ _ _ _) fun
      _ => kept_bind (part58 H _ _ _) fun _ => kept_bind (part59 H _ _ _ _ _ _) fun _ => kept_bind (part60 H _ _ _) fun _ => kept_bind
      (part61 H _ _) fun _ => kept_bind (part62 H _ _ _ _) fun _ => kept_bind (kept_load H.l27) fun _ => kept_bind (kept_load H.l27) fun _
      => kept_bind (kept_store H.s27) fun _ => kept_bind (kept_load H.l26) fun _ => kept_bind (kept_store H.s26) fun _ => kept_bind
      (kept_load H.l27) fun _ => kept_bind (kept_load H.l25) fun _ => kept_pure _) fun _ => kept_bind (kept_load H.l27) fun _ => kept_bind
      (kept_load H.l25) fun _ => kept_pure _

theorem part151 : ∀ x0 x1 x2 x3, Kept h (k0_part151 i arg2 harg2 arg3 harg3 arg4 harg4 arg5 harg5 arg6 harg6 arg7 harg7 arg8 harg8 arg9
    harg9 arg10 harg10 arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27 arg28 harg28 arg29
    harg29 x0 x1 x2 x3) := by
  intro x0 x1 x2 x3
  rw [k0_part151_eq_skeleton]; unfold k0_part151_skel
  exact kept_bind (kept_load H.l25) fun _ => kept_bind (kept_store H.s25) fun _ => kept_bind (kept_load H.l27) fun _ => kept_bind
      (kept_load H.l25) fun _ => kept_bind (kept_load H.l25) fun _ => kept_bind (kept_store H.s25) fun _ => kept_bind (kept_load H.l27)
      fun _ => kept_pure _

theorem part152 : ∀ x0 x1 x2, Kept h (k0_part152 i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0
    x1 x2) := by
  intro x0 x1 x2
  rw [k0_part152_eq_skeleton]; unfold k0_part152_skel
  exact kept_bind (kept_load H.l25) fun _ => kept_bind (kept_load H.l25) fun _ => kept_bind (kept_store H.s25) fun _ => kept_bind
      (kept_load H.l27) fun _ => kept_bind (kept_load H.l25) fun _ => kept_pure _

theorem body1 : ∀ x0, ∀ k u, Kept h (k0_t1_body i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17 arg18 harg18 arg19 harg19
    arg20 harg20 arg21 harg21 arg22 harg22 arg23 harg23 arg24 harg24 arg25 harg25 arg26 harg26 arg27 harg27 arg28 harg28 arg29 harg29 x0 k
    u) := by
  intro x0
  intro k u; unfold k0_t1_body
  exact kept_bind (part153 H _ _ _ _) fun _ => kept_bind (part123 H _ _ _ _ _) fun _ => kept_bind (part124 H _ _ _ _ _) fun _ => kept_bind
      (part125 H _ _ _ _ _) fun _ => kept_bind (part126 H _ _ _ _ _) fun _ => kept_bind (part127 H _ _ _ _ _) fun _ => kept_bind (part128
      H _ _ _ _ _) fun _ => kept_bind (part129 H _ _ _ _ _) fun _ => kept_bind (part130 H _ _ _ _ _) fun _ => kept_bind (part131 H _ _ _ _
      _) fun _ => kept_bind (part132 H _ _ _ _ _) fun _ => kept_bind (part133 H _ _ _) fun _ => kept_bind (part134 H _ _ _ _ _) fun _ =>
      kept_bind (part135 H _ _ _ _ _) fun _ => kept_bind (part136 H _ _ _ _ _ _) fun _ => kept_bind (part137 H _ _ _) fun _ => kept_bind
      (part138 H _ _) fun _ => kept_bind (part139 H _ _ _) fun _ => kept_bind (part140 H _ _) fun _ => kept_bind (part141 H _) fun _ =>
      kept_bind (part142 H _ _ _ _ _) fun _ => kept_bind (part143 H _ _ _) fun _ => kept_bind (part144 H _ _ _) fun _ => kept_bind
      (part145 H _ _) fun _ => kept_bind (part146 H _ _ _ _ _) fun _ => kept_bind (part147 H _ _ _ _ _) fun _ => kept_bind (part148 H _ _
      _ _) fun _ => kept_bind (part149 H _ _ _) fun _ => kept_bind (part150 H _ _ _) fun _ => kept_bind (part151 H _ _ _ _) fun _ =>
      kept_bind (part152 H _ _ _) fun _ => kept_bind (kept_load H.l25) fun _ => kept_bind (kept_store H.s25) fun _ => kept_bind (kept_load
      H.l25) fun _ => kept_bind (kept_load H.l17) fun _ => kept_bind (kept_store H.s17) fun _ => kept_pure _

theorem whole : Kept h (cc0_nsa i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 arg28 harg28 arg29 harg29) := by
  rw [cc0_nsa_eq_skeleton]; unfold cc0_nsa_skel
  exact kept_bind (part154 H) fun _ => kept_bind (part155 H _ _ _) fun _ => kept_bind (part156 H _ _) fun _ => kept_bind (part157 H _) fun
      _ => kept_bind (part158 H _ _ _ _ _) fun _ => kept_bind (part159 H _) fun _ => kept_bind (part160 H _ _ _) fun _ => kept_bind
      (part161 H _ _) fun _ => kept_bind (part162 H _ _ _) fun _ => kept_bind (part163 H _ _ _ _) fun _ => kept_bind (part164 H _ _ _ _)
      fun _ => kept_bind (part165 H _ _ _ _) fun _ => kept_bind (part166 H _ _ _) fun _ => kept_bind (part167 H _ _ _ _) fun _ =>
      kept_bind (part168 H _ _ _) fun _ => kept_bind (part169 H _ _ _) fun _ => kept_bind (part170 H _ _ _ _) fun _ => kept_bind (part171
      H _ _ _) fun _ => kept_bind (part172 H _ _ _) fun _ => kept_bind (kept_load H.l11) fun _ => kept_bind (kept_load H.l22) fun _ =>
      kept_bind (kept_store H.s22) fun _ => kept_bind (kept_load H.l23) fun _ => kept_bind (kept_store H.s23) fun _ => kept_bind (kept_for
      fun _ _ => body1 H _ _ _) fun _ => kept_pure _

end Cert.NsaIdeal.Safe

end
-- ==== Proof.NsaIdealRun.lean ====
/- The frame of the attention call: every weakly fair run ends, with the argument arrays as launched and
   every semaphore counter at zero. The body keeps what it holds (`Safe.whole`), so at each grid point
   the staged inputs come back at their blocks, and the staged output and the scratch at some contents. -/
module

public import proofs.«01_k».proof.Proof.NsaIdealSafeB
public import proofs.«01_k».proof.Proof.Gen.NsaIdeal.Frame

@[expose] public section

set_option maxRecDepth 16384

noncomputable section

namespace Cert.NsaIdeal.Safe

open Idealize.ShloMosaic Idealize.ShloMosaic.TcCoe Idealize.ShloMosaic.Tactic Cert.SafeRun Cert.NsaIdeal Cert.NsaIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one output window, whose contents are not tracked. -/
def untracked : Fin 16 → Bool := fun w => w.val == 15

/-- What the pipeline holds around each point: the inputs at their blocks, nothing said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨n + 15, h⟩ => Pipeline.Dat.unnamed (cfg := cfg0) ⟨n + 15, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t := before0_0_of m (dats m 0 c) (by dsimp only [dats]) (fun t => by dsimp only [dats]) t d
theorem before_1 (c : Dev nD) (t : Fin cfg0.N) (d) : (dats m 0 c).before 1 t d = iblk m c 1 t := before0_1_of m (dats m 0 c) (by dsimp only [dats]) (fun t => by dsimp only [dats]) t d
theorem before_2 (c : Dev nD) (t : Fin cfg0.N) (d) : (dats m 0 c).before 2 t d = iblk m c 2 t := before0_2_of m (dats m 0 c) (by dsimp only [dats]) (fun t => by dsimp only [dats]) t d
theorem before_3 (c : Dev nD) (t : Fin cfg0.N) (d) : (dats m 0 c).before 3 t d = iblk m c 3 t := before0_3_of m (dats m 0 c) (by dsimp only [dats]) (fun t => by dsimp only [dats]) t d
theorem before_4 (c : Dev nD) (t : Fin cfg0.N) (d) : (dats m 0 c).before 4 t d = iblk m c 4 t := before0_4_of m (dats m 0 c) (by dsimp only [dats]) (fun t => by dsimp only [dats]) t d
theorem before_5 (c : Dev nD) (t : Fin cfg0.N) (d) : (dats m 0 c).before 5 t d = iblk m c 5 t := before0_5_of m (dats m 0 c) (by dsimp only [dats]) (fun t => by dsimp only [dats]) t d
theorem before_6 (c : Dev nD) (t : Fin cfg0.N) (d) : (dats m 0 c).before 6 t d = iblk m c 6 t := before0_6_of m (dats m 0 c) (by dsimp only [dats]) (fun t => by dsimp only [dats]) t d
theorem before_7 (c : Dev nD) (t : Fin cfg0.N) (d) : (dats m 0 c).before 7 t d = iblk m c 7 t := before0_7_of m (dats m 0 c) (by dsimp only [dats]) (fun t => by dsimp only [dats]) t d
theorem before_8 (c : Dev nD) (t : Fin cfg0.N) (d) : (dats m 0 c).before 8 t d = iblk m c 8 t := before0_8_of m (dats m 0 c) (by dsimp only [dats]) (fun t => by dsimp only [dats]) t d
theorem before_9 (c : Dev nD) (t : Fin cfg0.N) (d) : (dats m 0 c).before 9 t d = iblk m c 9 t := before0_9_of m (dats m 0 c) (by dsimp only [dats]) (fun t => by dsimp only [dats]) t d
theorem before_10 (c : Dev nD) (t : Fin cfg0.N) (d) : (dats m 0 c).before 10 t d = iblk m c 10 t := before0_10_of m (dats m 0 c) (by dsimp only [dats]) (fun t => by dsimp only [dats]) t d
theorem before_11 (c : Dev nD) (t : Fin cfg0.N) (d) : (dats m 0 c).before 11 t d = iblk m c 11 t := before0_11_of m (dats m 0 c) (by dsimp only [dats]) (fun t => by dsimp only [dats]) t d
theorem before_12 (c : Dev nD) (t : Fin cfg0.N) (d) : (dats m 0 c).before 12 t d = iblk m c 12 t := before0_12_of m (dats m 0 c) (by dsimp only [dats]) (fun t => by dsimp only [dats]) t d
theorem before_13 (c : Dev nD) (t : Fin cfg0.N) (d) : (dats m 0 c).before 13 t d = iblk m c 13 t := before0_13_of m (dats m 0 c) (by dsimp only [dats]) (fun t => by dsimp only [dats]) t d
theorem before_14 (c : Dev nD) (t : Fin cfg0.N) (d) : (dats m 0 c).before 14 t d = iblk m c 14 t := before0_14_of m (dats m 0 c) (by dsimp only [dats]) (fun t => by dsimp only [dats]) t d

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]

/-- What the body holds at a point, before and after. -/
def held (c : Dev nD) (t : Fin cfg0.N) : sProp 𝕄 :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owns (c : Thread nD τ) (st0_13 t) fullShare (iblk m c 13 t)
    ∗ owns (c : Thread nD τ) (st0_14 t) fullShare (iblk m c 14 t)
    ∗ (∃ d, owns (c : Thread nD τ) (st0_15 t) fullShare d))

/-- The holder of the body at a point. -/
def holder (c : Dev nD) (t : Fin cfg0.N) : Holder nD τ sig Unit (Elt F) ℕ (UR sig nD τ) ℕ Λ₀ where
  defs := defs₀
  vars := Variants.none
  dev := c
  mask := Set.univ
  res := held m c t

theorem res_eq (c : Dev nD) (t : Fin cfg0.N) : (holder m c t).res = held m c t := rfl

set_option maxHeartbeats 1000000 in
/-- It lends every operand. -/
theorem lent (c : Dev nD) (t : Fin cfg0.N) : Lent (holder m c t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15))
    (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) := by
  constructor
  all_goals
    try unfold Lends
    try unfold Yields
    rw [res_eq]; unfold held Pipeline.ΦA; rw [scopedRest0_eq]
  · exact (lendsOf_operand (hstage0_0 ((cfg0.slots t 0).cast nbuf0_0)) _ _).left.right.right
  · exact (lendsOf_operand (hstage0_1 ((cfg0.slots t 1).cast nbuf0_1)) _ _).left.right.right.right
  · exact (lendsOf_operand (hstage0_2 ((cfg0.slots t 2).cast nbuf0_2)) _ _).left.right.right.right.right
  · exact (lendsOf_operand (hstage0_3 ((cfg0.slots t 3).cast nbuf0_3)) _ _).left.right.right.right.right.right
  · exact (lendsOf_operand (hstage0_4 ((cfg0.slots t 4).cast nbuf0_4)) _ _).left.right.right.right.right.right.right
  · exact (lendsOf_operand (hstage0_5 ((cfg0.slots t 5).cast nbuf0_5)) _ _).left.right.right.right.right.right.right.right
  · exact (lendsOf_operand (hstage0_6 ((cfg0.slots t 6).cast nbuf0_6)) _ _).left.right.right.right.right.right.right.right.right
  · exact (lendsOf_operand (hstage0_7 ((cfg0.slots t 7).cast nbuf0_7)) _ _).left.right.right.right.right.right.right.right.right.right
  · exact (lendsOf_operand (hstage0_8 ((cfg0.slots t 8).cast nbuf0_8)) _ _).left.right.right.right.right.right.right.right.right.right.right
  · exact (lendsOf_operand (hstage0_9 ((cfg0.slots t 9).cast nbuf0_9)) _ _).left.right.right.right.right.right.right.right.right.right.right.right
  · exact (lendsOf_operand (hstage0_10 ((cfg0.slots t 10).cast nbuf0_10)) _ _).left.right.right.right.right.right.right.right.right.right.right.right.right
  · exact (lendsOf_operand (hstage0_11 ((cfg0.slots t 11).cast nbuf0_11)) _ _).left.right.right.right.right.right.right.right.right.right.right.right.right.right
  · exact (lendsOf_operand (hstage0_12 ((cfg0.slots t 12).cast nbuf0_12)) _ _).left.right.right.right.right.right.right.right.right.right.right.right.right.right.right
  · exact (lendsOf_operand (hstage0_13 ((cfg0.slots t 13).cast nbuf0_13)) _ _).left.right.right.right.right.right.right.right.right.right.right.right.right.right.right.right
  · exact (lendsOf_operand (hstage0_14 ((cfg0.slots t 14).cast nbuf0_14)) _ _).left.right.right.right.right.right.right.right.right.right.right.right.right.right.right.right.right
  · exact (yieldsOf_operand (hstage0_15 ((cfg0.slots t 15).cast nbuf0_15))).right.right.right.right.right.right.right.right.right.right.right.right.right.right.right.right.right.lends
  · exact (yieldsOf_buffer _).left.left.left.lends
  · exact (yieldsOf_buffer _).left.right.left.left.lends
  · exact (yieldsOf_buffer _).left.right.right.left.left.lends
  · exact (yieldsOf_buffer _).left.right.right.right.left.left.lends
  · exact (yieldsOf_buffer _).left.right.right.right.right.left.left.lends
  · exact (yieldsOf_buffer _).left.right.right.right.right.right.left.left.lends
  · exact (yieldsOf_buffer _).left.right.right.right.right.right.right.left.left.lends
  · exact (yieldsOf_buffer _).left.right.right.right.right.right.right.right.left.left.lends
  · exact (yieldsOf_buffer _).left.right.right.right.right.right.right.right.right.left.left.lends
  · exact (yieldsOf_buffer _).left.right.right.right.right.right.right.right.right.right.left.left.lends
  · exact (yieldsOf_buffer _).left.right.right.right.right.right.right.right.right.right.right.left.left.lends
  · exact (yieldsOf_buffer _).right.right.right.right.right.right.right.right.right.right.right.left.left.lends
  · exact (yieldsOf_operand (hstage0_15 ((cfg0.slots t 15).cast nbuf0_15))).right.right.right.right.right.right.right.right.right.right.right.right.right.right.right.right.right
  · exact (yieldsOf_buffer _).left.left.left
  · exact (yieldsOf_buffer _).left.right.left.left
  · exact (yieldsOf_buffer _).left.right.right.left.left
  · exact (yieldsOf_buffer _).left.right.right.right.left.left
  · exact (yieldsOf_buffer _).left.right.right.right.right.left.left
  · exact (yieldsOf_buffer _).left.right.right.right.right.right.left.left
  · exact (yieldsOf_buffer _).left.right.right.right.right.right.right.left.left
  · exact (yieldsOf_buffer _).left.right.right.right.right.right.right.right.left.left
  · exact (yieldsOf_buffer _).left.right.right.right.right.right.right.right.right.left.left
  · exact (yieldsOf_buffer _).left.right.right.right.right.right.right.right.right.right.left.left
  · exact (yieldsOf_buffer _).left.right.right.right.right.right.right.right.right.right.right.left.left
  · exact (yieldsOf_buffer _).right.right.right.right.right.right.right.right.right.right.right.left.left

/-- The body at a point keeps what it holds. -/
theorem body_kept (c : Dev nD) (t : Fin cfg0.N) :
    held m c t ⊢ wp frame (wpE (defs₀ (F := F)) Variants.none c none) Set.univ (bodyAt0 t) (fun _ => held m c t) :=
  whole (lent m c t)

theorem row (t : Fin cfg0.N) : defs₀ (F := F) .tc cfg0.body (cfg0.bodyArgs t (cfg0.slots t)) = bodyAt0 t := by
  unfold defs₀; rw [Defs.onTc_tc]

/-- What the pipeline hands the body is what it holds. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare d))

theorem given_held (c : Dev nD) (t : Fin cfg0.N) : given m c t ⊢ held m c t := by
  unfold given held
  simp only [before_0, before_1, before_2, before_3, before_4, before_5, before_6, before_7, before_8, before_9, before_10, before_11, before_12, before_13, before_14]
  rw [show (dats m 0 c).Φ t.castSucc = Pipeline.ΦA spec0 c from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- What it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare d))

theorem held_returned (c : Dev nD) (t : Fin cfg0.N) : held m c t ⊢ returned m c t := by
  unfold returned held
  simp only [after_0, after_1, after_2, after_3, after_4, after_5, after_6, after_7, after_8, after_9, after_10, after_11, after_12, after_13, after_14]
  rw [show (dats m 0 c).Φ t.succ = Pipeline.ΦA spec0 c from rfl,
    show (dats m 0 c).owesAt () t.succ = (dats m 0 c).owesAt () t.castSucc from rfl]

theorem body_run (c : Dev nD) (t : Fin cfg0.N) :
    given m c t ⊢ wp frame (wpE (defs₀ (F := F)) Variants.none c none) Set.univ (bodyAt0 t) (fun _ => returned m c t) :=
  (given_held m c t).trans ((body_kept m c t).trans (wp_mono _ _ _ fun _ => held_returned m c t))

theorem body_obligation (c : Dev nD) : BodyObligation (dats (F := F) m 0 c) (defs₀ (F := F)) Variants.none () Set.univ untracked := fun t => by
  rw [bigSep_W0, bigSep_W0, row]
  exact triple_restated (body_run m c t) rfl .rfl fun _ => .rfl

set_option backward.isDefEq.respectTransparency.types false in
/-- Every run of the program ends with the counters at zero, its input arrays as the region found them. -/
theorem runs : θ_run defs (onTc (τ := τ) (main (F := F))) (s₀ m ρ)
    (fun r => (Pipeline.RDat.FramePost (cfgs 0) (fun c => (dats m 0 c).toRForget untracked) (V m)) r ∧ r.2.sem = fun _ => 0) :=
  Pipeline.θ_run_frame_forget (Q' := _) cfgs (dats m) (0 : Fin 1) launch0 defs₀ Variants.none untracked m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- An array the region leaves as it found it is as launched. -/
theorem args_kept {r : PUnit × MemSt nD τ sig (Elt F)}
    (h : Pipeline.RDat.FramePost (cfgs 0) (fun c => (dats m 0 c).toRForget untracked) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (Pipeline.RDat.FramePost.arr_in h c 6 rfl).trans ((A_eq m c 6).trans (V_main_arg9 m c)),
    (Pipeline.RDat.FramePost.arr_in h c 7 rfl).trans ((A_eq m c 7).trans (V_main_arg10 m c)),
    (Pipeline.RDat.FramePost.arr_in h c 8 rfl).trans ((A_eq m c 8).trans (V_main_arg11 m c)),
    (Pipeline.RDat.FramePost.arr_in h c 9 rfl).trans ((A_eq m c 9).trans (V_main_arg12 m c))⟩

/-- The argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ hr => ⟨args_kept m hr.1, hr.2⟩) (runs m ρ)

end Cert.NsaIdeal.Safe

end
-- ==== Proof.ProjectionArrays.lean ====
module

public import proofs.«01_k».proof.Defs
public import proofs.«01_k».proof.Proof.Gen.InProjIdeal.Value
public import Idealize.ShloMosaic.Lib.Pipeline.ValueKit

@[expose] public section
set_option maxRecDepth 16384
noncomputable section
namespace Cert.InProjIdeal.Proj
open Idealize.ShloMosaic Idealize.ShloMosaic.TcCoe Cert.InProjIdeal Cert.InProjIdeal.Gen
open Idealize.SL.Sem

variable (m : (ℓ : Loc nD τ sig) → Buf (Elt Ideal) ℓ)

/-- The projection matrices as the call is handed them. -/
abbrev W (c : Dev nD) : FVec Ideal S4x1024x2328 .f32 := m ((c.tc : Thread nD τ).loc main_arg2)

/-- The columns of the packed projection matrix, from its fifteen pieces. -/
def packed {F : FTy → Type} [FloatOps F] (a0 : FVec F S4x1024x768 .f32) (a1 : FVec F S4x1024x64 .f32) (a2 : FVec F S4x1024x64 .f32) (a3 : FVec F S4x1024x64 .f32) (a4 : FVec F S4x1024x64 .f32) (a5 : FVec F S4x1024x64 .f32) (a6 : FVec F S4x1024x64 .f32) (a7 : FVec F S4x1024x64 .f32) (a8 : FVec F S4x1024x64 .f32) (a9 : FVec F S4x1024x64 .f32) (a10 : FVec F S4x1024x64 .f32) (a11 : FVec F S4x1024x64 .f32) (a12 : FVec F S4x1024x64 .f32) (a13 : FVec F S4x1024x768 .f32) (a14 : FVec F S4x1024x128 .f32) : FVec F S4x1024x2432 .f32 :=
  concatenate S4x1024x2432 2 [⟨S4x1024x768, a0⟩, ⟨S4x1024x64, a1⟩, ⟨S4x1024x64, a2⟩, ⟨S4x1024x64, a3⟩, ⟨S4x1024x64, a4⟩, ⟨S4x1024x64, a5⟩, ⟨S4x1024x64, a6⟩, ⟨S4x1024x64, a7⟩, ⟨S4x1024x64, a8⟩, ⟨S4x1024x64, a9⟩, ⟨S4x1024x64, a10⟩, ⟨S4x1024x64, a11⟩, ⟨S4x1024x64, a12⟩, ⟨S4x1024x768, a13⟩, ⟨S4x1024x128, a14⟩] concatenates_S4x1024x768_S4x1024x64_S4x1024x64_S4x1024x64_S4x1024x64_S4x1024x64_S4x1024x64_S4x1024x64_S4x1024x64_S4x1024x64_S4x1024x64_S4x1024x64_S4x1024x64_S4x1024x768_S4x1024x128_S4x1024x2432_d2

/-- The buffers before the columns are laid side by side. -/
def before (c : Dev nD) : Valuation τ sig (Elt Ideal) :=
  StableHlo.after [hostOps0, hostOps0_1, hostOps0_2.take 2].flatten (fun b => m (c, b))

theorem entry_packed (c : Dev nD) : V m c main_v23 = (truncf .bf16 (packed (F := Ideal) (before m c (Proc.tc.devRef main_v20)) (before m c (Proc.tc.devRef main_v6)) (before m c (Proc.tc.devRef main_v7)) (before m c (Proc.tc.devRef main_v8)) (before m c (Proc.tc.devRef main_v9)) (before m c (Proc.tc.devRef main_v10)) (before m c (Proc.tc.devRef main_v11)) (before m c (Proc.tc.devRef main_v12)) (before m c (Proc.tc.devRef main_v13)) (before m c (Proc.tc.devRef main_v14)) (before m c (Proc.tc.devRef main_v15)) (before m c (Proc.tc.devRef main_v16)) (before m c (Proc.tc.devRef main_v17)) (before m c (Proc.tc.devRef main_v21)) (before m c (Proc.tc.devRef main_v19))) bitsLt_bf16_f32 : FVec Ideal S4x1024x2432 .bf16) := by
  have h : StableHlo.after [hostOps0, hostOps0_1, hostOps0_2].flatten (fun b => m (c, b)) = StableHlo.after (hostOps0_2.drop 2) (before m c) := rfl
  change StableHlo.after _ _ _ = _
  rw [h]
  generalize before m c = σ
  simp only [hostOps0_2, List.drop]
  after_results_simp
  rfl

/-- `w` columns of the projection matrices from column `o` on. -/
def cols (x : FVec Ideal S4x1024x2328 .f32) (w o : ℕ) (h : w + o ≤ 2328 := by decide) : FVec Ideal ⟨3, ![4, 1024, w]⟩ .f32 :=
  fun i => x (ix3 (i 0) (i 1) ⟨o + (i 2).val, by have := (i 2).isLt; change (i 2).val < w at this; omega⟩)

theorem piece_v20 (c : Dev nD) : before m c (Proc.tc.devRef main_v20) = cols (W m c) 768 0 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v6 (c : Dev nD) : before m c (Proc.tc.devRef main_v6) = cols (W m c) 64 1024 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v7 (c : Dev nD) : before m c (Proc.tc.devRef main_v7) = cols (W m c) 64 1152 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v8 (c : Dev nD) : before m c (Proc.tc.devRef main_v8) = cols (W m c) 64 1280 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v9 (c : Dev nD) : before m c (Proc.tc.devRef main_v9) = cols (W m c) 64 1408 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v10 (c : Dev nD) : before m c (Proc.tc.devRef main_v10) = cols (W m c) 64 1088 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v11 (c : Dev nD) : before m c (Proc.tc.devRef main_v11) = cols (W m c) 64 1216 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v12 (c : Dev nD) : before m c (Proc.tc.devRef main_v12) = cols (W m c) 64 1344 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v13 (c : Dev nD) : before m c (Proc.tc.devRef main_v13) = cols (W m c) 64 1472 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v14 (c : Dev nD) : before m c (Proc.tc.devRef main_v14) = cols (W m c) 64 768 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v15 (c : Dev nD) : before m c (Proc.tc.devRef main_v15) = cols (W m c) 64 896 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v16 (c : Dev nD) : before m c (Proc.tc.devRef main_v16) = cols (W m c) 64 832 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v17 (c : Dev nD) : before m c (Proc.tc.devRef main_v17) = cols (W m c) 64 960 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v21 (c : Dev nD) : before m c (Proc.tc.devRef main_v21) = cols (W m c) 768 1560 := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  exact congrArg _ (by blk_ext)

theorem piece_v19 (c : Dev nD) : before m c (Proc.tc.devRef main_v19) =
    (fun i => if h : (i 2).val < 24 then W m c (ix3 (i 0) (i 1) ⟨1536 + (i 2).val, by omega⟩) else 0 : FVec Ideal S4x1024x128 .f32) := by
  unfold before
  simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
  after_results_simp
  funext i
  idx_vars i
  pointwise
  refine dite_congr rfl (fun _ => rfl) fun _ => ?_
  show ((((0#32 : BitVec 32).toInt : ℝ)) : EReal) = 0
  simp

/-- The column of the projection matrix that stands at column `j` of the packed one, for `j < 2328`. -/
def colOf (j : ℕ) : ℕ :=
  if j < 768 then j
  else if j < 1280 then 768 + 128 * (2 + (j - 768) / 64 % 4) + 64 * ((j - 768) / 256) + j % 64
  else if j < 1536 then 768 + 128 * ((j - 1280) / 64 % 2) + 64 * ((j - 1280) / 128) + j % 64
  else if j < 2304 then j + 24
  else j - 768

theorem colOf_lt (j : ℕ) (h : j < 2328) : colOf j < 2328 := by
  unfold colOf; split_ifs <;> omega

/-- One piece of a row of pieces read at column `j`, `d` columns standing before it. -/
theorem cat_step {n : ℕ} (x : (⟨3, ![4, 1024, n]⟩ : Shape).Idx → EReal) (q : (s : Shape) × (s.Idx → EReal)) (xs)
    (l : Fin 4) (k : Fin 1024) (j : Fin 2432) (d : ℕ) (hd : d ≤ j.val) (hs) (c : ℕ) (hc) (e : c + d = j.val) {X : EReal}
    (h1 : ∀ (c : ℕ) (h : c < n), c + d = j.val → x (ix3 l k ⟨c, h⟩) = X)
    (h2 : d + n ≤ j.val → ∀ hs' c' hc', c' + (d + n) = j.val →
      concatenateAt S4x1024x2432 2 (ix3 l k j) (q :: xs) hs' c' hc' = X) :
    concatenateAt S4x1024x2432 2 (ix3 l k j) (⟨⟨3, ![4, 1024, n]⟩, x⟩ :: q :: xs) hs c hc = X := by
  rw [concatenateAt_cons]
  by_cases h : c < n
  · refine (dif_pos h).trans (Eq.trans (congrArg x ?_) (h1 c h e))
    funext b
    fin_cases b <;> rfl
  · refine (dif_neg h).trans ?_
    exact h2 (by omega) _ (c - n) _ (by omega)

theorem cat_last {n : ℕ} (x : (⟨3, ![4, 1024, n]⟩ : Shape).Idx → EReal)
    (l : Fin 4) (k : Fin 1024) (j : Fin 2432) (hs) (c : ℕ) (hc) {X : EReal} (hn : c < n)
    (h1 : x (ix3 l k ⟨c, hn⟩) = X) :
    concatenateAt S4x1024x2432 2 (ix3 l k j) [⟨⟨3, ![4, 1024, n]⟩, x⟩] hs c hc = X := by
  rw [concatenateAt_singleton]
  refine Eq.trans (congrArg x ?_) h1
  funext b
  fin_cases b <;> rfl

theorem read_col (w : FVec Ideal S4x1024x2328 .f32) (l : Fin 4) (k : Fin 1024) {p q : ℕ} (hp : p < 2328) (hq : q < 2328)
    (h : p = q) : w (ix3 l k ⟨p, hp⟩) = w (ix3 l k ⟨q, hq⟩) := by
  subst h; rfl

theorem colOf_0 {c j : ℕ} (h : c < 768) (e : c + 0 = j) : 0 + c = colOf j := by
  unfold colOf; split_ifs <;> omega
theorem colOf_1 {c j : ℕ} (h : c < 64) (e : c + 768 = j) : 1024 + c = colOf j := by
  unfold colOf; split_ifs <;> omega
theorem colOf_2 {c j : ℕ} (h : c < 64) (e : c + 832 = j) : 1152 + c = colOf j := by
  unfold colOf; split_ifs <;> omega
theorem colOf_3 {c j : ℕ} (h : c < 64) (e : c + 896 = j) : 1280 + c = colOf j := by
  unfold colOf; split_ifs <;> omega
theorem colOf_4 {c j : ℕ} (h : c < 64) (e : c + 960 = j) : 1408 + c = colOf j := by
  unfold colOf; split_ifs <;> omega
theorem colOf_5 {c j : ℕ} (h : c < 64) (e : c + 1024 = j) : 1088 + c = colOf j := by
  unfold colOf; split_ifs <;> omega
theorem colOf_6 {c j : ℕ} (h : c < 64) (e : c + 1088 = j) : 1216 + c = colOf j := by
  unfold colOf; split_ifs <;> omega
theorem colOf_7 {c j : ℕ} (h : c < 64) (e : c + 1152 = j) : 1344 + c = colOf j := by
  unfold colOf; split_ifs <;> omega
theorem colOf_8 {c j : ℕ} (h : c < 64) (e : c + 1216 = j) : 1472 + c = colOf j := by
  unfold colOf; split_ifs <;> omega
theorem colOf_9 {c j : ℕ} (h : c < 64) (e : c + 1280 = j) : 768 + c = colOf j := by
  unfold colOf; split_ifs <;> omega
theorem colOf_10 {c j : ℕ} (h : c < 64) (e : c + 1344 = j) : 896 + c = colOf j := by
  unfold colOf; split_ifs <;> omega
theorem colOf_11 {c j : ℕ} (h : c < 64) (e : c + 1408 = j) : 832 + c = colOf j := by
  unfold colOf; split_ifs <;> omega
theorem colOf_12 {c j : ℕ} (h : c < 64) (e : c + 1472 = j) : 960 + c = colOf j := by
  unfold colOf; split_ifs <;> omega
theorem colOf_13 {c j : ℕ} (h : c < 768) (e : c + 1536 = j) : 1560 + c = colOf j := by
  unfold colOf; split_ifs <;> omega
theorem colOf_14 {c j : ℕ} (e : c + 2304 = j) : 1536 + c = colOf j := by
  unfold colOf; split_ifs <;> omega

set_option maxHeartbeats 1000000 in
theorem entry_apply (c : Dev nD) (l : Fin 4) (k : Fin 1024) (j : Fin 2432) :
    V m c main_v23 (ix3 l k j) = if h : j.val < 2328 then W m c (ix3 l k ⟨colOf j.val, colOf_lt _ h⟩) else (0 : EReal) := by
  rw [entry_packed]
  rw [piece_v20, piece_v6, piece_v7, piece_v8, piece_v9, piece_v10, piece_v11, piece_v12, piece_v13, piece_v14, piece_v15, piece_v16, piece_v17, piece_v21, piece_v19]
  generalize W m c = w
  unfold packed
  have hj := j.isLt
  refine (concatenate_cons_apply _ _ _ _ _ (by exact concatenates_S4x1024x768_S4x1024x64_S4x1024x64_S4x1024x64_S4x1024x64_S4x1024x64_S4x1024x64_S4x1024x64_S4x1024x64_S4x1024x64_S4x1024x64_S4x1024x64_S4x1024x64_S4x1024x768_S4x1024x128_S4x1024x2432_d2) _).trans ?_
  refine cat_step _ _ _ _ _ _ 0 (Nat.zero_le _) _ _ _ rfl (fun c hc e => ?_) fun h hs c hc e => ?_
  · rw [dif_pos (by clear * - hc e; omega)]
    exact read_col w l k _ _ (colOf_0 hc e)
  refine cat_step _ _ _ _ _ _ 768 h _ _ _ e (fun c hc e => ?_) fun h hs c hc e => ?_
  · rw [dif_pos (by clear * - hc e; omega)]
    exact read_col w l k _ _ (colOf_1 hc e)
  refine cat_step _ _ _ _ _ _ 832 h _ _ _ e (fun c hc e => ?_) fun h hs c hc e => ?_
  · rw [dif_pos (by clear * - hc e; omega)]
    exact read_col w l k _ _ (colOf_2 hc e)
  refine cat_step _ _ _ _ _ _ 896 h _ _ _ e (fun c hc e => ?_) fun h hs c hc e => ?_
  · rw [dif_pos (by clear * - hc e; omega)]
    exact read_col w l k _ _ (colOf_3 hc e)
  refine cat_step _ _ _ _ _ _ 960 h _ _ _ e (fun c hc e => ?_) fun h hs c hc e => ?_
  · rw [dif_pos (by clear * - hc e; omega)]
    exact read_col w l k _ _ (colOf_4 hc e)
  refine cat_step _ _ _ _ _ _ 1024 h _ _ _ e (fun c hc e => ?_) fun h hs c hc e => ?_
  · rw [dif_pos (by clear * - hc e; omega)]
    exact read_col w l k _ _ (colOf_5 hc e)
  refine cat_step _ _ _ _ _ _ 1088 h _ _ _ e (fun c hc e => ?_) fun h hs c hc e => ?_
  · rw [dif_pos (by clear * - hc e; omega)]
    exact read_col w l k _ _ (colOf_6 hc e)
  refine cat_step _ _ _ _ _ _ 1152 h _ _ _ e (fun c hc e => ?_) fun h hs c hc e => ?_
  · rw [dif_pos (by clear * - hc e; omega)]
    exact read_col w l k _ _ (colOf_7 hc e)
  refine cat_step _ _ _ _ _ _ 1216 h _ _ _ e (fun c hc e => ?_) fun h hs c hc e => ?_
  · rw [dif_pos (by clear * - hc e; omega)]
    exact read_col w l k _ _ (colOf_8 hc e)
  refine cat_step _ _ _ _ _ _ 1280 h _ _ _ e (fun c hc e => ?_) fun h hs c hc e => ?_
  · rw [dif_pos (by clear * - hc e; omega)]
    exact read_col w l k _ _ (colOf_9 hc e)
  refine cat_step _ _ _ _ _ _ 1344 h _ _ _ e (fun c hc e => ?_) fun h hs c hc e => ?_
  · rw [dif_pos (by clear * - hc e; omega)]
    exact read_col w l k _ _ (colOf_10 hc e)
  refine cat_step _ _ _ _ _ _ 1408 h _ _ _ e (fun c hc e => ?_) fun h hs c hc e => ?_
  · rw [dif_pos (by clear * - hc e; omega)]
    exact read_col w l k _ _ (colOf_11 hc e)
  refine cat_step _ _ _ _ _ _ 1472 h _ _ _ e (fun c hc e => ?_) fun h hs c hc e => ?_
  · rw [dif_pos (by clear * - hc e; omega)]
    exact read_col w l k _ _ (colOf_12 hc e)
  refine cat_step _ _ _ _ _ _ 1536 h _ _ _ e (fun c hc e => ?_) fun h hs c hc e => ?_
  · rw [dif_pos (by clear * - hc e; omega)]
    exact read_col w l k _ _ (colOf_13 hc e)
  refine cat_last _ _ _ _ _ _ _ (by clear * - e hj; omega) ?_
  change (if h : c < 24 then w (ix3 l k ⟨1536 + c, _⟩) else (0 : EReal)) = _
  by_cases h24 : c < 24
  · rw [dif_pos h24, dif_pos (by clear * - h24 e; omega)]
    exact read_col w l k _ _ (colOf_14 e)
  · rw [dif_neg h24, dif_neg (by clear * - h24 e; omega)]

/-- Row `t` of batch `b`, normalised: element `k`. -/
def hn (x : FVec Ideal S16x2048x1024 .f32) (g : FVec Ideal S4x1024 .f32) (b : Fin 16) (t : Fin 2048) (k : Fin 1024) : EReal :=
  x (ix3 b t k) * Ideal.rsqrt (Ideal.div (∑ k : Fin 1024, x (ix3 b t k) * x (ix3 b t k)) (Ideal.ofBits FTy.f32 1149239296#32)
    + Ideal.ofBits FTy.f32 897988541#32) * g (ix2 0 k)

/-- The packed projection at column `q`. -/
def zk (x : FVec Ideal S16x2048x1024 .f32) (g : FVec Ideal S4x1024 .f32) (w : FVec Ideal S4x1024x2328 .f32)
    (b : Fin 16) (t : Fin 2048) (q : ℕ) : EReal :=
  ∑ k : Fin 1024, hn x g b t k * (if h : q < 2328 then w (ix3 0 k ⟨colOf q, colOf_lt _ h⟩) else 0)

abbrev X (c : Dev nD) : FVec Ideal S16x2048x1024 .f32 := m ((c.tc : Thread nD τ).loc main_arg0)
abbrev Gn (c : Dev nD) : FVec Ideal S4x1024 .f32 := m ((c.tc : Thread nD τ).loc main_arg1)

theorem entry_g (c : Dev nD) (k : Fin 1024) : V m c main_v24 (ix3 0 0 k) = Gn m c (ix2 0 k) := by
  have h : StableHlo.after [hostOps0, hostOps0_1, hostOps0_2].flatten (fun b => m (c, b)) =
    StableHlo.after (hostOps0_2.drop 4) (StableHlo.after [hostOps0, hostOps0_1, hostOps0_2.take 4].flatten (fun b => m (c, b))) := rfl
  have h' : StableHlo.after [hostOps0, hostOps0_1, hostOps0_2.take 4].flatten (fun b => m (c, b)) (Proc.tc.devRef main_arg1)
      = m ((c.tc : Thread nD τ).loc main_arg1) := by
    simp only [hostOps0, hostOps0_1, hostOps0_2, List.take, List.flatten_cons, List.flatten_nil, List.append_nil, List.cons_append,
      List.nil_append, StableHlo.TRef.binary, StableHlo.TRef.unary, StableHlo.TRef.toBuf, StableHlo.TRef.ofBuf, cast_eq]
    after_results_simp
  change StableHlo.after _ _ _ _ = _
  rw [h]
  simp only [hostOps0_2, List.drop]
  after_results_simp
  pointwise
  exact congrFun h' _

theorem places : ∀ t : Fin cfg0.N, win0_0.index t = ![(grid0.coords t 0).val, (grid0.coords t 1).val, 0]
    ∧ win0_1.index t = ![0, 0, 0] ∧ win0_2.index t = ![0, 0, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0] :=
  (by decide +kernel : ∀ t : Fin grid0.N, _)

/-- One element of a block of rows: the packed projection there. -/
theorem block_value (c : Dev nD) (t : Fin cfg0.N) (r : Fin 1024) (q q' : ℕ) (hq : q < 2432) (b : Fin 16) (s : Fin 2048)
    (hb : b.val = (grid0.coords t 0).val) (hs : s.val = (grid0.coords t 1).val * 1024 + r.val) (e : q' = q)
    (x : FVec Ideal S1x1024x1024 .f32) (g : FVec Ideal S1x1x1024 .f32) (w : FVec Ideal S1x1024x2432 .f32)
    (hx : x = iblk m c 0 t) (hg : g = iblk m c 1 t) (hw : w = iblk m c 2 t) :
    (∑ k : Fin 1024, x (ix3 0 r k) * Ideal.rsqrt (Ideal.div (∑ k : Fin 1024, x (ix3 0 r k) * x (ix3 0 r k))
                  (Ideal.ofBits FTy.f32 1149239296#32) + Ideal.ofBits FTy.f32 897988541#32) *
          g (ix3 0 0 k) * w (ix3 0 k ⟨q, hq⟩) : EReal)
    = zk (X m c) (Gn m c) (W m c) b s q' := by
  obtain ⟨p0, p1, p2, -⟩ := places t
  have h0 (k : Fin 1024) : x (ix3 0 r k) = X m c (ix3 b s k) := by
    rw [hx]; unfold X
    blk_ext [iblk, V, p0]
  have h1 (k : Fin 1024) : g (ix3 0 0 k) = Gn m c (ix2 0 k) := by
    rw [← entry_g, hg]
    blk_ext [iblk, p1]
  have h2 (k : Fin 1024) : w (ix3 0 k ⟨q, hq⟩) = if h : q < 2328 then W m c (ix3 0 k ⟨colOf q, colOf_lt _ h⟩) else (0 : EReal) := by
    refine Eq.trans ?_ (entry_apply m c 0 k ⟨q, hq⟩)
    rw [hw]
    blk_ext [iblk, p2]
  subst e
  simp only [h0, h1, h2]
  rfl

theorem array3 (c : Dev nD) : (dats m 0 c).arrAt 3 cfg0.N =
    (fun i => zk (X m c) (Gn m c) (W m c) (i 0) (i 1) (0 + (i 2).val) : FVec Ideal S16x2048x256 .f32) := by
  refine (dats m 0 c).arrAt_eq_of_covers 3 _ (by decide +kernel) fun t hf y => ?_
  blk_simp
  rw [after0_3]
  frame_out
  unfold_payloads
  pointwise
  have hp := (places t).2.2.2.1
  have h2 : (y 2).val < 256 := (y 2).isLt
  exact block_value m c t (y 1) (y 2).val (win0_3.index t 2 * 256 + (y 2).val) (by omega) (((View.whole main_v25_0).slice (win0_3.rect t)).emb y 0) (((View.whole main_v25_0).slice (win0_3.rect t)).emb y 1)
    (by blk_simp [hp]) (by blk_simp [hp]) (by blk_simp [hp]) (iblk m c 0 t) (iblk m c 1 t) (iblk m c 2 t) rfl rfl rfl

theorem array4 (c : Dev nD) : (dats m 0 c).arrAt 4 cfg0.N =
    (fun i => zk (X m c) (Gn m c) (W m c) (i 0) (i 1) (256 + (i 2).val) : FVec Ideal S16x2048x512 .f32) := by
  refine (dats m 0 c).arrAt_eq_of_covers 4 _ (by decide +kernel) fun t hf y => ?_
  blk_simp
  rw [after0_4]
  frame_out
  unfold_payloads
  pointwise
  have hp := (places t).2.2.2.2.1
  have h2 : (y 2).val < 512 := (y 2).isLt
  exact block_value m c t (y 1) (256 + (y 2).val) (256 + (win0_4.index t 2 * 512 + (y 2).val)) (by omega) (((View.whole main_v25_1).slice (win0_4.rect t)).emb y 0) (((View.whole main_v25_1).slice (win0_4.rect t)).emb y 1)
    (by blk_simp [hp]) (by blk_simp [hp]) (by blk_simp [hp]) (iblk m c 0 t) (iblk m c 1 t) (iblk m c 2 t) rfl rfl rfl

theorem array5 (c : Dev nD) : (dats m 0 c).arrAt 5 cfg0.N =
    (fun i => zk (X m c) (Gn m c) (W m c) (i 0) (i 1) (768 + (i 2).val) : FVec Ideal S16x2048x512 .f32) := by
  refine (dats m 0 c).arrAt_eq_of_covers 5 _ (by decide +kernel) fun t hf y => ?_
  blk_simp
  rw [after0_5]
  frame_out
  unfold_payloads
  pointwise
  have hp := (places t).2.2.2.2.2.1
  have h2 : (y 2).val < 512 := (y 2).isLt
  exact block_value m c t (y 1) (768 + (y 2).val) (768 + (win0_5.index t 2 * 512 + (y 2).val)) (by omega) (((View.whole main_v25_2).slice (win0_5.rect t)).emb y 0) (((View.whole main_v25_2).slice (win0_5.rect t)).emb y 1)
    (by blk_simp [hp]) (by blk_simp [hp]) (by blk_simp [hp]) (iblk m c 0 t) (iblk m c 1 t) (iblk m c 2 t) rfl rfl rfl

theorem array6 (c : Dev nD) : (dats m 0 c).arrAt 6 cfg0.N =
    (fun i => zk (X m c) (Gn m c) (W m c) (i 0) (i 1) (1280 + (i 2).val) : FVec Ideal S16x2048x256 .f32) := by
  refine (dats m 0 c).arrAt_eq_of_covers 6 _ (by decide +kernel) fun t hf y => ?_
  blk_simp
  rw [after0_6]
  frame_out
  unfold_payloads
  pointwise
  have hp := (places t).2.2.2.2.2.2.1
  have h2 : (y 2).val < 256 := (y 2).isLt
  exact block_value m c t (y 1) (1280 + (y 2).val) (1280 + (win0_6.index t 2 * 256 + (y 2).val)) (by omega) (((View.whole main_v25_3).slice (win0_6.rect t)).emb y 0) (((View.whole main_v25_3).slice (win0_6.rect t)).emb y 1)
    (by blk_simp [hp]) (by blk_simp [hp]) (by blk_simp [hp]) (iblk m c 0 t) (iblk m c 1 t) (iblk m c 2 t) rfl rfl rfl

theorem array7 (c : Dev nD) : (dats m 0 c).arrAt 7 cfg0.N =
    (fun i => zk (X m c) (Gn m c) (W m c) (i 0) (i 1) (1536 + (i 2).val) : FVec Ideal S16x2048x768 .f32) := by
  refine (dats m 0 c).arrAt_eq_of_covers 7 _ (by decide +kernel) fun t hf y => ?_
  blk_simp
  rw [after0_7]
  frame_out
  unfold_payloads
  pointwise
  have hp := (places t).2.2.2.2.2.2.2.1
  have h2 : (y 2).val < 768 := (y 2).isLt
  exact block_value m c t (y 1) (1536 + (y 2).val) (1536 + (win0_7.index t 2 * 768 + (y 2).val)) (by omega) (((View.whole main_v25_4).slice (win0_7.rect t)).emb y 0) (((View.whole main_v25_4).slice (win0_7.rect t)).emb y 1)
    (by blk_simp [hp]) (by blk_simp [hp]) (by blk_simp [hp]) (iblk m c 0 t) (iblk m c 1 t) (iblk m c 2 t) rfl rfl rfl

theorem array8 (c : Dev nD) : (dats m 0 c).arrAt 8 cfg0.N =
    (fun i => zk (X m c) (Gn m c) (W m c) (i 0) (i 1) (2304 + (i 2).val) : FVec Ideal S16x2048x128 .f32) := by
  refine (dats m 0 c).arrAt_eq_of_covers 8 _ (by decide +kernel) fun t hf y => ?_
  blk_simp
  rw [after0_8]
  frame_out
  unfold_payloads
  pointwise
  have hp := (places t).2.2.2.2.2.2.2.2
  have h2 : (y 2).val < 128 := (y 2).isLt
  exact block_value m c t (y 1) (2304 + (y 2).val) (2304 + (win0_8.index t 2 * 128 + (y 2).val)) (by omega) (((View.whole main_v25_5).slice (win0_8.rect t)).emb y 0) (((View.whole main_v25_5).slice (win0_8.rect t)).emb y 1)
    (by blk_simp [hp]) (by blk_simp [hp]) (by blk_simp [hp]) (iblk m c 0 t) (iblk m c 1 t) (iblk m c 2 t) rfl rfl rfl

end Cert.InProjIdeal.Proj
-- ==== Proof.ProjectionValue.lean ====
module

public import proofs.«01_k».proof.Proof.ProjectionArrays
public import proofs.«01_k».proof.Proof.Gen.InProjReferenceIdeal.Run
public import proofs.«01_k».proof.Proof.Gen.InProjReferenceIdeal.Read
public import Idealize.ShloMosaic.Lib.Pipeline.ValueKit

@[expose] public section

set_option maxRecDepth 16384

noncomputable section

namespace Cert.InProjIdeal.Proj
open Idealize.ShloMosaic Idealize.ShloMosaic.TcCoe Cert.InProjIdeal Cert.InProjIdeal.Gen
open Idealize.SL.Sem

open Cert.InProjReferenceIdeal.Read

variable (x : FVec Ideal S16x2048x1024 .f32) (g : FVec Ideal S4x1024 .f32) (w : FVec Ideal S4x1024x2328 .f32)

theorem reference_at (b : Fin 16) (t : Fin 2048) (j : Fin 2328) :
    val_main_v17 (F := Ideal) x g w (ix3 b t j) = (∑ k : Fin 1024, hn x g b t k * w (ix3 0 k j) : EReal) := by
  rw [val_main_v17_apply]
  simp only [val_main_v0_apply, val_main_v1_apply, val_main_v2_apply, val_main_v3_apply, val_main_v4_apply, val_main_v5_apply,
    val_main_v6_apply, val_main_v7_apply, val_main_v8_apply, val_main_v9_apply, val_main_v10_apply, val_main_v11_apply,
    val_main_v12_apply, val_main_v13_apply, val_main_v14_apply, val_main_v15_apply, val_main_v16_apply, val_main_cst_apply, val_main_cst_0_apply, val_main_cst_1_apply]
  pointwise
  refine Finset.sum_congr rfl fun k _ => ?_
  have e1 : lidx_main_v17 (ix3 b t j) k = ix3 b t k := by funext a; fin_cases a <;> rfl
  have e2 : ridx_main_v17 (ix3 b t j) k = ix2 k j := by funext a; fin_cases a <;> rfl
  have e3 (k' : Fin 1024) : idx_main_v3 (idx_main_v4 (idx_main_v10 (ix3 b t k))) k' = ix3 b t k' := by funext a; fin_cases a <;> rfl
  have e4 : idx_main_v0 (idx_main_v1 (idx_main_v12 (idx_main_v13 (ix3 b t k)))) = ix2 0 k := by
    funext a; fin_cases a
    · rfl
    · refine Fin.ext ?_
      change (k.val : ℕ) % 1024 = k.val
      omega
  have e5 : idx_main_v15 (idx_main_v16 (ix2 k j)) = ix3 0 k j := by
    funext a; fin_cases a
    · rfl
    · refine Fin.ext ?_
      change (k.val * 2328 + j.val) / 2328 % 1024 = k.val
      omega
    · refine Fin.ext ?_
      change (k.val * 2328 + j.val) % 2328 = j.val
      omega
  simp only [e1, e2, e3, e4, e5]
  rfl

theorem reference_zk (i : Cert.InProjReferenceIdeal.S16x2048x2328.Idx) (b : Fin 16) (t : Fin 2048) (q : ℕ) (hq : q < 2328) (h0 : (i 0).val = b.val)
    (h1 : (i 1).val = t.val) (h2 : (i 2).val = colOf q) : val_main_v17 (F := Ideal) x g w i = zk x g w b t q := by
  have e : i = ix3 b t ⟨colOf q, colOf_lt _ hq⟩ := by
    funext a; fin_cases a
    · exact Fin.ext h0
    · exact Fin.ext h1
    · exact Fin.ext h2
  rw [e, reference_at]
  unfold zk
  simp only [dif_pos hq]

theorem reference_v18 : val_main_v18 (F := Ideal) x g w = (fun i => zk x g w (i 0) (i 1) (0 + (i 2).val) : FVec Ideal S16x2048x256 .f32) := by
  funext i
  have l0 : (i 0).val < 16 := (i 0).isLt
  have l1 : (i 1).val < 2048 := (i 1).isLt
  have l2 : (i 2).val < 256 := (i 2).isLt
  rw [val_main_v18_apply]
  refine reference_zk x g w _ _ _ _ (by omega) ?_ ?_ ?_
  · dsimp only [idx_main_v18]
  · dsimp only [idx_main_v18]
  · dsimp only [idx_main_v18]
    unfold colOf
    split_ifs <;> omega

theorem reference_v19 : val_main_v19 (F := Ideal) x g w = (fun i => zk x g w (i 0) (i 1) (256 + (i 2).val) : FVec Ideal S16x2048x512 .f32) := by
  funext i
  have l0 : (i 0).val < 16 := (i 0).isLt
  have l1 : (i 1).val < 2048 := (i 1).isLt
  have l2 : (i 2).val < 512 := (i 2).isLt
  rw [val_main_v19_apply]
  refine reference_zk x g w _ _ _ _ (by omega) ?_ ?_ ?_
  · dsimp only [idx_main_v19]
  · dsimp only [idx_main_v19]
  · dsimp only [idx_main_v19]
    unfold colOf
    split_ifs <;> omega

theorem split_v23 (p : Cert.InProjReferenceIdeal.S16x2048x6x2x64.Idx) : (idx_main_v23 p 0).val = (p 0).val ∧ (idx_main_v23 p 1).val = (p 1).val
    ∧ (idx_main_v23 p 2).val = ((p 2).val * 2 + (p 3).val) * 64 + (p 4).val := by
  have l0 : (p 0).val < 16 := (p 0).isLt
  have l1 : (p 1).val < 2048 := (p 1).isLt
  have l2 : (p 2).val < 6 := (p 2).isLt
  have l3 : (p 3).val < 2 := (p 3).isLt
  have l4 : (p 4).val < 64 := (p 4).isLt
  dsimp only [idx_main_v23]
  generalize (p 0).val = a at *; generalize (p 1).val = b at *; generalize (p 2).val = c at *
  generalize (p 3).val = d at *; generalize (p 4).val = e at *
  clear p
  refine ⟨?_, ?_, ?_⟩ <;> omega

theorem split_v26 (p : Cert.InProjReferenceIdeal.S16x2048x512.Idx) : (idx_main_v26 p 0).val = (p 0).val ∧ (idx_main_v26 p 1).val = (p 1).val
    ∧ (idx_main_v26 p 2).val = (p 2).val / 256 ∧ (idx_main_v26 p 3).val = (p 2).val / 64 % 4 ∧ (idx_main_v26 p 4).val = (p 2).val % 64 := by
  have l0 : (p 0).val < 16 := (p 0).isLt
  have l1 : (p 1).val < 2048 := (p 1).isLt
  have l2 : (p 2).val < 512 := (p 2).isLt
  dsimp only [idx_main_v26]
  generalize (p 0).val = a at *; generalize (p 1).val = b at *; generalize (p 2).val = c at *
  clear p
  refine ⟨?_, ?_, ?_, ?_, ?_⟩ <;> omega

theorem split_v29 (p : Cert.InProjReferenceIdeal.S16x2048x256.Idx) : (idx_main_v29 p 0).val = (p 0).val ∧ (idx_main_v29 p 1).val = (p 1).val
    ∧ (idx_main_v29 p 2).val = (p 2).val / 128 ∧ (idx_main_v29 p 3).val = (p 2).val / 64 % 2 ∧ (idx_main_v29 p 4).val = (p 2).val % 64 := by
  have l0 : (p 0).val < 16 := (p 0).isLt
  have l1 : (p 1).val < 2048 := (p 1).isLt
  have l2 : (p 2).val < 256 := (p 2).isLt
  dsimp only [idx_main_v29]
  generalize (p 0).val = a at *; generalize (p 1).val = b at *; generalize (p 2).val = c at *
  clear p
  refine ⟨?_, ?_, ?_, ?_, ?_⟩ <;> omega

theorem reference_v26 : val_main_v26 (F := Ideal) x g w = (fun i => zk x g w (i 0) (i 1) (768 + (i 2).val) : FVec Ideal S16x2048x512 .f32) := by
  funext i
  have l2 : (i 2).val < 512 := (i 2).isLt
  rw [val_main_v26_apply, val_main_v25_apply, val_main_v24_apply, val_main_v23_apply, val_main_v20_apply]
  obtain ⟨a0, a1, a2, a3, a4⟩ := split_v26 i
  obtain ⟨b0, b1, b2⟩ := split_v23 (idx_main_v24 (idx_main_v25 (idx_main_v26 i)))
  refine reference_zk x g w _ _ _ _ (by omega) (b0.trans a0) (b1.trans a1) ?_
  have b2' : (idx_main_v20 (idx_main_v23 (idx_main_v24 (idx_main_v25 (idx_main_v26 i)))) 2).val
      = 768 + (((2 + (idx_main_v26 i 3).val) * 2 + (idx_main_v26 i 2).val) * 64 + (idx_main_v26 i 4).val) := congrArg (768 + ·) b2
  rw [b2', a2, a3, a4]
  generalize (i 2).val = c at *
  clear * - l2
  unfold colOf
  split_ifs <;> omega

theorem reference_v29 : val_main_v29 (F := Ideal) x g w = (fun i => zk x g w (i 0) (i 1) (1280 + (i 2).val) : FVec Ideal S16x2048x256 .f32) := by
  funext i
  have l2 : (i 2).val < 256 := (i 2).isLt
  rw [val_main_v29_apply, val_main_v28_apply, val_main_v27_apply, val_main_v23_apply, val_main_v20_apply]
  obtain ⟨a0, a1, a2, a3, a4⟩ := split_v29 i
  obtain ⟨b0, b1, b2⟩ := split_v23 (idx_main_v27 (idx_main_v28 (idx_main_v29 i)))
  refine reference_zk x g w _ _ _ _ (by omega) (b0.trans a0) (b1.trans a1) ?_
  have b2' : (idx_main_v20 (idx_main_v23 (idx_main_v27 (idx_main_v28 (idx_main_v29 i)))) 2).val
      = 768 + ((((idx_main_v29 i 3).val) * 2 + (idx_main_v29 i 2).val) * 64 + (idx_main_v29 i 4).val) := congrArg (768 + ·) b2
  rw [b2', a2, a3, a4]
  generalize (i 2).val = c at *
  clear * - l2
  unfold colOf
  split_ifs <;> omega

theorem reference_v22 : val_main_v22 (F := Ideal) x g w = (fun i => zk x g w (i 0) (i 1) (1536 + (i 2).val) : FVec Ideal S16x2048x768 .f32) := by
  funext i
  have l0 : (i 0).val < 16 := (i 0).isLt
  have l1 : (i 1).val < 2048 := (i 1).isLt
  have l2 : (i 2).val < 768 := (i 2).isLt
  rw [val_main_v22_apply]
  refine reference_zk x g w _ _ _ _ (by omega) ?_ ?_ ?_
  · dsimp only [idx_main_v22]
  · dsimp only [idx_main_v22]
  · dsimp only [idx_main_v22]
    unfold colOf
    split_ifs <;> omega

theorem reference_v30 : val_main_v30 (F := Ideal) x g w = (fun i => zk x g w (i 0) (i 1) (2304 + (i 2).val) : FVec Ideal S16x2048x128 .f32) := by
  funext i
  have l2 : (i 2).val < 128 := (i 2).isLt
  unfold val_main_v30
  by_cases h : (i 2).val < 24
  · trans val_main_v21 (F := Ideal) x g w (ix3 (i 0) (i 1) ⟨(i 2).val, h⟩)
    · idx_vars i
      generalize val_main_v21 (F := Ideal) x g w = y
      pointwise
      exact dif_pos h
    · rw [val_main_v21_apply]
      refine reference_zk x g w _ _ _ _ (by omega) ?_ ?_ ?_
      · rfl
      · rfl
      · dsimp only [idx_main_v21, ix3]
        unfold colOf
        split_ifs <;> omega
  · trans (0 : EReal)
    · idx_vars i
      generalize val_main_v21 (F := Ideal) x g w = y
      pointwise
      refine (dif_neg h).trans ?_
      unfold val_main_call0_v0
      pointwise
      change (((0#32 : BitVec 32).toInt : ℝ) : EReal) = 0
      simp
    · unfold zk
      symm
      refine Finset.sum_eq_zero fun k _ => ?_
      rw [dif_neg (by omega)]
      exact mul_zero _

end Cert.InProjIdeal.Proj
-- ==== Proof.MixRows.lean ====
module

public import proofs.«01_k».proof.Defs
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Mix
open Idealize.ShloMosaic Idealize.ShloMosaic.TcCoe Cert.KernelIdeal Cert.KernelIdeal.Gen
open Idealize.SL.Sem

/-! Rows of the mixing call's block, read at an index. A column of a row block is a function of the position; the block of a
point holds the positions from `512 * j`, and the carried tail the sixteen before, zero where there are none. -/

/-- The value `s` positions before `p`, zero before the first position. -/
def past (G : ℕ → EReal) (s p : ℕ) : EReal := if s ≤ p then G (p - s) else 0

/-- The sum of the last `w` positions up to `p`. -/
def win (G : ℕ → EReal) (w p : ℕ) : EReal := ∑ s ∈ Finset.range w, past G s p

/-- The causal convolution of width three. -/
def conv3 (G : ℕ → EReal) (c2 c1 c0 : EReal) (p : ℕ) : EReal := c2 * G p + c1 * past G 1 p + c0 * past G 2 p

theorem shift_eq {x : Fin 512 → EReal} {T : Fin 16 → EReal} {G : ℕ → EReal} {j : ℕ}
    (hx : ∀ r : Fin 512, x r = G (512 * j + r.val))
    (hT : ∀ i : Fin 16, T i = if j = 0 then 0 else G (512 * j - 16 + i.val)) (s : ℕ) (hs : 1 ≤ s) (hs' : s ≤ 16)
    (r : Fin 512) (h1 : (16 + r.val + 528 - s) % 528 - 16 < 512) :
    (if h : (16 + r.val + 528 - s) % 528 < 16 then T ⟨(16 + r.val + 528 - s) % 528, h⟩
      else x ⟨(16 + r.val + 528 - s) % 528 - 16, h1⟩) = past G s (512 * j + r.val) := by
  have hr := r.isLt
  have e : (16 + r.val + 528 - s) % 528 = 16 + r.val - s := by omega
  unfold past
  split
  · rename_i h
    rw [hT]
    dsimp only
    rw [e] at h
    by_cases hj : j = 0
    · rw [if_pos hj, if_neg (by subst hj; omega)]
    · rw [if_neg hj, if_pos (by omega)]
      congr 1
      omega
  · rename_i h
    rw [hx]
    dsimp only
    rw [e] at h
    rw [if_pos (by omega)]
    congr 1
    omega

/-- The gated activation of a convolved column. -/
def gated (z g : EReal) : EReal := z * Ideal.logistic z * g

theorem chunk_value (h : ℕ → Fin 1024 → EReal) (j : ℕ) (H : FVec Ideal S512x1024 .bf16) (wa wg : FVec Ideal S1x1024x256 .bf16)
    (T : FVec Ideal S16x256 .f32) (c2 c1 c0 : FVec Ideal S1x1x256 .f32) (r : Fin 512) (k : Fin 256)
    (hH : ∀ (r : Fin 512) c, H (ix2 r c) = h (512 * j + r.val) c)
    (hT : ∀ i : Fin 16, T (ix2 i k) = if j = 0 then 0 else ∑ c, h (512 * j - 16 + i.val) c * wa (ix3 0 c k)) :
    k0_pay1 (F := Ideal) (k0_pay79 H wa H wg T c2 c1 c0) (ix2 r k)
      = gated (conv3 (fun p => ∑ c, h p c * wa (ix3 0 c k)) (c2 (ix3 0 0 k)) (c1 (ix3 0 0 k)) (c0 (ix3 0 0 k)) (512 * j + r.val))
          (∑ c, h (512 * j + r.val) c * wg (ix3 0 c k)) := by
  have e1 := fun q => shift_eq (x := fun a => ∑ c, H (ix2 a c) * wa (ix3 0 c k)) (T := fun i => T (ix2 i k))
    (G := fun p => ∑ c, h p c * wa (ix3 0 c k)) (j := j) (fun r => by simp only [hH]) hT 1 (by omega) (by omega) r q
  have e2 := fun q => shift_eq (x := fun a => ∑ c, H (ix2 a c) * wa (ix3 0 c k)) (T := fun i => T (ix2 i k))
    (G := fun p => ∑ c, h p c * wa (ix3 0 c k)) (j := j) (fun r => by simp only [hH]) hT 2 (by omega) (by omega) r q
  beta_reduce at e1 e2
  unfold_payloads
  pointwise
  change gated _ _ = gated _ _
  refine congrArg₂ gated ?_ (Finset.sum_congr rfl fun c _ => by rw [hH])
  unfold conv3
  exact congrArg₂ (· + ·) (congrArg₂ (· + ·) (congrArg (_ * ·) (Finset.sum_congr rfl fun c _ => by rw [hH]))
    (congrArg (_ * ·) (e1 (by omega)))) (congrArg (_ * ·) (e2 (by omega)))

theorem chunkTail_value (h : ℕ → Fin 1024 → EReal) (j : ℕ) (H : FVec Ideal S512x1024 .bf16) (wa : FVec Ideal S1x1024x256 .bf16)
    (i : Fin 16) (k : Fin 256) (hH : ∀ (r : Fin 512) c, H (ix2 r c) = h (512 * j + r.val) c) :
    k0_pay2 (F := Ideal) (k0_pay78 H wa) (ix2 i k) = ∑ c, h (512 * j + 496 + i.val) c * wa (ix3 0 c k) := by
  unfold_payloads
  pointwise
  simp only [hH, Nat.add_assoc]

theorem conv_value (P : ℕ → EReal) (j : ℕ) (a b c : FVec Ideal S1x512x256 .f32)
    (T : FVec Ideal S16x256 .f32) (c2 c1 c0 : FVec Ideal S1x1x256 .f32) (r : Fin 512) (k : Fin 256)
    (hP : ∀ r : Fin 512, b (ix3 0 r k) * c (ix3 0 r k) = P (512 * j + r.val))
    (hT : ∀ i : Fin 16, T (ix2 i k) = if j = 0 then 0 else P (512 * j - 16 + i.val)) :
    k0_pay25 (F := Ideal) (k0_pay22 a) (k0_pay24 b c T) c2 c1 c0 (ix2 r k)
      = a (ix3 0 r k) * conv3 P (c2 (ix3 0 0 k)) (c1 (ix3 0 0 k)) (c0 (ix3 0 0 k)) (512 * j + r.val) := by
  have e1 := fun q => shift_eq (x := fun a => b (ix3 0 a k) * c (ix3 0 a k)) (T := fun i => T (ix2 i k))
    (G := P) (j := j) hP hT 1 (by omega) (by omega) r q
  have e2 := fun q => shift_eq (x := fun a => b (ix3 0 a k) * c (ix3 0 a k)) (T := fun i => T (ix2 i k))
    (G := P) (j := j) hP hT 2 (by omega) (by omega) r q
  beta_reduce at e1 e2
  unfold_payloads
  pointwise
  unfold conv3
  exact congrArg (_ * ·) (congrArg₂ (· + ·) (congrArg₂ (· + ·) (congrArg (_ * ·) (hP r))
    (congrArg (_ * ·) (e1 (by omega)))) (congrArg (_ * ·) (e2 (by omega))))

theorem convTail_value (P : ℕ → EReal) (j : ℕ) (b c : FVec Ideal S1x512x256 .f32) (i : Fin 16) (k : Fin 256)
    (hP : ∀ r : Fin 512, b (ix3 0 r k) * c (ix3 0 r k) = P (512 * j + r.val)) :
    k0_pay26 (F := Ideal) (k0_pay23 b c) (ix2 i k) = P (512 * j + 496 + i.val) := by
  unfold_payloads
  pointwise
  rw [hP]
  simp only [Nat.add_assoc]

theorem poolTail_value (U : ℕ → EReal) (j : ℕ) (x : FVec Ideal S1x512x256 .f32) (i : Fin 16) (k : Fin 256)
    (hU : ∀ r : Fin 512, x (ix3 0 r k) = U (512 * j + r.val)) :
    k0_pay20 (F := Ideal) (k0_pay7 x) (ix2 i k) = U (512 * j + 496 + i.val) := by
  unfold_payloads
  pointwise
  rw [hU]
  simp only [Nat.add_assoc]

theorem norm_value (x : FVec Ideal S512x1024 .f32) (g : FVec Ideal S1x1x1024 .f32) (r : Fin 512) (k : Fin 1024) :
    k0_pay29 (F := Ideal) x g (ix2 r k)
      = x (ix2 r k) * Ideal.rsqrt (Ideal.div (∑ c, x (ix2 r c) * x (ix2 r c)) (Ideal.ofBits FTy.f32 1149239296#32)
          + Ideal.ofBits FTy.f32 897988541#32) * g (ix3 0 0 k) := by
  unfold_payloads
  pointwise

theorem res_value (x : FVec Ideal S1x512x1024 .f32) (cat : FVec Ideal S512x1024 .bf16) (w : FVec Ideal S1x1024x1024 .bf16)
    (r : Fin 512) (k : Fin 1024) :
    k0_pay27 (F := Ideal) x cat w (ix2 r k) = x (ix3 0 r k) + ∑ c, cat (ix2 r c) * w (ix3 0 c k) := by
  unfold_payloads
  pointwise

theorem final_value (x : FVec Ideal S512x1024 .f32) (z : FVec Ideal S512x2816 .bf16) (w : FVec Ideal S1x2816x1024 .bf16)
    (r : Fin 512) (k : Fin 1024) :
    k0_pay3 (F := Ideal) (k0_pay28 x) z w (ix3 0 r k) = x (ix2 r k) + ∑ c, z (ix2 r c) * w (ix3 0 c k) := by
  unfold_payloads
  pointwise

theorem zero4 (i : Fin 16) (k : Fin 256) : k0_pay4 (F := Ideal) (ix2 i k) = 0 := by
  unfold_payloads
  pointwise

theorem zero5 (i : Fin 16) (k : Fin 256) : k0_pay5 (F := Ideal) (ix2 i k) = 0 := by
  unfold_payloads
  pointwise

theorem zero6 (i : Fin 16) (k : Fin 2816) : k0_pay6 (F := Ideal) (ix2 i k) = 0 := by
  unfold_payloads
  pointwise

theorem poolOut_value (d : FVec Ideal S512x256 .bf16) (x4 : FVec Ideal S1x256x256 .bf16) (x5 : FVec Ideal S1x1x256 .f32)
    (r : Fin 512) (k : Fin 256) :
    k0_pay19 (F := Ideal) d x4 x5 (ix2 r k) = (∑ c, d (ix2 r c) * x4 (ix3 0 c k)) * x5 (ix3 0 0 k) := by
  unfold_payloads
  pointwise

/-- The rows of a block and of the sixteen before it. -/
def ext (G : ℕ → EReal) (j n : ℕ) : EReal := if j = 0 ∧ n < 16 then 0 else G (512 * j + n - 16)

theorem ext_eq (G : ℕ → EReal) (j s r : ℕ) (hs : s ≤ 16) : ext G j (16 + r - s) = past G s (512 * j + r) := by
  unfold ext past
  by_cases h : s ≤ 512 * j + r
  · rw [if_pos h, if_neg (by omega)]
    congr 1
    omega
  · rw [if_neg h, if_pos (by omega)]

section pool
variable (U : ℕ → EReal) (j : ℕ) (x : FVec Ideal S1x512x256 .f32) (T : FVec Ideal S16x256 .f32) (k : Fin 256)
  (hU : ∀ r : Fin 512, x (ix3 0 r k) = U (512 * j + r.val))
  (hT : ∀ i : Fin 16, T (ix2 i k) = if j = 0 then 0 else U (512 * j - 16 + i.val))
include hU hT

theorem rows_eq (n : ℕ) (hn : n < 528) (h1 : n - 16 < 512) :
    (if h : n < 16 then T (ix2 ⟨n, h⟩ k) else x (ix3 0 ⟨n - 16, h1⟩ k)) = ext U j n := by
  unfold ext
  split
  · rename_i h
    rw [hT]
    dsimp only
    by_cases hj : j = 0
    · rw [if_pos hj, if_pos ⟨hj, h⟩]
    · rw [if_neg hj, if_neg (by omega)]
      congr 1
      omega
  · rename_i h
    rw [hU, if_neg (by omega)]
    dsimp only
    congr 1
    omega

theorem pool2 (n : Fin 528) (h : 1 ≤ n.val) : k0_pay8 (F := Ideal) x T (ix2 n k) = ext U j n.val + ext U j (n.val - 1) := by
  have e : (n.val + 528 - 1) % 528 = n.val - 1 := by omega
  have hn := n.isLt
  unfold_payloads
  pointwise
  refine congrArg₂ (· + ·) (rows_eq U j x T k hU hT n.val hn (by omega)) ?_
  refine (rows_eq U j x T k hU hT ((n.val + 528 - 1) % 528) (by omega) (by omega)).trans ?_
  rw [e]

theorem pool4 (n : Fin 528) (h : 3 ≤ n.val) : k0_pay10 (F := Ideal) x T (ix2 n k)
    = (ext U j n.val + ext U j (n.val - 1)) + (ext U j (n.val - 2) + ext U j (n.val - 3)) := by
  have hn := n.isLt
  have e0 := pool2 U j x T k hU hT n (by omega)
  have e1 := fun q => pool2 U j x T k hU hT ⟨(n.val + 528 - 2) % 528, q⟩ (by dsimp only; omega)
  unfold k0_pay10
  generalize k0_pay8 (F := Ideal) x T = v at *
  pointwise
  rw [e0, e1]
  have e : (n.val + 528 - 2) % 528 = n.val - 2 := by omega
  dsimp only
  rw [e, Nat.sub_sub]

theorem pool8 (n : Fin 528) (h : 7 ≤ n.val) : k0_pay12 (F := Ideal) x T (ix2 n k)
    = ((ext U j n.val + ext U j (n.val - 1)) + (ext U j (n.val - 2) + ext U j (n.val - 3)))
      + ((ext U j (n.val - 4) + ext U j (n.val - 5)) + (ext U j (n.val - 6) + ext U j (n.val - 7))) := by
  have hn := n.isLt
  have e0 := pool4 U j x T k hU hT n (by omega)
  have e1 := fun q => pool4 U j x T k hU hT ⟨(n.val + 528 - 4) % 528, q⟩ (by dsimp only; omega)
  unfold k0_pay12
  generalize k0_pay10 (F := Ideal) x T = v at *
  pointwise
  rw [e0, e1]
  have e : (n.val + 528 - 4) % 528 = n.val - 4 := by omega
  dsimp only
  simp only [e, Nat.sub_sub]

theorem win2 (r : Fin 512) : k0_pay9 (F := Ideal) x T (ix2 r k) = win U 2 (512 * j + r.val) := by
  have e0 := fun q => pool2 U j x T k hU hT ⟨16 + r.val, q⟩ (by dsimp only; omega)
  unfold k0_pay9
  generalize k0_pay8 (F := Ideal) x T = v at *
  pointwise
  rw [e0]
  dsimp only
  rw [← Nat.sub_zero (16 + r.val)]
  simp only [Nat.sub_sub, Nat.zero_add, ext_eq _ _ _ _ (show (0 : ℕ) ≤ 16 by omega), ext_eq _ _ _ _ (show (1 : ℕ) ≤ 16 by omega)]
  simp only [win, Finset.sum_range_succ, Finset.sum_range_zero, zero_add]

theorem win4 (r : Fin 512) : k0_pay11 (F := Ideal) x T (ix2 r k) = win U 4 (512 * j + r.val) := by
  have e0 := fun q => pool4 U j x T k hU hT ⟨16 + r.val, q⟩ (by dsimp only; omega)
  unfold k0_pay11
  generalize k0_pay10 (F := Ideal) x T = v at *
  pointwise
  rw [e0]
  dsimp only
  have z : ext U j (16 + r.val) = past U 0 (512 * j + r.val) := ext_eq U j 0 r.val (by omega)
  rw [z, ext_eq _ _ 1 _ (by omega), ext_eq _ _ 2 _ (by omega), ext_eq _ _ 3 _ (by omega)]
  simp only [win, Finset.sum_range_succ, Finset.sum_range_zero, zero_add, add_assoc]

theorem win8 (r : Fin 512) : k0_pay13 (F := Ideal) x T (ix2 r k) = win U 8 (512 * j + r.val) := by
  have e0 := fun q => pool8 U j x T k hU hT ⟨16 + r.val, q⟩ (by dsimp only; omega)
  unfold k0_pay13
  generalize k0_pay12 (F := Ideal) x T = v at *
  pointwise
  rw [e0]
  dsimp only
  have z : ext U j (16 + r.val) = past U 0 (512 * j + r.val) := ext_eq U j 0 r.val (by omega)
  rw [z, ext_eq _ _ 1 _ (by omega), ext_eq _ _ 2 _ (by omega), ext_eq _ _ 3 _ (by omega), ext_eq _ _ 4 _ (by omega),
    ext_eq _ _ 5 _ (by omega), ext_eq _ _ 6 _ (by omega), ext_eq _ _ 7 _ (by omega)]
  simp only [win, Finset.sum_range_succ, Finset.sum_range_zero, zero_add, add_assoc]

theorem win16 (r : Fin 512) : k0_pay14 (F := Ideal) x T (ix2 r k) = win U 16 (512 * j + r.val) := by
  have hr := r.isLt
  have e0 := fun q => pool8 U j x T k hU hT ⟨16 + r.val, q⟩ (by dsimp only; omega)
  have e1 := fun q => pool8 U j x T k hU hT ⟨(16 + r.val + 528 - 8) % 528, q⟩ (by dsimp only; omega)
  unfold k0_pay14
  generalize k0_pay12 (F := Ideal) x T = v at *
  pointwise
  rw [e0, e1]
  dsimp only
  have e : (16 + r.val + 528 - 8) % 528 = 16 + r.val - 8 := by omega
  have z : ext U j (16 + r.val) = past U 0 (512 * j + r.val) := ext_eq U j 0 r.val (by omega)
  simp only [e, Nat.sub_sub, Nat.reduceAdd]
  rw [z, ext_eq _ _ 1 _ (by omega), ext_eq _ _ 2 _ (by omega), ext_eq _ _ 3 _ (by omega), ext_eq _ _ 4 _ (by omega),
    ext_eq _ _ 5 _ (by omega), ext_eq _ _ 6 _ (by omega), ext_eq _ _ 7 _ (by omega), ext_eq _ _ 8 _ (by omega),
    ext_eq _ _ 9 _ (by omega), ext_eq _ _ 10 _ (by omega), ext_eq _ _ 11 _ (by omega), ext_eq _ _ 12 _ (by omega),
    ext_eq _ _ 13 _ (by omega), ext_eq _ _ 14 _ (by omega), ext_eq _ _ 15 _ (by omega)]
  simp only [win, Finset.sum_range_succ, Finset.sum_range_zero, zero_add, add_assoc]

end pool

end Cert.KernelIdeal.Mix
-- ==== Proof.MixPool.lean ====
module

public import proofs.«01_k».proof.Defs
public import proofs.«01_k».proof.Proof.Gen.KernelIdeal.Value
public import Idealize.ShloMosaic.Lib.Pipeline.ValueKit
public import Idealize.ShloMosaic.Lib.Pipeline.ReadBack
public import proofs.«01_k».proof.Proof.MixRows

@[expose] public section

set_option maxRecDepth 16384

noncomputable section

namespace Cert.KernelIdeal.Mix
open Idealize.ShloMosaic Idealize.ShloMosaic.TcCoe Cert.KernelIdeal Cert.KernelIdeal.Gen
open Idealize.SL.Sem

/-! The pooled difference of a row block: the window of a column's group, divided by the number of positions it holds. -/

/-- The width of the window of a column's group. -/
def width (k : ℕ) : ℕ := 2 ^ (k / 64 + 1)

/-- A column's group as the kernel computes it, the rounded-down quotient by 64. -/
def grp (k : BitVec 32) : BitVec 32 :=
  Scalar.select
    (IntOp.andi
      (IntOp.cmpi CmpIPredicate.ne
        (IntOp.subi (BitVec.setWidth 32 (IntOp.cmpi CmpIPredicate.sgt k 0#32))
          (BitVec.setWidth 32 (IntOp.cmpi CmpIPredicate.slt k 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector k 64#32) 0#32))
    (IntOp.subi (IntOp.divsi ArithUnit.vector k 64#32) 1#32) (IntOp.divsi ArithUnit.vector k 64#32)

theorem grp_eq : ∀ k : Fin 256, grp (BitVec.ofNat 32 k.val) = BitVec.ofNat 32 (k.val / 64) := by decide +kernel

theorem pick {α : Type} (g : ℕ) (hg : g < 4) (a b c d : α) :
    Scalar.select (IntOp.cmpi CmpIPredicate.eq (BitVec.ofNat 32 g) 0#32) a
      (Scalar.select (IntOp.cmpi CmpIPredicate.eq (BitVec.ofNat 32 g) 1#32) b
        (Scalar.select (IntOp.cmpi CmpIPredicate.eq (BitVec.ofNat 32 g) 2#32) c d))
      = if g = 0 then a else if g = 1 then b else if g = 2 then c else d := by
  obtain h | h | h | h : g = 0 ∨ g = 1 ∨ g = 2 ∨ g = 3 := by omega
  all_goals subst h; rfl

theorem count_eq : ∀ j : Fin 4, ∀ r : Fin 512, ∀ g : Fin 4,
    (IntOp.minsi (IntOp.addi (IntOp.addi (Scalar.muli (BitVec.ofNat 32 j.val) 512#32) (BitVec.ofNat 32 r.val)) 1#32)
      (BitVec.ofNat 32 (2 ^ (g.val + 1)))).toInt = (min (512 * j.val + r.val + 1) (2 ^ (g.val + 1)) : ℕ) := by decide +kernel

/-- The number of positions in the window of width `w` that ends at `p`. -/
def count (w p : ℕ) : EReal := (((min (p + 1) w : ℕ) : ℝ) : EReal)

theorem diff_value (j : Fin 4) (v4 v9 v12 v15 v18 : FVec Ideal S512x256 .f32) (r : Fin 512) (k : Fin 256)
    (U : ℕ → EReal) (h4 : v4 (ix2 r k) = U (512 * j.val + r.val)) (h9 : v9 (ix2 r k) = win U 2 (512 * j.val + r.val))
    (h12 : v12 (ix2 r k) = win U 4 (512 * j.val + r.val)) (h15 : v15 (ix2 r k) = win U 8 (512 * j.val + r.val))
    (h18 : v18 (ix2 r k) = win U 16 (512 * j.val + r.val)) :
    k0_pay18 (F := Ideal) (BitVec.ofNat 32 j.val) v4 v9 v12 v15 v18 k0_pay15 k0_pay16 k0_pay17 (ix2 r k)
      = Ideal.div (win U (width k.val) (512 * j.val + r.val)) (count (width k.val) (512 * j.val + r.val))
          - U (512 * j.val + r.val) := by
  unfold_payloads
  pointwise
  rw [h4, h9, h12, h15, h18]
  have hk := k.isLt
  refine congrArg (· - _) (congrArg₂ Ideal.div ?_ ?_)
  · change Scalar.select (IntOp.cmpi CmpIPredicate.eq (grp (BitVec.ofNat 32 k.val)) 0#32) _
      (Scalar.select (IntOp.cmpi CmpIPredicate.eq (grp (BitVec.ofNat 32 k.val)) 1#32) _
        (Scalar.select (IntOp.cmpi CmpIPredicate.eq (grp (BitVec.ofNat 32 k.val)) 2#32) _ _)) = _
    rw [grp_eq, pick _ (by omega)]
    unfold width
    obtain h | h | h | h : k.val / 64 = 0 ∨ k.val / 64 = 1 ∨ k.val / 64 = 2 ∨ k.val / 64 = 3 := by omega
    all_goals rw [h]; norm_num
  · change (((IntOp.minsi _ (Scalar.select (IntOp.cmpi CmpIPredicate.eq (grp (BitVec.ofNat 32 k.val)) 0#32) _
      (Scalar.select (IntOp.cmpi CmpIPredicate.eq (grp (BitVec.ofNat 32 k.val)) 1#32) _
        (Scalar.select (IntOp.cmpi CmpIPredicate.eq (grp (BitVec.ofNat 32 k.val)) 2#32) _ _)))).toInt : ℝ) : EReal) = _
    rw [grp_eq, pick _ (by omega)]
    have e := count_eq j r ⟨k.val / 64, by omega⟩
    have w : (if k.val / 64 = 0 then (2#32 : BitVec 32) else if k.val / 64 = 1 then 4#32 else if k.val / 64 = 2 then 8#32 else 16#32)
        = BitVec.ofNat 32 (2 ^ (k.val / 64 + 1)) := by
      obtain h | h | h | h : k.val / 64 = 0 ∨ k.val / 64 = 1 ∨ k.val / 64 = 2 ∨ k.val / 64 = 3 := by omega
      all_goals rw [h]; rfl
    rw [w, e]
    unfold count width
    norm_cast

end Cert.KernelIdeal.Mix
-- ==== Proof.MixBlocks.lean ====
module

public import proofs.«01_k».proof.Defs
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Mix
open Idealize.ShloMosaic Idealize.ShloMosaic.TcCoe Cert.KernelIdeal Cert.KernelIdeal.Gen
open Idealize.SL.Sem

/-! The values of one block of the mixing call, as functions of the blocks it reads and of the three tails it carries:
the last sixteen rows of the pooling columns, of the convolution's product and of the activation half. -/

variable (m : (ℓ : Loc nD τ sig) → Buf (Elt Ideal) ℓ)

/-- The columns of the up projection from `o` on. -/
abbrev ldW (x : FVec Ideal S1x1024x5632 .bf16) (o : ℕ) (h : ∀ a, (![0, 0, o] : Fin 3 → ℕ) a + (![1, 1024, 256] : Fin 3 → ℕ) a ≤ S1x1024x5632.size a) :
    FVec Ideal S1x1024x256 .bf16 := View.ld (Val := Elt Ideal) (e' := .bf16) x (Rect.unit (s := S1x1024x5632) ![0, 0, o] ![1, 1024, 256] h)
/-- The columns of the carried tail from `o` on. -/
abbrev ldT (x : FVec Ideal S16x2816 .f32) (o : ℕ) (h : ∀ a, (![0, o] : Fin 2 → ℕ) a + (![16, 256] : Fin 2 → ℕ) a ≤ S16x2816.size a) :
    FVec Ideal S16x256 .f32 := View.ld (Val := Elt Ideal) (e' := .f32) x (Rect.unit (s := S16x2816) ![0, o] ![16, 256] h)
/-- One tap's columns from `o` on. -/
abbrev ldC (x : FVec Ideal S1x3x2816 .f32) (i o : ℕ) (h : ∀ a, (![0, i, o] : Fin 3 → ℕ) a + (![1, 1, 256] : Fin 3 → ℕ) a ≤ S1x3x2816.size a) :
    FVec Ideal S1x1x256 .f32 := View.ld (Val := Elt Ideal) (e' := .f32) x (Rect.unit (s := S1x3x2816) ![0, i, o] ![1, 1, 256] h)
/-- The convolution's columns from `o` on. -/
abbrev ldU (x : FVec Ideal S1x512x768 .f32) (o : ℕ) (h : ∀ a, (![0, 0, o] : Fin 3 → ℕ) a + (![1, 512, 256] : Fin 3 → ℕ) a ≤ S1x512x768.size a) :
    FVec Ideal S1x512x256 .f32 := View.ld (Val := Elt Ideal) (e' := .f32) x (Rect.unit (s := S1x512x768) ![0, 0, o] ![1, 512, 256] h)
/-- One tap of the short convolution. -/
abbrev ldS (x : FVec Ideal S1x3x256 .f32) (i : ℕ) (h : ∀ a, (![0, i, 0] : Fin 3 → ℕ) a + (![1, 1, 256] : Fin 3 → ℕ) a ≤ S1x3x256.size a) :
    FVec Ideal S1x1x256 .f32 := View.ld (Val := Elt Ideal) (e' := .f32) x (Rect.unit (s := S1x3x256) ![0, i, 0] ![1, 1, 256] h)
/-- A piece of the hidden row block. -/
abbrev pz (o : ℕ) (h : ∀ a, (![0, o] : Fin 2 → ℕ) a + (![512, 256] : Fin 2 → ℕ) a ≤ S512x2816.size a) (v : FVec Ideal S512x256 .bf16) :
    View.Piece (Elt Ideal) S512x2816 .bf16 := ⟨Rect.unit ![0, o] ![512, 256] h, v⟩
/-- A piece of the tail. -/
abbrev pt (o : ℕ) (h : ∀ a, (![0, o] : Fin 2 → ℕ) a + (![16, 256] : Fin 2 → ℕ) a ≤ S16x2816.size a) (v : FVec Ideal S16x256 .f32) :
    View.Piece (Elt Ideal) S16x2816 .f32 := ⟨Rect.unit ![0, o] ![16, 256] h, v⟩

/-- One group of 256 hidden columns: the gated activation of its convolved half. -/
def chunk (H : FVec Ideal S512x1024 .bf16) (wa wg : FVec Ideal S1x1024x256 .bf16) (T : FVec Ideal S16x256 .f32)
    (c2 c1 c0 : FVec Ideal S1x1x256 .f32) : FVec Ideal S512x256 .bf16 :=
  k0_pay1 (k0_pay79 H wa H wg T c2 c1 c0)

/-- The rows one group of hidden columns hands to the next block. -/
def chunkTail (H : FVec Ideal S512x1024 .bf16) (wa : FVec Ideal S1x1024x256 .bf16) : FVec Ideal S16x256 .f32 :=
  k0_pay2 (k0_pay78 H wa)

/-- The pieces the hidden row block is written in. -/
def zPieces (H : FVec Ideal S512x1024 .bf16) (x9 : FVec Ideal S1x1024x5632 .bf16) (x10 : FVec Ideal S1x3x2816 .f32)
    (T5 : FVec Ideal S16x2816 .f32) : List (View.Piece (Elt Ideal) S512x2816 .bf16) :=
  [pz 2560 inb_S512x2816_S512x256_0_2560 (chunk H (ldW x9 2560 inb_S1x1024x5632_S1x1024x256_0_0_2560)
      (ldW x9 5376 inb_S1x1024x5632_S1x1024x256_0_0_5376)
      (ldT T5 2560 inb_S16x2816_S16x256_0_2560)
      (ldC x10 2 2560 inb_S1x3x2816_S1x1x256_0_2_2560)
      (ldC x10 1 2560 inb_S1x3x2816_S1x1x256_0_1_2560)
      (ldC x10 0 2560 inb_S1x3x2816_S1x1x256_0_0_2560)),
   pz 2304 inb_S512x2816_S512x256_0_2304 (chunk H (ldW x9 2304 inb_S1x1024x5632_S1x1024x256_0_0_2304)
      (ldW x9 5120 inb_S1x1024x5632_S1x1024x256_0_0_5120)
      (ldT T5 2304 inb_S16x2816_S16x256_0_2304)
      (ldC x10 2 2304 inb_S1x3x2816_S1x1x256_0_2_2304)
      (ldC x10 1 2304 inb_S1x3x2816_S1x1x256_0_1_2304)
      (ldC x10 0 2304 inb_S1x3x2816_S1x1x256_0_0_2304)),
   pz 2048 inb_S512x2816_S512x256_0_2048 (chunk H (ldW x9 2048 inb_S1x1024x5632_S1x1024x256_0_0_2048)
      (ldW x9 4864 inb_S1x1024x5632_S1x1024x256_0_0_4864)
      (ldT T5 2048 inb_S16x2816_S16x256_0_2048)
      (ldC x10 2 2048 inb_S1x3x2816_S1x1x256_0_2_2048)
      (ldC x10 1 2048 inb_S1x3x2816_S1x1x256_0_1_2048)
      (ldC x10 0 2048 inb_S1x3x2816_S1x1x256_0_0_2048)),
   pz 1792 inb_S512x2816_S512x256_0_1792 (chunk H (ldW x9 1792 inb_S1x1024x5632_S1x1024x256_0_0_1792)
      (ldW x9 4608 inb_S1x1024x5632_S1x1024x256_0_0_4608)
      (ldT T5 1792 inb_S16x2816_S16x256_0_1792)
      (ldC x10 2 1792 inb_S1x3x2816_S1x1x256_0_2_1792)
      (ldC x10 1 1792 inb_S1x3x2816_S1x1x256_0_1_1792)
      (ldC x10 0 1792 inb_S1x3x2816_S1x1x256_0_0_1792)),
   pz 1536 inb_S512x2816_S512x256_0_1536 (chunk H (ldW x9 1536 inb_S1x1024x5632_S1x1024x256_0_0_1536)
      (ldW x9 4352 inb_S1x1024x5632_S1x1024x256_0_0_4352)
      (ldT T5 1536 inb_S16x2816_S16x256_0_1536)
      (ldC x10 2 1536 inb_S1x3x2816_S1x1x256_0_2_1536)
      (ldC x10 1 1536 inb_S1x3x2816_S1x1x256_0_1_1536)
      (ldC x10 0 1536 inb_S1x3x2816_S1x1x256_0_0_1536)),
   pz 1280 inb_S512x2816_S512x256_0_1280 (chunk H (ldW x9 1280 inb_S1x1024x5632_S1x1024x256_0_0_1280)
      (ldW x9 4096 inb_S1x1024x5632_S1x1024x256_0_0_4096)
      (ldT T5 1280 inb_S16x2816_S16x256_0_1280)
      (ldC x10 2 1280 inb_S1x3x2816_S1x1x256_0_2_1280)
      (ldC x10 1 1280 inb_S1x3x2816_S1x1x256_0_1_1280)
      (ldC x10 0 1280 inb_S1x3x2816_S1x1x256_0_0_1280)),
   pz 1024 inb_S512x2816_S512x256_0_1024 (chunk H (ldW x9 1024 inb_S1x1024x5632_S1x1024x256_0_0_1024)
      (ldW x9 3840 inb_S1x1024x5632_S1x1024x256_0_0_3840)
      (ldT T5 1024 inb_S16x2816_S16x256_0_1024)
      (ldC x10 2 1024 inb_S1x3x2816_S1x1x256_0_2_1024)
      (ldC x10 1 1024 inb_S1x3x2816_S1x1x256_0_1_1024)
      (ldC x10 0 1024 inb_S1x3x2816_S1x1x256_0_0_1024)),
   pz 768 inb_S512x2816_S512x256_0_768 (chunk H (ldW x9 768 inb_S1x1024x5632_S1x1024x256_0_0_768)
      (ldW x9 3584 inb_S1x1024x5632_S1x1024x256_0_0_3584)
      (ldT T5 768 inb_S16x2816_S16x256_0_768)
      (ldC x10 2 768 inb_S1x3x2816_S1x1x256_0_2_768)
      (ldC x10 1 768 inb_S1x3x2816_S1x1x256_0_1_768)
      (ldC x10 0 768 inb_S1x3x2816_S1x1x256_0_0_768)),
   pz 512 inb_S512x2816_S512x256_0_512 (chunk H (ldW x9 512 inb_S1x1024x5632_S1x1024x256_0_0_512)
      (ldW x9 3328 inb_S1x1024x5632_S1x1024x256_0_0_3328)
      (ldT T5 512 inb_S16x2816_S16x256_0_512)
      (ldC x10 2 512 inb_S1x3x2816_S1x1x256_0_2_512)
      (ldC x10 1 512 inb_S1x3x2816_S1x1x256_0_1_512)
      (ldC x10 0 512 inb_S1x3x2816_S1x1x256_0_0_512)),
   pz 256 inb_S512x2816_S512x256_0_256 (chunk H (ldW x9 256 inb_S1x1024x5632_S1x1024x256_0_0_256)
      (ldW x9 3072 inb_S1x1024x5632_S1x1024x256_0_0_3072)
      (ldT T5 256 inb_S16x2816_S16x256_0_256)
      (ldC x10 2 256 inb_S1x3x2816_S1x1x256_0_2_256)
      (ldC x10 1 256 inb_S1x3x2816_S1x1x256_0_1_256)
      (ldC x10 0 256 inb_S1x3x2816_S1x1x256_0_0_256)),
   pz 0 inb_S512x2816_S512x256_0_0 (chunk H (ldW x9 0 inb_S1x1024x5632_S1x1024x256_0_0_0)
      (ldW x9 2816 inb_S1x1024x5632_S1x1024x256_0_0_2816)
      (ldT T5 0 inb_S16x2816_S16x256_0_0)
      (ldC x10 2 0 inb_S1x3x2816_S1x1x256_0_2_0)
      (ldC x10 1 0 inb_S1x3x2816_S1x1x256_0_1_0)
      (ldC x10 0 0 inb_S1x3x2816_S1x1x256_0_0_0))]

/-- The hidden row block. -/
def zB (H : FVec Ideal S512x1024 .bf16) (x9 : FVec Ideal S1x1024x5632 .bf16) (x10 : FVec Ideal S1x3x2816 .f32)
    (T5 : FVec Ideal S16x2816 .f32) : FVec Ideal S512x2816 .bf16 :=
  (View.whole cc0_scratch2).readCov (zPieces H x9 x10 T5) (Rect.unit (s := S512x2816) ![0, 0] ![512, 2816] inb_S512x2816_S512x2816_0_0).toLoadRect

/-- The pieces of the activation half's tail. -/
def tailPieces (H : FVec Ideal S512x1024 .bf16) (x9 : FVec Ideal S1x1024x5632 .bf16) :
    List (View.Piece (Elt Ideal) S16x2816 .f32) :=
  [pt 2560 inb_S16x2816_S16x256_0_2560 (chunkTail H (ldW x9 2560 inb_S1x1024x5632_S1x1024x256_0_0_2560)),
   pt 2304 inb_S16x2816_S16x256_0_2304 (chunkTail H (ldW x9 2304 inb_S1x1024x5632_S1x1024x256_0_0_2304)),
   pt 2048 inb_S16x2816_S16x256_0_2048 (chunkTail H (ldW x9 2048 inb_S1x1024x5632_S1x1024x256_0_0_2048)),
   pt 1792 inb_S16x2816_S16x256_0_1792 (chunkTail H (ldW x9 1792 inb_S1x1024x5632_S1x1024x256_0_0_1792)),
   pt 1536 inb_S16x2816_S16x256_0_1536 (chunkTail H (ldW x9 1536 inb_S1x1024x5632_S1x1024x256_0_0_1536)),
   pt 1280 inb_S16x2816_S16x256_0_1280 (chunkTail H (ldW x9 1280 inb_S1x1024x5632_S1x1024x256_0_0_1280)),
   pt 1024 inb_S16x2816_S16x256_0_1024 (chunkTail H (ldW x9 1024 inb_S1x1024x5632_S1x1024x256_0_0_1024)),
   pt 768 inb_S16x2816_S16x256_0_768 (chunkTail H (ldW x9 768 inb_S1x1024x5632_S1x1024x256_0_0_768)),
   pt 512 inb_S16x2816_S16x256_0_512 (chunkTail H (ldW x9 512 inb_S1x1024x5632_S1x1024x256_0_0_512)),
   pt 256 inb_S16x2816_S16x256_0_256 (chunkTail H (ldW x9 256 inb_S1x1024x5632_S1x1024x256_0_0_256)),
   pt 0 inb_S16x2816_S16x256_0_0 (chunkTail H (ldW x9 0 inb_S1x1024x5632_S1x1024x256_0_0_0))]

/-- The pooled columns' difference from the token. -/
def diffB (a : BitVec 32) (x0 : FVec Ideal S1x512x256 .f32) (T3 : FVec Ideal S16x256 .f32) : FVec Ideal S512x256 .bf16 :=
  k0_pay18 a (k0_pay7 x0) (k0_pay9 x0 T3) (k0_pay11 x0 T3) (k0_pay13 x0 T3) (k0_pay14 x0 T3) k0_pay15 k0_pay16 k0_pay17

/-- The short convolution's columns. -/
def convB (x1 : FVec Ideal S1x512x768 .f32) (x6 : FVec Ideal S1x3x256 .f32) (T4 : FVec Ideal S16x256 .f32) :
    FVec Ideal S512x256 .bf16 :=
  k0_pay25 (k0_pay22 (ldU x1 0 inb_S1x512x768_S1x512x256_0_0_0))
    (k0_pay24 (ldU x1 256 inb_S1x512x768_S1x512x256_0_0_256)
      (ldU x1 512 inb_S1x512x768_S1x512x256_0_0_512) T4)
    (ldS x6 2 inb_S1x3x256_S1x1x256_0_2_0)
    (ldS x6 1 inb_S1x3x256_S1x1x256_0_1_0)
    (ldS x6 0 inb_S1x3x256_S1x1x256_0_0_0)

/-- The pieces of the three mixers' row block. -/
def catPieces (a : BitVec 32) (x0 : FVec Ideal S1x512x256 .f32) (x1 : FVec Ideal S1x512x768 .f32)
    (x2 : FVec Ideal S1x512x512 .bf16) (x4 : FVec Ideal S1x256x256 .bf16) (x5 : FVec Ideal S1x1x256 .f32)
    (x6 : FVec Ideal S1x3x256 .f32) (T3 T4 : FVec Ideal S16x256 .f32) : List (View.Piece (Elt Ideal) S512x1024 .bf16) :=
  [⟨Rect.unit ![0, 768] ![512, 256] inb_S512x1024_S512x256_0_768, convB x1 x6 T4⟩,
   ⟨Rect.unit ![0, 256] ![512, 512] inb_S512x1024_S512x512_0_256, (k0_pay21 x2 : FVec Ideal S512x512 .bf16)⟩,
   ⟨Rect.unit ![0, 0] ![512, 256] inb_S512x1024_S512x256_0_0, (k0_pay19 (diffB a x0 T3) x4 x5 : FVec Ideal S512x256 .bf16)⟩]

/-- The three mixers' row block. -/
def catB (a : BitVec 32) (x0 : FVec Ideal S1x512x256 .f32) (x1 : FVec Ideal S1x512x768 .f32)
    (x2 : FVec Ideal S1x512x512 .bf16) (x4 : FVec Ideal S1x256x256 .bf16) (x5 : FVec Ideal S1x1x256 .f32)
    (x6 : FVec Ideal S1x3x256 .f32) (T3 T4 : FVec Ideal S16x256 .f32) : FVec Ideal S512x1024 .bf16 :=
  (View.whole cc0_scratch0).readCov (catPieces a x0 x1 x2 x4 x5 x6 T3 T4)
    (Rect.unit (s := S512x1024) ![0, 0] ![512, 1024] inb_S512x1024_S512x1024_0_0).toLoadRect

/-- The residual row block after the output projection, at a point's blocks and tails. -/
def x1At (c : Dev nD) (t : Fin cfg0.N) (T3 T4 : FVec Ideal S16x256 .f32) : FVec Ideal S512x1024 .f32 :=
  k0_pay27 (iblk m c 3 t) (catB (BitVec.ofNat 32 (grid0.coords t 1).val) (iblk m c 0 t) (iblk m c 1 t) (iblk m c 2 t)
    (iblk m c 4 t) (iblk m c 5 t) (iblk m c 6 t) T3 T4) (iblk m c 7 t)

/-- The normalised row block. -/
def h2At (c : Dev nD) (t : Fin cfg0.N) (T3 T4 : FVec Ideal S16x256 .f32) : FVec Ideal S512x1024 .bf16 :=
  k0_pay29 (x1At m c t T3 T4) (iblk m c 8 t)

/-- The output block. -/
def outAt (c : Dev nD) (t : Fin cfg0.N) (T3 T4 : FVec Ideal S16x256 .f32) (T5 : FVec Ideal S16x2816 .f32) :
    FVec Ideal S1x512x1024 .f32 :=
  k0_pay3 (k0_pay28 (x1At m c t T3 T4)) (zB (h2At m c t T3 T4) (iblk m c 9 t) (iblk m c 10 t) T5) (iblk m c 11 t)

section pieces
variable (H : FVec Ideal S512x1024 .bf16) (wa wg : FVec Ideal S1x1024x256 .bf16) (T : FVec Ideal S16x256 .f32)
  (c2 c1 c0 : FVec Ideal S1x1x256 .f32)

theorem chunk_0 : k0_pay34 (k0_pay31 H wg) (k0_pay32 H wa T) (k0_pay33 c2) c1 c0 = chunk H wa wg T c2 c1 c0 := rfl
theorem chunk_1 : k0_pay38 (k0_pay36 H wa) (k0_pay37 H wg) T c2 c1 c0 = chunk H wa wg T c2 c1 c0 := rfl
theorem chunk_2 : k0_pay41 (k0_pay40 H wa) H wg T c2 c1 c0 = chunk H wa wg T c2 c1 c0 := rfl
theorem chunk_3 : k0_pay44 H wa H wg T c2 c1 c0 = chunk H wa wg T c2 c1 c0 := rfl
theorem chunk_4 : k0_pay50 (k0_pay48 H wg) (k0_pay49 H wa T c2 c1 c0) = chunk H wa wg T c2 c1 c0 := rfl
theorem chunk_5 : k0_pay56 (k0_pay53 H wg) (k0_pay54 H wa T) (k0_pay55 H wa T c2 c1) c0 = chunk H wa wg T c2 c1 c0 := rfl
theorem chunk_6 : k0_pay63 (k0_pay59 H wg) (k0_pay60 H wa T) (k0_pay61 H wa T c2) (k0_pay62 c1) c0 = chunk H wa wg T c2 c1 c0 := rfl
theorem chunk_7 : k0_pay68 (k0_pay66 H wg) (k0_pay67 H wa T) c2 c1 c0 = chunk H wa wg T c2 c1 c0 := rfl
theorem chunk_8 : k0_pay72 (k0_pay70 H wa) H (k0_pay71 wg) T c2 c1 c0 = chunk H wa wg T c2 c1 c0 := rfl
theorem chunk_9 : k0_pay76 H (k0_pay74 wa) (constant S512x256 .f32 0#32) H wg T c2 c1 c0 = chunk H wa wg T c2 c1 c0 := rfl
end pieces

theorem zPieces_eq (H : FVec Ideal S512x1024 .bf16) (x9 : FVec Ideal S1x1024x5632 .bf16) (x10 : FVec Ideal S1x3x2816 .f32)
    (T5 : FVec Ideal S16x2816 .f32) :
    [pz 2560 inb_S512x2816_S512x256_0_2560 (k0_pay1 (k0_pay79 H (ldW x9 2560 inb_S1x1024x5632_S1x1024x256_0_0_2560) H (ldW x9 5376 inb_S1x1024x5632_S1x1024x256_0_0_5376) (ldT T5 2560 inb_S16x2816_S16x256_0_2560) (ldC x10 2 2560 inb_S1x3x2816_S1x1x256_0_2_2560) (ldC x10 1 2560 inb_S1x3x2816_S1x1x256_0_1_2560) (ldC x10 0 2560 inb_S1x3x2816_S1x1x256_0_0_2560))),
   pz 2304 inb_S512x2816_S512x256_0_2304 (k0_pay76 H (k0_pay74 (ldW x9 2304 inb_S1x1024x5632_S1x1024x256_0_0_2304)) (constant S512x256 .f32 0#32) H (ldW x9 5120 inb_S1x1024x5632_S1x1024x256_0_0_5120) (ldT T5 2304 inb_S16x2816_S16x256_0_2304) (ldC x10 2 2304 inb_S1x3x2816_S1x1x256_0_2_2304) (ldC x10 1 2304 inb_S1x3x2816_S1x1x256_0_1_2304) (ldC x10 0 2304 inb_S1x3x2816_S1x1x256_0_0_2304)),
   pz 2048 inb_S512x2816_S512x256_0_2048 (k0_pay72 (k0_pay70 H (ldW x9 2048 inb_S1x1024x5632_S1x1024x256_0_0_2048)) H (k0_pay71 (ldW x9 4864 inb_S1x1024x5632_S1x1024x256_0_0_4864)) (ldT T5 2048 inb_S16x2816_S16x256_0_2048) (ldC x10 2 2048 inb_S1x3x2816_S1x1x256_0_2_2048) (ldC x10 1 2048 inb_S1x3x2816_S1x1x256_0_1_2048) (ldC x10 0 2048 inb_S1x3x2816_S1x1x256_0_0_2048)),
   pz 1792 inb_S512x2816_S512x256_0_1792 (k0_pay68 (k0_pay66 H (ldW x9 4608 inb_S1x1024x5632_S1x1024x256_0_0_4608)) (k0_pay67 H (ldW x9 1792 inb_S1x1024x5632_S1x1024x256_0_0_1792) (ldT T5 1792 inb_S16x2816_S16x256_0_1792)) (ldC x10 2 1792 inb_S1x3x2816_S1x1x256_0_2_1792) (ldC x10 1 1792 inb_S1x3x2816_S1x1x256_0_1_1792) (ldC x10 0 1792 inb_S1x3x2816_S1x1x256_0_0_1792)),
   pz 1536 inb_S512x2816_S512x256_0_1536 (k0_pay63 (k0_pay59 H (ldW x9 4352 inb_S1x1024x5632_S1x1024x256_0_0_4352)) (k0_pay60 H (ldW x9 1536 inb_S1x1024x5632_S1x1024x256_0_0_1536) (ldT T5 1536 inb_S16x2816_S16x256_0_1536)) (k0_pay61 H (ldW x9 1536 inb_S1x1024x5632_S1x1024x256_0_0_1536) (ldT T5 1536 inb_S16x2816_S16x256_0_1536) (ldC x10 2 1536 inb_S1x3x2816_S1x1x256_0_2_1536)) (k0_pay62 (ldC x10 1 1536 inb_S1x3x2816_S1x1x256_0_1_1536)) (ldC x10 0 1536 inb_S1x3x2816_S1x1x256_0_0_1536)),
   pz 1280 inb_S512x2816_S512x256_0_1280 (k0_pay56 (k0_pay53 H (ldW x9 4096 inb_S1x1024x5632_S1x1024x256_0_0_4096)) (k0_pay54 H (ldW x9 1280 inb_S1x1024x5632_S1x1024x256_0_0_1280) (ldT T5 1280 inb_S16x2816_S16x256_0_1280)) (k0_pay55 H (ldW x9 1280 inb_S1x1024x5632_S1x1024x256_0_0_1280) (ldT T5 1280 inb_S16x2816_S16x256_0_1280) (ldC x10 2 1280 inb_S1x3x2816_S1x1x256_0_2_1280) (ldC x10 1 1280 inb_S1x3x2816_S1x1x256_0_1_1280)) (ldC x10 0 1280 inb_S1x3x2816_S1x1x256_0_0_1280)),
   pz 1024 inb_S512x2816_S512x256_0_1024 (k0_pay50 (k0_pay48 H (ldW x9 3840 inb_S1x1024x5632_S1x1024x256_0_0_3840)) (k0_pay49 H (ldW x9 1024 inb_S1x1024x5632_S1x1024x256_0_0_1024) (ldT T5 1024 inb_S16x2816_S16x256_0_1024) (ldC x10 2 1024 inb_S1x3x2816_S1x1x256_0_2_1024) (ldC x10 1 1024 inb_S1x3x2816_S1x1x256_0_1_1024) (ldC x10 0 1024 inb_S1x3x2816_S1x1x256_0_0_1024))),
   pz 768 inb_S512x2816_S512x256_0_768 (k0_pay44 H (ldW x9 768 inb_S1x1024x5632_S1x1024x256_0_0_768) H (ldW x9 3584 inb_S1x1024x5632_S1x1024x256_0_0_3584) (ldT T5 768 inb_S16x2816_S16x256_0_768) (ldC x10 2 768 inb_S1x3x2816_S1x1x256_0_2_768) (ldC x10 1 768 inb_S1x3x2816_S1x1x256_0_1_768) (ldC x10 0 768 inb_S1x3x2816_S1x1x256_0_0_768)),
   pz 512 inb_S512x2816_S512x256_0_512 (k0_pay41 (k0_pay40 H (ldW x9 512 inb_S1x1024x5632_S1x1024x256_0_0_512)) H (ldW x9 3328 inb_S1x1024x5632_S1x1024x256_0_0_3328) (ldT T5 512 inb_S16x2816_S16x256_0_512) (ldC x10 2 512 inb_S1x3x2816_S1x1x256_0_2_512) (ldC x10 1 512 inb_S1x3x2816_S1x1x256_0_1_512) (ldC x10 0 512 inb_S1x3x2816_S1x1x256_0_0_512)),
   pz 256 inb_S512x2816_S512x256_0_256 (k0_pay38 (k0_pay36 H (ldW x9 256 inb_S1x1024x5632_S1x1024x256_0_0_256)) (k0_pay37 H (ldW x9 3072 inb_S1x1024x5632_S1x1024x256_0_0_3072)) (ldT T5 256 inb_S16x2816_S16x256_0_256) (ldC x10 2 256 inb_S1x3x2816_S1x1x256_0_2_256) (ldC x10 1 256 inb_S1x3x2816_S1x1x256_0_1_256) (ldC x10 0 256 inb_S1x3x2816_S1x1x256_0_0_256)),
   pz 0 inb_S512x2816_S512x256_0_0 (k0_pay34 (k0_pay31 H (ldW x9 2816 inb_S1x1024x5632_S1x1024x256_0_0_2816)) (k0_pay32 H (ldW x9 0 inb_S1x1024x5632_S1x1024x256_0_0_0) (ldT T5 0 inb_S16x2816_S16x256_0_0)) (k0_pay33 (ldC x10 2 0 inb_S1x3x2816_S1x1x256_0_2_0)) (ldC x10 1 0 inb_S1x3x2816_S1x1x256_0_1_0) (ldC x10 0 0 inb_S1x3x2816_S1x1x256_0_0_0))] = zPieces H x9 x10 T5 := by
  unfold zPieces
  rw [chunk_9, chunk_8, chunk_7, chunk_6, chunk_5, chunk_4, chunk_3, chunk_2, chunk_1, chunk_0]
  rfl

set_option maxHeartbeats 400000 in
theorem pool_tail_B (c : Dev nD) (t : Fin cfg0.N) (h : ¬t.val % 4 = 0) :
    (outsAt0 m c t.val t.isLt).2.1 = k0_pay20 (F := Ideal) (k0_pay7 (iblk m c 0 t)) := by
  rw [outsAt0_B m c t h]
  frame_out
  try simp only [read_unread_whole]
  first | done | rfl

set_option maxHeartbeats 400000 in
theorem conv_tail_B (c : Dev nD) (t : Fin cfg0.N) (h : ¬t.val % 4 = 0) :
    (outsAt0 m c t.val t.isLt).2.2.1 = k0_pay26 (F := Ideal) (k0_pay23 (ldU (iblk m c 1 t) 256 inb_S1x512x768_S1x512x256_0_0_256)
      (ldU (iblk m c 1 t) 512 inb_S1x512x768_S1x512x256_0_0_512)) := by
  rw [outsAt0_B m c t h]
  frame_out
  try simp only [read_unread_whole]
  first | done | rfl

set_option maxHeartbeats 400000 in
theorem act_tail_B (c : Dev nD) (t : Fin cfg0.N) (h : ¬t.val % 4 = 0) :
    (outsAt0 m c t.val t.isLt).2.2.2 = View.canon (tailPieces (h2At m c t (outsAt0 m c (t.val - 1) (lt_of_le_of_lt (Nat.sub_le _ _) t.isLt)).2.1 (outsAt0 m c (t.val - 1) (lt_of_le_of_lt (Nat.sub_le _ _) t.isLt)).2.2.1) (iblk m c 9 t)) := by
  rw [outsAt0_B m c t h]
  frame_out
  try simp only [read_unread_whole]
  obtain ⟨X, hX⟩ : ∃ X, X = x1At m c t (outsAt0 m c (t.val - 1) (lt_of_le_of_lt (Nat.sub_le _ _) t.isLt)).2.1 (outsAt0 m c (t.val - 1) (lt_of_le_of_lt (Nat.sub_le _ _) t.isLt)).2.2.1 := ⟨_, rfl⟩
  unfold h2At
  rw [← hX]
  unfold x1At catB catPieces convB diffB at hX
  rw [← hX]
  clear hX
  generalize k0_pay29 X (iblk m c 8 t) = H
  rfl

set_option maxHeartbeats 400000 in
theorem out_B (c : Dev nD) (t : Fin cfg0.N) (h : ¬t.val % 4 = 0) :
    (outsAt0 m c t.val t.isLt).1 = outAt m c t (outsAt0 m c (t.val - 1) (lt_of_le_of_lt (Nat.sub_le _ _) t.isLt)).2.1 (outsAt0 m c (t.val - 1) (lt_of_le_of_lt (Nat.sub_le _ _) t.isLt)).2.2.1 (outsAt0 m c (t.val - 1) (lt_of_le_of_lt (Nat.sub_le _ _) t.isLt)).2.2.2 := by
  rw [outsAt0_B m c t h]
  frame_out
  try simp only [read_unread_whole]
  obtain ⟨X, hX⟩ : ∃ X, X = x1At m c t (outsAt0 m c (t.val - 1) (lt_of_le_of_lt (Nat.sub_le _ _) t.isLt)).2.1 (outsAt0 m c (t.val - 1) (lt_of_le_of_lt (Nat.sub_le _ _) t.isLt)).2.2.1 := ⟨_, rfl⟩
  unfold outAt h2At
  rw [← hX]
  unfold x1At catB catPieces convB diffB at hX
  rw [← hX]
  clear hX
  generalize k0_pay29 X (iblk m c 8 t) = H
  unfold zB
  rw [← zPieces_eq]

set_option maxHeartbeats 400000 in
theorem pool_tail_A (c : Dev nD) (t : Fin cfg0.N) (h : t.val % 4 = 0) :
    (outsAt0 m c t.val t.isLt).2.1 = k0_pay20 (F := Ideal) (k0_pay7 (iblk m c 0 t)) := by
  rw [outsAt0_A m c t h]
  frame_out
  try simp (disch := decide) only [↓ View.readCov_skip, ↓ View.readCov_cons_toLoadRect, ↓ View.readCov_fill]
  try simp only [read_unread_whole]
  first | done | rfl

set_option maxHeartbeats 400000 in
theorem conv_tail_A (c : Dev nD) (t : Fin cfg0.N) (h : t.val % 4 = 0) :
    (outsAt0 m c t.val t.isLt).2.2.1 = k0_pay26 (F := Ideal) (k0_pay23 (ldU (iblk m c 1 t) 256 inb_S1x512x768_S1x512x256_0_0_256)
      (ldU (iblk m c 1 t) 512 inb_S1x512x768_S1x512x256_0_0_512)) := by
  rw [outsAt0_A m c t h]
  frame_out
  try simp (disch := decide) only [↓ View.readCov_skip, ↓ View.readCov_cons_toLoadRect, ↓ View.readCov_fill]
  try simp only [read_unread_whole]
  first | done | rfl

set_option maxHeartbeats 400000 in
theorem act_tail_A (c : Dev nD) (t : Fin cfg0.N) (h : t.val % 4 = 0) :
    (outsAt0 m c t.val t.isLt).2.2.2 = View.canon (tailPieces (h2At m c t k0_pay4 k0_pay5) (iblk m c 9 t) ++ [⟨Rect.unit ![0, 0] ![16, 2816] inb_S16x2816_S16x2816_0_0, (k0_pay6 : FVec Ideal S16x2816 .f32)⟩]) := by
  rw [outsAt0_A m c t h]
  frame_out
  try simp (disch := decide) only [↓ View.readCov_skip, ↓ View.readCov_cons_toLoadRect, ↓ View.readCov_fill]
  try simp only [read_unread_whole]
  obtain ⟨X, hX⟩ : ∃ X, X = x1At m c t k0_pay4 k0_pay5 := ⟨_, rfl⟩
  unfold h2At
  rw [← hX]
  unfold x1At catB catPieces convB diffB at hX
  rw [← hX]
  clear hX
  generalize k0_pay29 X (iblk m c 8 t) = H
  unfold tailPieces
  rw [List.cons_append, List.cons_append, List.cons_append, List.cons_append, List.cons_append, List.cons_append, List.cons_append, List.cons_append, List.cons_append, List.cons_append, List.cons_append, List.nil_append]
  rfl

set_option maxHeartbeats 400000 in
theorem out_A (c : Dev nD) (t : Fin cfg0.N) (h : t.val % 4 = 0) :
    (outsAt0 m c t.val t.isLt).1 = outAt m c t k0_pay4 k0_pay5 k0_pay6 := by
  rw [outsAt0_A m c t h]
  frame_out
  try simp (disch := decide) only [↓ View.readCov_skip, ↓ View.readCov_cons_toLoadRect, ↓ View.readCov_fill]
  try simp only [read_unread_whole]
  obtain ⟨X, hX⟩ : ∃ X, X = x1At m c t k0_pay4 k0_pay5 := ⟨_, rfl⟩
  unfold outAt h2At
  rw [← hX]
  unfold x1At catB catPieces convB diffB at hX
  rw [← hX]
  clear hX
  generalize k0_pay29 X (iblk m c 8 t) = H
  unfold zB
  rw [← zPieces_eq]

end Cert.KernelIdeal.Mix
-- ==== Proof.MixEntry.lean ====
module

public import proofs.«01_k».proof.Defs
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Mix
open Idealize.ShloMosaic Idealize.ShloMosaic.TcCoe Cert.KernelIdeal Cert.KernelIdeal.Gen
open Idealize.SL.Sem

variable (m : (ℓ : Loc nD τ sig) → Buf (Elt Ideal) ℓ)

/-! The arrays of the mixing call as it is handed them, and the block of each at a point. -/

/-- The pooled columns handed in. -/
abbrev A0 (c : Dev nD) : FVec Ideal S16x2048x256 .f32 := m ((c.tc : Thread nD τ).loc main_arg0)
/-- The short convolution's columns handed in. -/
abbrev A1 (c : Dev nD) : FVec Ideal S16x2048x768 .f32 := m ((c.tc : Thread nD τ).loc main_arg1)
/-- The attention's output handed in. -/
abbrev A2 (c : Dev nD) : FVec Ideal S16x2048x512 .bf16 := m ((c.tc : Thread nD τ).loc main_arg2)
/-- The residual handed in. -/
abbrev A3 (c : Dev nD) : FVec Ideal S16x2048x1024 .f32 := m ((c.tc : Thread nD τ).loc main_arg3)
/-- The pooling groups' matrices. -/
abbrev A4 (c : Dev nD) : FVec Ideal S4x4x64x64 .f32 := m ((c.tc : Thread nD τ).loc main_arg4)
/-- The pooling scales. -/
abbrev A5 (c : Dev nD) : FVec Ideal S4x256 .f32 := m ((c.tc : Thread nD τ).loc main_arg5)
/-- The short convolution's taps. -/
abbrev A6 (c : Dev nD) : FVec Ideal S4x3x256 .f32 := m ((c.tc : Thread nD τ).loc main_arg6)
/-- The output projection. -/
abbrev A7 (c : Dev nD) : FVec Ideal S4x1024x1024 .f32 := m ((c.tc : Thread nD τ).loc main_arg7)
/-- The norm's gain. -/
abbrev A8 (c : Dev nD) : FVec Ideal S4x1024 .f32 := m ((c.tc : Thread nD τ).loc main_arg8)
/-- The up projection. -/
abbrev A9 (c : Dev nD) : FVec Ideal S4x1024x5632 .f32 := m ((c.tc : Thread nD τ).loc main_arg9)
/-- The hidden convolution's taps. -/
abbrev A10 (c : Dev nD) : FVec Ideal S4x3x2816 .f32 := m ((c.tc : Thread nD τ).loc main_arg10)
/-- The down projection. -/
abbrev A11 (c : Dev nD) : FVec Ideal S4x2816x1024 .f32 := m ((c.tc : Thread nD τ).loc main_arg11)

/-- The first half of the preparing operations' values, up to the block-diagonal matrix's last row. -/
def before (c : Dev nD) : Valuation τ sig (Elt Ideal) := StableHlo.after (hostOps0.take 36) (fun b => m (c, b))

theorem split (c : Dev nD) : StableHlo.after hostOps0 (fun b => m (c, b)) = StableHlo.after (hostOps0.drop 36) (before m c) := rfl

/-- The block-diagonal matrix from its four rows of blocks. -/
def rows4 {F : FTy → Type} [FloatOps F] (a0 a1 a2 a3 : FVec F S4x64x256 .f32) : FVec F S4x256x256 .f32 :=
  concatenate S4x256x256 1 [⟨S4x64x256, a0⟩, ⟨S4x64x256, a1⟩, ⟨S4x64x256, a2⟩, ⟨S4x64x256, a3⟩] concatenates_S4x64x256_S4x64x256_S4x64x256_S4x64x256_S4x256x256_d1

theorem entry_rows (c : Dev nD) : V m c main_v25 = (truncf .bf16 (rows4 (F := Ideal) (before m c (Proc.tc.devRef main_v11))
    (before m c (Proc.tc.devRef main_v15)) (before m c (Proc.tc.devRef main_v19)) (before m c (Proc.tc.devRef main_v23))) bitsLt_bf16_f32 : FVec Ideal S4x256x256 .bf16) := by
  change StableHlo.after _ _ _ = _
  rw [split]
  generalize before m c = σ
  simp only [hostOps0, List.drop]
  after_results_simp
  rfl

theorem entry_v26 (c : Dev nD) (k : Fin 1024) : V m c main_v26 (ix3 0 0 k) = A8 m c (ix2 0 k) := by
  change StableHlo.after _ _ _ _ = _
  rw [split]
  have e : before m c (Proc.tc.devRef main_arg8) = m (c, Proc.tc.devRef main_arg8) := by
    unfold before
    simp only [hostOps0, List.take]
    after_results_simp
  generalize before m c = σ at *
  simp only [hostOps0, List.drop]
  after_results_simp
  pointwise
  rw [e]

theorem entry_v27 (c : Dev nD) (k : Fin 256) : V m c main_v27 (ix3 0 0 k) = A5 m c (ix2 0 k) := by
  change StableHlo.after _ _ _ _ = _
  rw [split]
  have e : before m c (Proc.tc.devRef main_arg5) = m (c, Proc.tc.devRef main_arg5) := by
    unfold before
    simp only [hostOps0, List.take]
    after_results_simp
  generalize before m c = σ at *
  simp only [hostOps0, List.drop]
  after_results_simp
  pointwise
  rw [e]

theorem entry_v28 (c : Dev nD) (i : Fin 1024) (k : Fin 1024) : V m c main_v28 (ix3 0 i k) = A7 m c (ix3 0 i k) := by
  change StableHlo.after _ _ _ _ = _
  rw [split]
  have e : before m c (Proc.tc.devRef main_arg7) = m (c, Proc.tc.devRef main_arg7) := by
    unfold before
    simp only [hostOps0, List.take]
    after_results_simp
  generalize before m c = σ at *
  simp only [hostOps0, List.drop]
  after_results_simp
  pointwise
  rw [e]

theorem entry_v29 (c : Dev nD) (i : Fin 1024) (k : Fin 5632) : V m c main_v29 (ix3 0 i k) = A9 m c (ix3 0 i k) := by
  change StableHlo.after _ _ _ _ = _
  rw [split]
  have e : before m c (Proc.tc.devRef main_arg9) = m (c, Proc.tc.devRef main_arg9) := by
    unfold before
    simp only [hostOps0, List.take]
    after_results_simp
  generalize before m c = σ at *
  simp only [hostOps0, List.drop]
  after_results_simp
  pointwise
  rw [e]

theorem entry_v30 (c : Dev nD) (i : Fin 2816) (k : Fin 1024) : V m c main_v30 (ix3 0 i k) = A11 m c (ix3 0 i k) := by
  change StableHlo.after _ _ _ _ = _
  rw [split]
  have e : before m c (Proc.tc.devRef main_arg11) = m (c, Proc.tc.devRef main_arg11) := by
    unfold before
    simp only [hostOps0, List.take]
    after_results_simp
  generalize before m c = σ at *
  simp only [hostOps0, List.drop]
  after_results_simp
  pointwise
  rw [e]

/-- A row of blocks from its four blocks. -/
def cols4 {F : FTy → Type} [FloatOps F] (a0 a1 a2 a3 : FVec F S4x64x64 .f32) : FVec F S4x64x256 .f32 :=
  concatenate S4x64x256 2 [⟨S4x64x64, a0⟩, ⟨S4x64x64, a1⟩, ⟨S4x64x64, a2⟩, ⟨S4x64x64, a3⟩] concatenates_S4x64x64_S4x64x64_S4x64x64_S4x64x64_S4x64x256_d2

/-- The values after the first `n` preparing operations. -/
def upTo (n : ℕ) (c : Dev nD) : Valuation τ sig (Elt Ideal) := StableHlo.after (hostOps0.take n) (fun b => m (c, b))

/-- The zero block. -/
def zeroBlock : FVec Ideal S4x64x64 .f32 := fun _ => (0 : EReal)

theorem block_v1 (c : Dev nD) (i k : Fin 64) : (upTo m 14 c (Proc.tc.devRef main_v1) : FVec Ideal S4x64x64 .f32) (ix3 0 i k)
    = A4 m c (ix4 0 0 i k) := by
  unfold upTo
  simp only [hostOps0, List.take, StableHlo.TRef.unary, StableHlo.TRef.toBuf, StableHlo.TRef.ofBuf, cast_eq]
  after_results_simp
  pointwise

theorem block_v8 (c : Dev nD) : upTo m 14 c (Proc.tc.devRef main_v8) = zeroBlock := by
  unfold upTo
  simp only [hostOps0, List.take]
  after_results_simp
  funext i
  pointwise
  rfl

theorem block_v9 (c : Dev nD) : upTo m 14 c (Proc.tc.devRef main_v9) = zeroBlock := by
  unfold upTo
  simp only [hostOps0, List.take]
  after_results_simp
  funext i
  pointwise
  rfl

theorem block_v10 (c : Dev nD) : upTo m 14 c (Proc.tc.devRef main_v10) = zeroBlock := by
  unfold upTo
  simp only [hostOps0, List.take]
  after_results_simp
  funext i
  pointwise
  rfl

theorem row_v11 (c : Dev nD) : before m c (Proc.tc.devRef main_v11) = cols4 (F := Ideal) (upTo m 14 c (Proc.tc.devRef main_v1)) (upTo m 14 c (Proc.tc.devRef main_v8)) (upTo m 14 c (Proc.tc.devRef main_v9)) (upTo m 14 c (Proc.tc.devRef main_v10)) := by
  have h : before m c = StableHlo.after ((hostOps0.take 36).drop 14) (upTo m 14 c) := rfl
  rw [h]
  generalize upTo m 14 c = σ
  simp only [hostOps0, List.drop, List.take]
  after_results_simp
  rfl

theorem block_v12 (c : Dev nD) : upTo m 21 c (Proc.tc.devRef main_v12) = zeroBlock := by
  unfold upTo
  simp only [hostOps0, List.take]
  after_results_simp
  funext i
  pointwise
  rfl

theorem block_v3 (c : Dev nD) (i k : Fin 64) : (upTo m 21 c (Proc.tc.devRef main_v3) : FVec Ideal S4x64x64 .f32) (ix3 0 i k)
    = A4 m c (ix4 0 1 i k) := by
  unfold upTo
  simp only [hostOps0, List.take, StableHlo.TRef.unary, StableHlo.TRef.toBuf, StableHlo.TRef.ofBuf, cast_eq]
  after_results_simp
  pointwise

theorem block_v13 (c : Dev nD) : upTo m 21 c (Proc.tc.devRef main_v13) = zeroBlock := by
  unfold upTo
  simp only [hostOps0, List.take]
  after_results_simp
  funext i
  pointwise
  rfl

theorem block_v14 (c : Dev nD) : upTo m 21 c (Proc.tc.devRef main_v14) = zeroBlock := by
  unfold upTo
  simp only [hostOps0, List.take]
  after_results_simp
  funext i
  pointwise
  rfl

theorem row_v15 (c : Dev nD) : before m c (Proc.tc.devRef main_v15) = cols4 (F := Ideal) (upTo m 21 c (Proc.tc.devRef main_v12)) (upTo m 21 c (Proc.tc.devRef main_v3)) (upTo m 21 c (Proc.tc.devRef main_v13)) (upTo m 21 c (Proc.tc.devRef main_v14)) := by
  have h : before m c = StableHlo.after ((hostOps0.take 36).drop 21) (upTo m 21 c) := rfl
  rw [h]
  generalize upTo m 21 c = σ
  simp only [hostOps0, List.drop, List.take]
  after_results_simp
  rfl

theorem block_v16 (c : Dev nD) : upTo m 28 c (Proc.tc.devRef main_v16) = zeroBlock := by
  unfold upTo
  simp only [hostOps0, List.take]
  after_results_simp
  funext i
  pointwise
  rfl

theorem block_v17 (c : Dev nD) : upTo m 28 c (Proc.tc.devRef main_v17) = zeroBlock := by
  unfold upTo
  simp only [hostOps0, List.take]
  after_results_simp
  funext i
  pointwise
  rfl

theorem block_v5 (c : Dev nD) (i k : Fin 64) : (upTo m 28 c (Proc.tc.devRef main_v5) : FVec Ideal S4x64x64 .f32) (ix3 0 i k)
    = A4 m c (ix4 0 2 i k) := by
  unfold upTo
  simp only [hostOps0, List.take, StableHlo.TRef.unary, StableHlo.TRef.toBuf, StableHlo.TRef.ofBuf, cast_eq]
  after_results_simp
  pointwise

theorem block_v18 (c : Dev nD) : upTo m 28 c (Proc.tc.devRef main_v18) = zeroBlock := by
  unfold upTo
  simp only [hostOps0, List.take]
  after_results_simp
  funext i
  pointwise
  rfl

theorem row_v19 (c : Dev nD) : before m c (Proc.tc.devRef main_v19) = cols4 (F := Ideal) (upTo m 28 c (Proc.tc.devRef main_v16)) (upTo m 28 c (Proc.tc.devRef main_v17)) (upTo m 28 c (Proc.tc.devRef main_v5)) (upTo m 28 c (Proc.tc.devRef main_v18)) := by
  have h : before m c = StableHlo.after ((hostOps0.take 36).drop 28) (upTo m 28 c) := rfl
  rw [h]
  generalize upTo m 28 c = σ
  simp only [hostOps0, List.drop, List.take]
  after_results_simp
  rfl

theorem block_v20 (c : Dev nD) : upTo m 35 c (Proc.tc.devRef main_v20) = zeroBlock := by
  unfold upTo
  simp only [hostOps0, List.take]
  after_results_simp
  funext i
  pointwise
  rfl

theorem block_v21 (c : Dev nD) : upTo m 35 c (Proc.tc.devRef main_v21) = zeroBlock := by
  unfold upTo
  simp only [hostOps0, List.take]
  after_results_simp
  funext i
  pointwise
  rfl

theorem block_v22 (c : Dev nD) : upTo m 35 c (Proc.tc.devRef main_v22) = zeroBlock := by
  unfold upTo
  simp only [hostOps0, List.take]
  after_results_simp
  funext i
  pointwise
  rfl

theorem block_v7 (c : Dev nD) (i k : Fin 64) : (upTo m 35 c (Proc.tc.devRef main_v7) : FVec Ideal S4x64x64 .f32) (ix3 0 i k)
    = A4 m c (ix4 0 3 i k) := by
  unfold upTo
  simp only [hostOps0, List.take, StableHlo.TRef.unary, StableHlo.TRef.toBuf, StableHlo.TRef.ofBuf, cast_eq]
  after_results_simp
  pointwise

theorem row_v23 (c : Dev nD) : before m c (Proc.tc.devRef main_v23) = cols4 (F := Ideal) (upTo m 35 c (Proc.tc.devRef main_v20)) (upTo m 35 c (Proc.tc.devRef main_v21)) (upTo m 35 c (Proc.tc.devRef main_v22)) (upTo m 35 c (Proc.tc.devRef main_v7)) := by
  have h : before m c = StableHlo.after ((hostOps0.take 36).drop 35) (upTo m 35 c) := rfl
  rw [h]
  generalize upTo m 35 c = σ
  simp only [hostOps0, List.drop, List.take]
  after_results_simp
  rfl

theorem cols4_apply (a0 a1 a2 a3 : FVec Ideal S4x64x64 .f32) (i : Fin 64) (k : Fin 256) :
    cols4 (F := Ideal) a0 a1 a2 a3 (ix3 0 i k) = (![a0, a1, a2, a3] : Fin 4 → FVec Ideal S4x64x64 .f32) ⟨k.val / 64, by omega⟩
      (ix3 0 i ⟨k.val % 64, Nat.mod_lt _ (by decide)⟩) := by
  unfold cols4
  refine concatenate_ofFn_apply (t := S4x64x256) (s₁ := S4x64x64) 2 (![a0, a1, a2, a3] : Fin 4 → FVec Ideal S4x64x64 .f32) _ rfl 64 rfl _ ⟨k.val / 64, by omega⟩ rfl _ rfl ?_
  intro b hb
  fin_cases b
  · rfl
  · rfl
  · exact absurd rfl hb

theorem rows4_apply (a0 a1 a2 a3 : FVec Ideal S4x64x256 .f32) (i : Fin 256) (k : Fin 256) :
    rows4 (F := Ideal) a0 a1 a2 a3 (ix3 0 i k) = (![a0, a1, a2, a3] : Fin 4 → FVec Ideal S4x64x256 .f32) ⟨i.val / 64, by omega⟩
      (ix3 0 ⟨i.val % 64, Nat.mod_lt _ (by decide)⟩ k) := by
  unfold rows4
  refine concatenate_ofFn_apply (t := S4x256x256) (s₁ := S4x64x256) 1 (![a0, a1, a2, a3] : Fin 4 → FVec Ideal S4x64x256 .f32) _ rfl 64 rfl _ ⟨i.val / 64, by omega⟩ rfl _ rfl ?_
  intro b hb
  fin_cases b
  · rfl
  · exact absurd rfl hb
  · rfl

set_option maxHeartbeats 2000000 in
/-- The block-diagonal matrix: a group's matrix on the diagonal, zero elsewhere. -/
theorem entry_v25 (c : Dev nD) (i k : Fin 256) : V m c main_v25 (ix3 0 i k)
    = if i.val / 64 = k.val / 64 then A4 m c (ix4 0 ⟨k.val / 64, by omega⟩ ⟨i.val % 64, Nat.mod_lt _ (by decide)⟩ ⟨k.val % 64, Nat.mod_lt _ (by decide)⟩)
      else (0 : EReal) := by
  rw [entry_rows]
  pointwise
  rw [rows4_apply, row_v11, row_v15, row_v19, row_v23]
  have hi := i.isLt
  have hk := k.isLt
  rw [block_v8, block_v9, block_v10, block_v12, block_v13, block_v14, block_v16, block_v17, block_v18, block_v20, block_v21, block_v22]
  generalize hp : (⟨i.val / 64, by omega⟩ : Fin 4) = p
  generalize hi' : (⟨i.val % 64, Nat.mod_lt _ (by decide)⟩ : Fin 64) = i'
  have e1 : i.val / 64 = p.val := congrArg Fin.val hp
  rw [e1]
  have e2 : ∀ q : Fin 4, q = ⟨k.val / 64, by omega⟩ → k.val / 64 = q.val := fun q hq => (congrArg Fin.val hq).symm
  fin_cases p
  all_goals
    dsimp only [Matrix.cons_val, Matrix.cons_val_zero, Matrix.cons_val_one, Matrix.head_cons]
    refine (cols4_apply _ _ _ _ i' k).trans ?_
    generalize hq : (⟨k.val / 64, by omega⟩ : Fin 4) = q
    have e3 : k.val / 64 = q.val := congrArg Fin.val hq
    rw [e3]
    fin_cases q
  all_goals
    first
      | exact (block_v1 m c _ _).trans (if_pos rfl).symm
      | exact (block_v3 m c _ _).trans (if_pos rfl).symm
      | exact (block_v5 m c _ _).trans (if_pos rfl).symm
      | exact (block_v7 m c _ _).trans (if_pos rfl).symm
      | exact (if_neg (by decide)).symm

end Cert.KernelIdeal.Mix
-- ==== Proof.MixValue.lean ====
module

public import proofs.«01_k».proof.Defs
public import proofs.«01_k».proof.Proof.Gen.KernelIdeal.Value
public import Idealize.ShloMosaic.Lib.Pipeline.ValueKit
public import Idealize.ShloMosaic.Lib.Pipeline.ReadBack
public import proofs.«01_k».proof.Proof.MixPool
public import proofs.«01_k».proof.Proof.MixBlocks
public import proofs.«01_k».proof.Proof.MixEntry

@[expose] public section

set_option maxRecDepth 16384

noncomputable section

namespace Cert.KernelIdeal.Mix
open Idealize.ShloMosaic Idealize.ShloMosaic.TcCoe Cert.KernelIdeal Cert.KernelIdeal.Gen
open Idealize.SL.Sem

variable (m : (ℓ : Loc nD τ sig) → Buf (Elt Ideal) ℓ)

/-! What the mixing call computes, as formulas over the arrays it is handed, and that its output array is those. -/

/-- The arrays the second half of a layer reads. -/
structure Arrays where
  pool : FVec Ideal S16x2048x256 .f32
  conv : FVec Ideal S16x2048x768 .f32
  nsa : FVec Ideal S16x2048x512 .bf16
  res : FVec Ideal S16x2048x1024 .f32
  poolW : FVec Ideal S4x4x64x64 .f32
  poolS : FVec Ideal S4x256 .f32
  taps : FVec Ideal S4x3x256 .f32
  outW : FVec Ideal S4x1024x1024 .f32
  gain : FVec Ideal S4x1024 .f32
  up : FVec Ideal S4x1024x5632 .f32
  ffnTaps : FVec Ideal S4x3x2816 .f32
  down : FVec Ideal S4x2816x1024 .f32

/-- A column read at a position, zero past the end. -/
def rd (f : Fin 2048 → EReal) (p : ℕ) : EReal := if h : p < 2048 then f ⟨p, h⟩ else 0

section formulas
variable (A : Arrays) (b : Fin 16)

/-- A pooled column. -/
def poolCol (k : Fin 256) : ℕ → EReal := rd fun t => A.pool (ix3 b t k)
/-- The trailing mean minus the token. -/
def diffOf (p : ℕ) (k : Fin 256) : EReal :=
  Ideal.div (win (poolCol A b k) (width k.val) p) (count (width k.val) p) - poolCol A b k p
/-- The pooling mixer. -/
def poolOf (p : ℕ) (k : Fin 256) : EReal :=
  (∑ c : Fin 64, diffOf A b p ⟨64 * (k.val / 64) + c.val, by omega⟩
      * A.poolW (ix4 0 ⟨k.val / 64, by omega⟩ c ⟨k.val % 64, Nat.mod_lt _ (by decide)⟩)) * A.poolS (ix2 0 k)
/-- The product the short convolution runs over. -/
def convCol (k : Fin 256) : ℕ → EReal :=
  rd fun t => A.conv (ix3 b t ⟨256 + k.val, by omega⟩) * A.conv (ix3 b t ⟨512 + k.val, by omega⟩)
/-- The gated short convolution. -/
def convOf (p : ℕ) (k : Fin 256) : EReal :=
  rd (fun t => A.conv (ix3 b t ⟨k.val, by omega⟩)) p
    * conv3 (convCol A b k) (A.taps (ix3 0 2 k)) (A.taps (ix3 0 1 k)) (A.taps (ix3 0 0 k)) p
/-- The three mixers side by side. -/
def catOf (p : ℕ) (k : Fin 1024) : EReal :=
  if h : k.val < 256 then poolOf A b p ⟨k.val, h⟩
  else if h' : k.val < 768 then rd (fun t => A.nsa (ix3 b t ⟨k.val - 256, by omega⟩)) p
  else convOf A b p ⟨k.val - 768, by omega⟩
/-- The residual after the output projection. -/
def x1Of (p : ℕ) (k : Fin 1024) : EReal := rd (fun t => A.res (ix3 b t k)) p + ∑ c, catOf A b p c * A.outW (ix3 0 c k)
/-- Its norm. -/
def h2Of (p : ℕ) (k : Fin 1024) : EReal :=
  x1Of A b p k * Ideal.rsqrt (Ideal.div (∑ c, x1Of A b p c * x1Of A b p c) (Ideal.ofBits FTy.f32 1149239296#32)
          + Ideal.ofBits FTy.f32 897988541#32) * A.gain (ix2 0 k)
/-- The hidden half that is convolved and activated. -/
def actOf (k : Fin 2816) (p : ℕ) : EReal := ∑ c, h2Of A b p c * A.up (ix3 0 c ⟨k.val, by omega⟩)
/-- The hidden half that gates. -/
def gateOf (k : Fin 2816) (p : ℕ) : EReal := ∑ c, h2Of A b p c * A.up (ix3 0 c ⟨2816 + k.val, by omega⟩)
/-- The hidden row. -/
def zOf (p : ℕ) (k : Fin 2816) : EReal :=
  gated (conv3 (actOf A b k) (A.ffnTaps (ix3 0 2 k)) (A.ffnTaps (ix3 0 1 k)) (A.ffnTaps (ix3 0 0 k)) p) (gateOf A b k p)
/-- The layer's output. -/
def outOf (p : ℕ) (k : Fin 1024) : EReal := x1Of A b p k + ∑ c, zOf A b p c * A.down (ix3 0 c k)

end formulas

theorem rd_lt (f : Fin 2048 → EReal) (p : ℕ) (h : p < 2048) : rd f p = f ⟨p, h⟩ := dif_pos h

/-- A piece of columns from `o` on, read as a function of row and column. -/
theorem piece_at {R N w o : ℕ} {e : FTy} (G : Fin R → Fin N → EReal) (h : ∀ a, (![0, o] : Fin 2 → ℕ) a + (![R, w] : Fin 2 → ℕ) a ≤ (⟨2, ![R, N]⟩ : Shape).size a)
    (v : FVec Ideal ⟨2, ![R, w]⟩ e) (ho : o + w ≤ N)
    (hv : ∀ (r : Fin R) (k : Fin w), v (ix2 r k) = G r ⟨o + k.val, by omega⟩) :
    ∀ x : (Rect.unit (s := ⟨2, ![R, N]⟩) ![0, o] ![R, w] h).shape.Idx,
      v x = G ((Rect.unit (s := ⟨2, ![R, N]⟩) ![0, o] ![R, w] h).emb x 0) ((Rect.unit (s := ⟨2, ![R, N]⟩) ![0, o] ![R, w] h).emb x 1) := by
  intro x
  have e : x = ix2 (x 0) (x 1) := by funext a; fin_cases a <;> rfl
  refine (congrArg v e).trans ((hv (x 0) (x 1)).trans (congrArg₂ G (Fin.ext ?_) (Fin.ext ?_)))
  · blk_simp
  · blk_simp

/-- A sum over 256 columns of which only one group of 64 counts. -/
theorem group_sum (d : Fin 256 → EReal) (w : Fin 64 → EReal) (g : Fin 4) :
    ∑ c : Fin 256, d c * (if c.val / 64 = g.val then w ⟨c.val % 64, Nat.mod_lt _ (by decide)⟩ else 0)
      = ∑ c : Fin 64, d ⟨64 * g.val + c.val, by omega⟩ * w c := by
  symm
  refine Finset.sum_of_injOn (fun c : Fin 64 => (⟨64 * g.val + c.val, by omega⟩ : Fin 256)) ?_ (by simp) ?_ ?_
  · intro a _ b _ h
    have := congrArg Fin.val h
    dsimp only at this
    exact Fin.ext (by omega)
  · intro c _ hc
    rw [if_neg, mul_zero]
    intro h
    refine hc ⟨⟨c.val % 64, Nat.mod_lt _ (by decide)⟩, by simp, Fin.ext ?_⟩
    dsimp only
    omega
  · intro c _
    have hc := c.isLt
    have hg := g.isLt
    dsimp only
    rw [if_pos (by omega)]
    refine congrArg (_ * w ·) (Fin.ext ?_)
    dsimp only
    omega

/-- A slice of a weight at column `o` is the weight's columns from `o` on. -/
theorem ldW_at (x : FVec Ideal S1x1024x5632 .bf16) (o : ℕ) (h) (ho : o + 256 ≤ 5632) (c : Fin 1024) (k : Fin 256) :
    ldW x o h (ix3 0 c k) = x (ix3 0 c ⟨o + k.val, by omega⟩) := congrArg x (by
  funext a
  fin_cases a
  · exact Fin.ext (show 0 + 1 * 0 = 0 from rfl)
  · exact Fin.ext (show 0 + 1 * c.val = c.val by omega)
  · exact Fin.ext (show o + 1 * k.val = o + k.val by omega))
theorem ldC_at (x : FVec Ideal S1x3x2816 .f32) (i o : ℕ) (h) (hi : i < 3) (ho : o + 256 ≤ 2816) (k : Fin 256) :
    ldC x i o h (ix3 0 0 k) = x (ix3 0 ⟨i, hi⟩ ⟨o + k.val, by omega⟩) := congrArg x (by
  funext a
  fin_cases a
  · exact Fin.ext (show 0 + 1 * 0 = 0 from rfl)
  · exact Fin.ext (show i + 1 * 0 = i from rfl)
  · exact Fin.ext (show o + 1 * k.val = o + k.val by omega))
theorem ldT_at (x : FVec Ideal S16x2816 .f32) (o : ℕ) (h) (ho : o + 256 ≤ 2816) (i : Fin 16) (k : Fin 256) :
    ldT x o h (ix2 i k) = x (ix2 i ⟨o + k.val, by omega⟩) := congrArg x (by
  funext a
  fin_cases a
  · exact Fin.ext (show 0 + 1 * i.val = i.val by omega)
  · exact Fin.ext (show o + 1 * k.val = o + k.val by omega))

theorem ldU_at (x : FVec Ideal S1x512x768 .f32) (o : ℕ) (h) (ho : o + 256 ≤ 768) (r : Fin 512) (k : Fin 256) :
    ldU x o h (ix3 0 r k) = x (ix3 0 r ⟨o + k.val, by omega⟩) := congrArg x (by
  funext a
  fin_cases a
  · exact Fin.ext (show 0 + 1 * 0 = 0 from rfl)
  · exact Fin.ext (show 0 + 1 * r.val = r.val by omega)
  · exact Fin.ext (show o + 1 * k.val = o + k.val by omega))
theorem ldS_at (x : FVec Ideal S1x3x256 .f32) (i : ℕ) (h) (hi : i < 3) (k : Fin 256) :
    ldS x i h (ix3 0 0 k) = x (ix3 0 ⟨i, hi⟩ k) := congrArg x (by
  funext a
  fin_cases a
  · exact Fin.ext (show 0 + 1 * 0 = 0 from rfl)
  · exact Fin.ext (show i + 1 * 0 = i from rfl)
  · exact Fin.ext (show 0 + 1 * k.val = k.val by omega))

section block
variable (A : Arrays) (b : Fin 16) (j : Fin 4)

theorem cat_value (x0 : FVec Ideal S1x512x256 .f32) (x1 : FVec Ideal S1x512x768 .f32)
    (x2 : FVec Ideal S1x512x512 .bf16) (x4 : FVec Ideal S1x256x256 .bf16) (x5 : FVec Ideal S1x1x256 .f32)
    (x6 : FVec Ideal S1x3x256 .f32) (T3 T4 : FVec Ideal S16x256 .f32)
    (h0 : ∀ (r : Fin 512) k, x0 (ix3 0 r k) = poolCol A b k (512 * j.val + r.val))
    (h1 : ∀ (r : Fin 512) k, x1 (ix3 0 r k) = rd (fun t => A.conv (ix3 b t k)) (512 * j.val + r.val))
    (h2 : ∀ (r : Fin 512) k, x2 (ix3 0 r k) = rd (fun t => A.nsa (ix3 b t k)) (512 * j.val + r.val))
    (h4 : ∀ i k : Fin 256, x4 (ix3 0 i k) = if i.val / 64 = k.val / 64 then A.poolW (ix4 0 ⟨k.val / 64, by omega⟩
      ⟨i.val % 64, Nat.mod_lt _ (by decide)⟩ ⟨k.val % 64, Nat.mod_lt _ (by decide)⟩) else (0 : EReal))
    (h5 : ∀ k, x5 (ix3 0 0 k) = A.poolS (ix2 0 k)) (h6 : ∀ i k, x6 (ix3 0 i k) = A.taps (ix3 0 i k))
    (hT3 : ∀ (i : Fin 16) k, T3 (ix2 i k) = if j.val = 0 then 0 else poolCol A b k (512 * j.val - 16 + i.val))
    (hT4 : ∀ (i : Fin 16) k, T4 (ix2 i k) = if j.val = 0 then 0 else convCol A b k (512 * j.val - 16 + i.val))
    (r : Fin 512) (k : Fin 1024) :
    catB (BitVec.ofNat 32 j.val) x0 x1 x2 x4 x5 x6 T3 T4 (ix2 r k) = catOf A b (512 * j.val + r.val) k := by
  have hj := j.isLt
  have key : ∀ y : S512x1024.Idx, (View.canon (catPieces (BitVec.ofNat 32 j.val) x0 x1 x2 x4 x5 x6 T3 T4) : FVec Ideal S512x1024 .bf16) y
      = (fun y : S512x1024.Idx => (fun (r : Fin 512) (k : Fin 1024) => catOf A b (512 * j.val + r.val) k) (y 0) (y 1)) y := by
    intro y
    refine View.canon_apply_of_pieces (fun y : S512x1024.Idx => (fun (r : Fin 512) (k : Fin 1024) => catOf A b (512 * j.val + r.val) k) (y 0) (y 1)) (catPieces (BitVec.ofNat 32 j.val) x0 x1 x2 x4 x5 x6 T3 T4) ?_ y (View.cover_of_tiledBy (catPieces (BitVec.ofNat 32 j.val) x0 x1 x2 x4 x5 x6 T3 T4) ![512, 256] (by sl_kernel_rfl) y)
    intro p hp
    simp only [catPieces, List.mem_cons, List.not_mem_nil, or_false] at hp
    rcases hp with rfl | rfl | rfl
    · refine piece_at (fun (r : Fin 512) (k : Fin 1024) => catOf A b (512 * j.val + r.val) k) inb_S512x1024_S512x256_0_768 (convB x1 x6 T4) (by decide) ?_
      intro r k
      have hk := k.isLt
      have hr := r.isLt
      refine (conv_value (convCol A b k) j.val _ _ _ T4 _ _ _ r k ?_ (fun i => hT4 i k)).trans ?_
      · intro r
        have hr := r.isLt
        have e1 : (ldU x1 256 inb_S1x512x768_S1x512x256_0_0_256) (ix3 0 r k) = x1 (ix3 0 r ⟨256 + k.val, by omega⟩) := (ldU_at x1 256 inb_S1x512x768_S1x512x256_0_0_256 (by decide) r k)
        have e2 : (ldU x1 512 inb_S1x512x768_S1x512x256_0_0_512) (ix3 0 r k) = x1 (ix3 0 r ⟨512 + k.val, by omega⟩) := (ldU_at x1 512 inb_S1x512x768_S1x512x256_0_0_512 (by decide) r k)
        rw [e1, e2, h1, h1]
        unfold convCol
        rw [rd_lt _ _ (by omega), rd_lt _ _ (by omega), rd_lt _ _ (by omega)]
      · have e0 : (ldU x1 0 inb_S1x512x768_S1x512x256_0_0_0) (ix3 0 r k) = x1 (ix3 0 r ⟨k.val, by omega⟩) := (ldU_at x1 0 inb_S1x512x768_S1x512x256_0_0_0 (by decide) r k).trans (congrArg (fun q => x1 (ix3 0 r q)) (Fin.ext (Nat.zero_add _)))
        have f0 : (ldS x6 0 inb_S1x3x256_S1x1x256_0_0_0) (ix3 0 0 k) = x6 (ix3 0 0 k) := ldS_at x6 0 inb_S1x3x256_S1x1x256_0_0_0 (by decide) k
        have f1 : (ldS x6 1 inb_S1x3x256_S1x1x256_0_1_0) (ix3 0 0 k) = x6 (ix3 0 1 k) := ldS_at x6 1 inb_S1x3x256_S1x1x256_0_1_0 (by decide) k
        have f2 : (ldS x6 2 inb_S1x3x256_S1x1x256_0_2_0) (ix3 0 0 k) = x6 (ix3 0 2 k) := ldS_at x6 2 inb_S1x3x256_S1x1x256_0_2_0 (by decide) k
        rw [e0, f0, f1, f2, h1, h6, h6, h6]
        unfold catOf
        rw [dif_neg (by dsimp only; omega), dif_neg (by dsimp only; omega)]
        have e : (⟨768 + k.val - 768, by omega⟩ : Fin 256) = k := Fin.ext (by dsimp only; omega)
        dsimp only
        rw [e]
        rfl
    · refine piece_at (fun (r : Fin 512) (k : Fin 1024) => catOf A b (512 * j.val + r.val) k) inb_S512x1024_S512x512_0_256 (k0_pay21 (F := Ideal) x2) (by decide) ?_
      intro r k
      have hk := k.isLt
      unfold_payloads
      pointwise
      rw [h2]
      unfold catOf
      rw [dif_neg (by dsimp only; omega), dif_pos (by dsimp only; omega)]
      have e : (⟨256 + k.val - 256, by omega⟩ : Fin 512) = k := Fin.ext (by dsimp only; omega)
      dsimp only
      rw [e]
    · refine piece_at (fun (r : Fin 512) (k : Fin 1024) => catOf A b (512 * j.val + r.val) k) inb_S512x1024_S512x256_0_0 (k0_pay19 (F := Ideal) (diffB (BitVec.ofNat 32 j.val) x0 T3) x4 x5) (by decide) ?_
      intro r k
      have hk := k.isLt
      have hd : ∀ c : Fin 256, diffB (BitVec.ofNat 32 j.val) x0 T3 (ix2 r c) = diffOf A b (512 * j.val + r.val) c := by
        intro c
        refine diff_value j _ _ _ _ _ r c (poolCol A b c) ?_ ?_ ?_ ?_ ?_
        · unfold_payloads
          pointwise
          exact h0 r c
        · exact win2 _ _ _ _ c (fun r => h0 r c) (fun i => hT3 i c) r
        · exact win4 _ _ _ _ c (fun r => h0 r c) (fun i => hT3 i c) r
        · exact win8 _ _ _ _ c (fun r => h0 r c) (fun i => hT3 i c) r
        · exact win16 _ _ _ _ c (fun r => h0 r c) (fun i => hT3 i c) r
      rw [poolOut_value, h5]
      simp only [hd, h4]
      unfold catOf
      rw [dif_pos (by dsimp only; omega)]
      have e : (⟨0 + k.val, by omega⟩ : Fin 256) = k := Fin.ext (by dsimp only; omega)
      dsimp only
      rw [e]
      unfold poolOf
      refine congrArg (· * _) ?_
      exact group_sum (fun c => diffOf A b (512 * j.val + r.val) c)
        (fun c => A.poolW (ix4 0 ⟨k.val / 64, by omega⟩ c ⟨k.val % 64, Nat.mod_lt _ (by decide)⟩)) ⟨k.val / 64, by omega⟩
  unfold catB
  rw [View.readCov_eq_canon']
  refine (key _).trans ?_
  refine congrArg₂ (fun (r : Fin 512) (k : Fin 1024) => catOf A b (512 * j.val + r.val) k) (Fin.ext (show 0 + 1 * r.val = r.val by omega))
    (Fin.ext (show 0 + 1 * k.val = k.val by omega))

theorem z_value (H : FVec Ideal S512x1024 .bf16) (x9 : FVec Ideal S1x1024x5632 .bf16) (x10 : FVec Ideal S1x3x2816 .f32)
    (T5 : FVec Ideal S16x2816 .f32)
    (hH : ∀ (r : Fin 512) c, H (ix2 r c) = h2Of A b (512 * j.val + r.val) c)
    (h9 : ∀ i k, x9 (ix3 0 i k) = A.up (ix3 0 i k)) (h10 : ∀ i k, x10 (ix3 0 i k) = A.ffnTaps (ix3 0 i k))
    (hT : ∀ (i : Fin 16) k, T5 (ix2 i k) = if j.val = 0 then 0 else actOf A b k (512 * j.val - 16 + i.val))
    (r : Fin 512) (k : Fin 2816) : zB H x9 x10 T5 (ix2 r k) = zOf A b (512 * j.val + r.val) k := by
  have one : ∀ (o : ℕ) (ho : o + 256 ≤ 2816) (ha hg ht hc2 hc1 hc0) (r : Fin 512) (k : Fin 256),
      chunk H (ldW x9 o ha) (ldW x9 (2816 + o) hg) (ldT T5 o ht) (ldC x10 2 o hc2) (ldC x10 1 o hc1) (ldC x10 0 o hc0) (ix2 r k)
        = zOf A b (512 * j.val + r.val) ⟨o + k.val, by omega⟩ := by
    intro o ho ha hg ht hc2 hc1 hc0 r k
    have hk := k.isLt
    have ea : ∀ c, (ldW x9 o ha) (ix3 0 c k) = A.up (ix3 0 c ⟨o + k.val, by omega⟩) := fun c =>
      (ldW_at x9 o ha (by omega) c k).trans (h9 c ⟨o + k.val, by omega⟩)
    have eg : ∀ c, (ldW x9 (2816 + o) hg) (ix3 0 c k) = A.up (ix3 0 c ⟨2816 + (o + k.val), by omega⟩) := fun c =>
      ((ldW_at x9 (2816 + o) hg (by omega) c k).trans (h9 c ⟨2816 + o + k.val, by omega⟩)).trans (congrArg (fun q => A.up (ix3 0 c q)) (Fin.ext (Nat.add_assoc _ _ _)))
    have et : ∀ i, (ldT T5 o ht) (ix2 i k) = T5 (ix2 i ⟨o + k.val, by omega⟩) := fun i => ldT_at T5 o ht ho i k
    have e2 : (ldC x10 2 o hc2) (ix3 0 0 k) = A.ffnTaps (ix3 0 2 ⟨o + k.val, by omega⟩) :=
      (ldC_at x10 2 o hc2 (by decide) ho k).trans (h10 2 ⟨o + k.val, by omega⟩)
    have e1 : (ldC x10 1 o hc1) (ix3 0 0 k) = A.ffnTaps (ix3 0 1 ⟨o + k.val, by omega⟩) :=
      (ldC_at x10 1 o hc1 (by decide) ho k).trans (h10 1 ⟨o + k.val, by omega⟩)
    have e0 : (ldC x10 0 o hc0) (ix3 0 0 k) = A.ffnTaps (ix3 0 0 ⟨o + k.val, by omega⟩) :=
      (ldC_at x10 0 o hc0 (by decide) ho k).trans (h10 0 ⟨o + k.val, by omega⟩)
    refine (chunk_value (h2Of A b) j.val H _ _ _ _ _ _ r k hH ?_).trans ?_
    · intro i
      rw [et, hT]
      simp only [ea]
      rfl
    · rw [e2, e1, e0]
      simp only [ea, eg]
      rfl
  have key : ∀ y : S512x2816.Idx, (View.canon (zPieces H x9 x10 T5) : FVec Ideal S512x2816 .bf16) y
      = (fun y : S512x2816.Idx => (fun (r : Fin 512) (k : Fin 2816) => zOf A b (512 * j.val + r.val) k) (y 0) (y 1)) y := by
    intro y
    refine View.canon_apply_of_pieces (fun y : S512x2816.Idx => (fun (r : Fin 512) (k : Fin 2816) => zOf A b (512 * j.val + r.val) k) (y 0) (y 1)) (zPieces H x9 x10 T5) ?_ y (View.cover_of_tiledL (zPieces H x9 x10 T5) ![512, 256] (by sl_kernel_rfl) y)
    intro p hp
    simp only [zPieces, List.mem_cons, List.not_mem_nil, or_false] at hp
    rcases hp with rfl | rfl | rfl | rfl | rfl | rfl | rfl | rfl | rfl | rfl | rfl
    · exact piece_at (fun (r : Fin 512) (k : Fin 2816) => zOf A b (512 * j.val + r.val) k) inb_S512x2816_S512x256_0_2560 _ (by decide)
        (one 2560 (by decide) _ _ _ _ _ _)
    · exact piece_at (fun (r : Fin 512) (k : Fin 2816) => zOf A b (512 * j.val + r.val) k) inb_S512x2816_S512x256_0_2304 _ (by decide)
        (one 2304 (by decide) _ _ _ _ _ _)
    · exact piece_at (fun (r : Fin 512) (k : Fin 2816) => zOf A b (512 * j.val + r.val) k) inb_S512x2816_S512x256_0_2048 _ (by decide)
        (one 2048 (by decide) _ _ _ _ _ _)
    · exact piece_at (fun (r : Fin 512) (k : Fin 2816) => zOf A b (512 * j.val + r.val) k) inb_S512x2816_S512x256_0_1792 _ (by decide)
        (one 1792 (by decide) _ _ _ _ _ _)
    · exact piece_at (fun (r : Fin 512) (k : Fin 2816) => zOf A b (512 * j.val + r.val) k) inb_S512x2816_S512x256_0_1536 _ (by decide)
        (one 1536 (by decide) _ _ _ _ _ _)
    · exact piece_at (fun (r : Fin 512) (k : Fin 2816) => zOf A b (512 * j.val + r.val) k) inb_S512x2816_S512x256_0_1280 _ (by decide)
        (one 1280 (by decide) _ _ _ _ _ _)
    · exact piece_at (fun (r : Fin 512) (k : Fin 2816) => zOf A b (512 * j.val + r.val) k) inb_S512x2816_S512x256_0_1024 _ (by decide)
        (one 1024 (by decide) _ _ _ _ _ _)
    · exact piece_at (fun (r : Fin 512) (k : Fin 2816) => zOf A b (512 * j.val + r.val) k) inb_S512x2816_S512x256_0_768 _ (by decide)
        (one 768 (by decide) _ _ _ _ _ _)
    · exact piece_at (fun (r : Fin 512) (k : Fin 2816) => zOf A b (512 * j.val + r.val) k) inb_S512x2816_S512x256_0_512 _ (by decide)
        (one 512 (by decide) _ _ _ _ _ _)
    · exact piece_at (fun (r : Fin 512) (k : Fin 2816) => zOf A b (512 * j.val + r.val) k) inb_S512x2816_S512x256_0_256 _ (by decide)
        (one 256 (by decide) _ _ _ _ _ _)
    · exact piece_at (fun (r : Fin 512) (k : Fin 2816) => zOf A b (512 * j.val + r.val) k) inb_S512x2816_S512x256_0_0 _ (by decide)
        (one 0 (by decide) _ _ _ _ _ _)
  unfold zB
  rw [View.readCov_eq_canon']
  refine (key _).trans ?_
  refine congrArg₂ (fun (r : Fin 512) (k : Fin 2816) => zOf A b (512 * j.val + r.val) k) (Fin.ext (show 0 + 1 * r.val = r.val by omega))
    (Fin.ext (show 0 + 1 * k.val = k.val by omega))

theorem tail_piece (H : FVec Ideal S512x1024 .bf16) (x9 : FVec Ideal S1x1024x5632 .bf16)
    (hH : ∀ (r : Fin 512) c, H (ix2 r c) = h2Of A b (512 * j.val + r.val) c)
    (h9 : ∀ i k, x9 (ix3 0 i k) = A.up (ix3 0 i k)) :
    ∀ p ∈ tailPieces H x9, ∀ x, p.2 x = (fun y : S16x2816.Idx => (fun (i : Fin 16) (k : Fin 2816) =>
      actOf A b k (512 * j.val + 496 + i.val)) (y 0) (y 1)) (p.1.emb x) := by
  have one : ∀ (o : ℕ) (ho : o + 256 ≤ 2816) (ha) (i : Fin 16) (k : Fin 256),
      chunkTail H (ldW x9 o ha) (ix2 i k) = actOf A b ⟨o + k.val, by omega⟩ (512 * j.val + 496 + i.val) := by
    intro o ho ha i k
    have hk := k.isLt
    have ea : ∀ c, (ldW x9 o ha) (ix3 0 c k) = A.up (ix3 0 c ⟨o + k.val, by omega⟩) := fun c =>
      (ldW_at x9 o ha (by omega) c k).trans (h9 c ⟨o + k.val, by omega⟩)
    refine (chunkTail_value (h2Of A b) j.val H _ i k hH).trans ?_
    simp only [ea]
    rfl
  intro p hp
  simp only [tailPieces, List.mem_cons, List.not_mem_nil, or_false] at hp
  rcases hp with rfl | rfl | rfl | rfl | rfl | rfl | rfl | rfl | rfl | rfl | rfl
  · exact piece_at (fun (i : Fin 16) (k : Fin 2816) => actOf A b k (512 * j.val + 496 + i.val)) inb_S16x2816_S16x256_0_2560 _ (by decide)
      (one 2560 (by decide) _)
  · exact piece_at (fun (i : Fin 16) (k : Fin 2816) => actOf A b k (512 * j.val + 496 + i.val)) inb_S16x2816_S16x256_0_2304 _ (by decide)
      (one 2304 (by decide) _)
  · exact piece_at (fun (i : Fin 16) (k : Fin 2816) => actOf A b k (512 * j.val + 496 + i.val)) inb_S16x2816_S16x256_0_2048 _ (by decide)
      (one 2048 (by decide) _)
  · exact piece_at (fun (i : Fin 16) (k : Fin 2816) => actOf A b k (512 * j.val + 496 + i.val)) inb_S16x2816_S16x256_0_1792 _ (by decide)
      (one 1792 (by decide) _)
  · exact piece_at (fun (i : Fin 16) (k : Fin 2816) => actOf A b k (512 * j.val + 496 + i.val)) inb_S16x2816_S16x256_0_1536 _ (by decide)
      (one 1536 (by decide) _)
  · exact piece_at (fun (i : Fin 16) (k : Fin 2816) => actOf A b k (512 * j.val + 496 + i.val)) inb_S16x2816_S16x256_0_1280 _ (by decide)
      (one 1280 (by decide) _)
  · exact piece_at (fun (i : Fin 16) (k : Fin 2816) => actOf A b k (512 * j.val + 496 + i.val)) inb_S16x2816_S16x256_0_1024 _ (by decide)
      (one 1024 (by decide) _)
  · exact piece_at (fun (i : Fin 16) (k : Fin 2816) => actOf A b k (512 * j.val + 496 + i.val)) inb_S16x2816_S16x256_0_768 _ (by decide)
      (one 768 (by decide) _)
  · exact piece_at (fun (i : Fin 16) (k : Fin 2816) => actOf A b k (512 * j.val + 496 + i.val)) inb_S16x2816_S16x256_0_512 _ (by decide)
      (one 512 (by decide) _)
  · exact piece_at (fun (i : Fin 16) (k : Fin 2816) => actOf A b k (512 * j.val + 496 + i.val)) inb_S16x2816_S16x256_0_256 _ (by decide)
      (one 256 (by decide) _)
  · exact piece_at (fun (i : Fin 16) (k : Fin 2816) => actOf A b k (512 * j.val + 496 + i.val)) inb_S16x2816_S16x256_0_0 _ (by decide)
      (one 0 (by decide) _)

theorem tail_cover (H : FVec Ideal S512x1024 .bf16) (x9 : FVec Ideal S1x1024x5632 .bf16) :
    ∀ y : S16x2816.Idx, ∃ p ∈ tailPieces H x9, y ∈ p.1.set := View.cover_of_tiledL (tailPieces H x9) ![16, 256] (by sl_kernel_rfl)

end block

end Cert.KernelIdeal.Mix
-- ==== Proof.MixArrays.lean ====
module

public import proofs.«01_k».proof.Defs
public import proofs.«01_k».proof.Proof.Gen.KernelIdeal.Value
public import Idealize.ShloMosaic.Lib.Pipeline.ValueKit
public import Idealize.ShloMosaic.Lib.Pipeline.ReadBack
public import proofs.«01_k».proof.Proof.MixValue

@[expose] public section

set_option maxRecDepth 16384

noncomputable section

namespace Cert.KernelIdeal.Mix
open Idealize.ShloMosaic Idealize.ShloMosaic.TcCoe Cert.KernelIdeal Cert.KernelIdeal.Gen
open Idealize.SL.Sem

variable (m : (ℓ : Loc nD τ sig) → Buf (Elt Ideal) ℓ)

/-! The blocks the mixing call reads, the tails it carries, and the array it leaves. -/

/-- The arrays the call is handed. -/
def arrays (c : Dev nD) : Arrays :=
  ⟨A0 m c, A1 m c, A2 m c, A3 m c, A4 m c, A5 m c, A6 m c, A7 m c, A8 m c, A9 m c, A10 m c, A11 m c⟩

/-- The batch of a grid point. -/
abbrev bt (t : Fin cfg0.N) : Fin 16 := grid0.coords t 0
/-- The row block of a grid point. -/
abbrev jt (t : Fin cfg0.N) : Fin 4 := grid0.coords t 1

theorem places : ∀ t : Fin cfg0.N, win0_0.index t = ![(bt t).val, (jt t).val, 0]
    ∧ win0_1.index t = ![(bt t).val, (jt t).val, 0]
    ∧ win0_2.index t = ![(bt t).val, (jt t).val, 0]
    ∧ win0_3.index t = ![(bt t).val, (jt t).val, 0]
    ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0, 0]
    ∧ win0_10.index t = ![0, 0, 0] ∧ win0_11.index t = ![0, 0, 0]
    ∧ win0_12.index t = ![(bt t).val, (jt t).val, 0] :=
  (by decide +kernel : ∀ t : Fin grid0.N, _)

theorem first_iff : ∀ t : Fin cfg0.N, t.val % 4 = 0 ↔ (jt t).val = 0 :=
  (by decide +kernel : ∀ t : Fin grid0.N, _)

theorem before_point : ∀ t : Fin cfg0.N, ¬t.val % 4 = 0 →
    (bt ⟨t.val - 1, lt_of_le_of_lt (Nat.sub_le _ _) t.isLt⟩).val = (bt t).val
    ∧ (jt ⟨t.val - 1, lt_of_le_of_lt (Nat.sub_le _ _) t.isLt⟩).val + 1 = (jt t).val :=
  (by decide +kernel : ∀ t : Fin grid0.N, _)

theorem blk0 (c : Dev nD) (t : Fin cfg0.N) (r : Fin 512) (k : Fin 256) :
    iblk m c 0 t (ix3 0 r k) = poolCol (arrays m c) (bt t) k (512 * (jt t).val + r.val) := by
  have p := (places t).1
  have hr := r.isLt
  have hj := (jt t).isLt
  unfold poolCol
  rw [rd_lt _ _ (by omega)]
  refine Eq.trans ?_ (congrFun (V_main_arg0 m c) (ix3 (bt t) ⟨512 * (jt t).val + r.val, by omega⟩ k))
  blk_ext [iblk, p]
  all_goals omega

theorem blk1 (c : Dev nD) (t : Fin cfg0.N) (r : Fin 512) (k : Fin 768) :
    iblk m c 1 t (ix3 0 r k) = rd (fun s => (arrays m c).conv (ix3 (bt t) s k)) (512 * (jt t).val + r.val) := by
  have p := (places t).2.1
  have hr := r.isLt
  have hj := (jt t).isLt
  rw [rd_lt _ _ (by omega)]
  refine Eq.trans ?_ (congrFun (V_main_arg1 m c) (ix3 (bt t) ⟨512 * (jt t).val + r.val, by omega⟩ k))
  blk_ext [iblk, p]
  all_goals omega

theorem blk2 (c : Dev nD) (t : Fin cfg0.N) (r : Fin 512) (k : Fin 512) :
    iblk m c 2 t (ix3 0 r k) = rd (fun s => (arrays m c).nsa (ix3 (bt t) s k)) (512 * (jt t).val + r.val) := by
  have p := (places t).2.2.1
  have hr := r.isLt
  have hj := (jt t).isLt
  rw [rd_lt _ _ (by omega)]
  refine Eq.trans ?_ (congrFun (V_main_arg2 m c) (ix3 (bt t) ⟨512 * (jt t).val + r.val, by omega⟩ k))
  blk_ext [iblk, p]
  all_goals omega

theorem blk3 (c : Dev nD) (t : Fin cfg0.N) (r : Fin 512) (k : Fin 1024) :
    iblk m c 3 t (ix3 0 r k) = rd (fun s => (arrays m c).res (ix3 (bt t) s k)) (512 * (jt t).val + r.val) := by
  have p := (places t).2.2.2.1
  have hr := r.isLt
  have hj := (jt t).isLt
  rw [rd_lt _ _ (by omega)]
  refine Eq.trans ?_ (congrFun (V_main_arg3 m c) (ix3 (bt t) ⟨512 * (jt t).val + r.val, by omega⟩ k))
  blk_ext [iblk, p]
  all_goals omega

theorem blk4 (c : Dev nD) (t : Fin cfg0.N) (i : Fin 256) (k : Fin 256) :
    iblk m c 4 t (ix3 0 i k) = if i.val / 64 = k.val / 64 then (arrays m c).poolW (ix4 0 ⟨k.val / 64, by omega⟩
      ⟨i.val % 64, Nat.mod_lt _ (by decide)⟩ ⟨k.val % 64, Nat.mod_lt _ (by decide)⟩) else (0 : EReal) := by
  have p := (places t).2.2.2.2.1
  refine Eq.trans ?_ (entry_v25 m c i k)
  blk_ext [iblk, p]

theorem blk5 (c : Dev nD) (t : Fin cfg0.N) (k : Fin 256) :
    iblk m c 5 t (ix3 0 0 k) = (arrays m c).poolS (ix2 0 k) := by
  have p := (places t).2.2.2.2.2.1
  refine Eq.trans ?_ (entry_v27 m c k)
  blk_ext [iblk, p]

theorem blk6 (c : Dev nD) (t : Fin cfg0.N) (i : Fin 3) (k : Fin 256) :
    iblk m c 6 t (ix3 0 i k) = (arrays m c).taps (ix3 0 i k) := by
  have p := (places t).2.2.2.2.2.2.1
  refine Eq.trans ?_ (congrFun (V_main_arg6 m c) (ix3 0 i k))
  blk_ext [iblk, p]

theorem blk7 (c : Dev nD) (t : Fin cfg0.N) (i : Fin 1024) (k : Fin 1024) :
    iblk m c 7 t (ix3 0 i k) = (arrays m c).outW (ix3 0 i k) := by
  have p := (places t).2.2.2.2.2.2.2.1
  refine Eq.trans ?_ (entry_v28 m c i k)
  blk_ext [iblk, p]

theorem blk8 (c : Dev nD) (t : Fin cfg0.N) (k : Fin 1024) :
    iblk m c 8 t (ix3 0 0 k) = (arrays m c).gain (ix2 0 k) := by
  have p := (places t).2.2.2.2.2.2.2.2.1
  refine Eq.trans ?_ (entry_v26 m c k)
  blk_ext [iblk, p]

theorem blk9 (c : Dev nD) (t : Fin cfg0.N) (i : Fin 1024) (k : Fin 5632) :
    iblk m c 9 t (ix3 0 i k) = (arrays m c).up (ix3 0 i k) := by
  have p := (places t).2.2.2.2.2.2.2.2.2.1
  refine Eq.trans ?_ (entry_v29 m c i k)
  blk_ext [iblk, p]

theorem blk10 (c : Dev nD) (t : Fin cfg0.N) (i : Fin 3) (k : Fin 2816) :
    iblk m c 10 t (ix3 0 i k) = (arrays m c).ffnTaps (ix3 0 i k) := by
  have p := (places t).2.2.2.2.2.2.2.2.2.2.1
  refine Eq.trans ?_ (congrFun (V_main_arg10 m c) (ix3 0 i k))
  blk_ext [iblk, p]

theorem blk11 (c : Dev nD) (t : Fin cfg0.N) (i : Fin 2816) (k : Fin 1024) :
    iblk m c 11 t (ix3 0 i k) = (arrays m c).down (ix3 0 i k) := by
  have p := (places t).2.2.2.2.2.2.2.2.2.2.2.1
  refine Eq.trans ?_ (entry_v30 m c i k)
  blk_ext [iblk, p]

section point
variable (c : Dev nD) (t : Fin cfg0.N) (T3 T4 : FVec Ideal S16x256 .f32)
  (hT3 : ∀ (i : Fin 16) k, T3 (ix2 i k) = if (jt t).val = 0 then 0 else poolCol (arrays m c) (bt t) k (512 * (jt t).val - 16 + i.val))
  (hT4 : ∀ (i : Fin 16) k, T4 (ix2 i k) = if (jt t).val = 0 then 0 else convCol (arrays m c) (bt t) k (512 * (jt t).val - 16 + i.val))
include hT3 hT4

theorem x1At_value (r : Fin 512) (k : Fin 1024) :
    x1At m c t T3 T4 (ix2 r k) = x1Of (arrays m c) (bt t) (512 * (jt t).val + r.val) k := by
  unfold x1At x1Of
  refine (res_value _ _ _ r k).trans (congrArg₂ (· + ·) (blk3 m c t r k) (Finset.sum_congr rfl fun a _ => congrArg₂ (· * ·) ?_ (blk7 m c t a k)))
  exact cat_value (arrays m c) (bt t) (jt t) (iblk m c 0 t) (iblk m c 1 t) (iblk m c 2 t) (iblk m c 4 t) (iblk m c 5 t) (iblk m c 6 t) T3 T4
    (blk0 m c t) (blk1 m c t) (blk2 m c t) (blk4 m c t) (blk5 m c t) (blk6 m c t) hT3 hT4 r a

theorem h2At_value (r : Fin 512) (k : Fin 1024) :
    h2At m c t T3 T4 (ix2 r k) = h2Of (arrays m c) (bt t) (512 * (jt t).val + r.val) k := by
  unfold h2At h2Of
  rw [norm_value]
  simp only [x1At_value m c t T3 T4 hT3 hT4, blk8 m c t]

theorem outAt_value (T5 : FVec Ideal S16x2816 .f32)
    (hT5 : ∀ (i : Fin 16) k, T5 (ix2 i k) = if (jt t).val = 0 then 0 else actOf (arrays m c) (bt t) k (512 * (jt t).val - 16 + i.val))
    (r : Fin 512) (k : Fin 1024) :
    outAt m c t T3 T4 T5 (ix3 0 r k) = outOf (arrays m c) (bt t) (512 * (jt t).val + r.val) k := by
  unfold outAt outOf
  refine (final_value _ _ _ r k).trans (congrArg₂ (· + ·) (x1At_value m c t T3 T4 hT3 hT4 r k) (Finset.sum_congr rfl fun a _ => congrArg₂ (· * ·) ?_ (blk11 m c t a k)))
  exact z_value (arrays m c) (bt t) (jt t) (h2At m c t T3 T4) (iblk m c 9 t) (iblk m c 10 t) T5 (h2At_value m c t T3 T4 hT3 hT4)
    (blk9 m c t) (blk10 m c t) hT5 r a

end point

/-- What a point's pooled tail carries on: the last sixteen rows of its block. -/
theorem pool_tail (c : Dev nD) (t : Fin cfg0.N) (i : Fin 16) (k : Fin 256) :
    (outsAt0 m c t.val t.isLt).2.1 (ix2 i k) = poolCol (arrays m c) (bt t) k (512 * (jt t).val + 496 + i.val) := by
  by_cases h : t.val % 4 = 0
  · rw [pool_tail_A m c t h]
    exact poolTail_value (poolCol (arrays m c) (bt t) k) (jt t).val (iblk m c 0 t) i k fun r => blk0 m c t r k
  · rw [pool_tail_B m c t h]
    exact poolTail_value (poolCol (arrays m c) (bt t) k) (jt t).val (iblk m c 0 t) i k fun r => blk0 m c t r k

theorem conv_product (c : Dev nD) (t : Fin cfg0.N) (r : Fin 512) (k : Fin 256) :
    ldU (iblk m c 1 t) 256 inb_S1x512x768_S1x512x256_0_0_256 (ix3 0 r k)
        * ldU (iblk m c 1 t) 512 inb_S1x512x768_S1x512x256_0_0_512 (ix3 0 r k)
      = convCol (arrays m c) (bt t) k (512 * (jt t).val + r.val) := by
  have hr := r.isLt
  have hj := (jt t).isLt
  rw [ldU_at _ 256 _ (by decide), ldU_at _ 512 _ (by decide), blk1, blk1]
  unfold convCol
  rw [rd_lt _ _ (by omega), rd_lt _ _ (by omega), rd_lt _ _ (by omega)]

theorem conv_tail (c : Dev nD) (t : Fin cfg0.N) (i : Fin 16) (k : Fin 256) :
    (outsAt0 m c t.val t.isLt).2.2.1 (ix2 i k) = convCol (arrays m c) (bt t) k (512 * (jt t).val + 496 + i.val) := by
  by_cases h : t.val % 4 = 0
  · rw [conv_tail_A m c t h]
    exact convTail_value (convCol (arrays m c) (bt t) k) (jt t).val _ _ i k fun r => conv_product m c t r k
  · rw [conv_tail_B m c t h]
    exact convTail_value (convCol (arrays m c) (bt t) k) (jt t).val _ _ i k fun r => conv_product m c t r k

/-- The tail a later point finds is the one its neighbour left. -/
theorem from_before (G : Fin 16 → ℕ → EReal) (t : Fin cfg0.N) (h : ¬t.val % 4 = 0) (i : Fin 16) :
    G (bt ⟨t.val - 1, lt_of_le_of_lt (Nat.sub_le _ _) t.isLt⟩)
        (512 * (jt ⟨t.val - 1, lt_of_le_of_lt (Nat.sub_le _ _) t.isLt⟩).val + 496 + i.val)
      = if (jt t).val = 0 then 0 else G (bt t) (512 * (jt t).val - 16 + i.val) := by
  have hb := before_point t h
  rw [if_neg (fun e => h ((first_iff t).2 e))]
  refine congrArg₂ G (Fin.ext hb.1) ?_
  have h2 := hb.2
  omega

theorem pool_in (c : Dev nD) (t : Fin cfg0.N) (h : ¬t.val % 4 = 0) (i : Fin 16) (k : Fin 256) :
    (outsAt0 m c (t.val - 1) (lt_of_le_of_lt (Nat.sub_le _ _) t.isLt)).2.1 (ix2 i k)
      = if (jt t).val = 0 then 0 else poolCol (arrays m c) (bt t) k (512 * (jt t).val - 16 + i.val) :=
  (pool_tail m c ⟨t.val - 1, lt_of_le_of_lt (Nat.sub_le _ _) t.isLt⟩ i k).trans
    (from_before (fun b p => poolCol (arrays m c) b k p) t h i)

theorem conv_in (c : Dev nD) (t : Fin cfg0.N) (h : ¬t.val % 4 = 0) (i : Fin 16) (k : Fin 256) :
    (outsAt0 m c (t.val - 1) (lt_of_le_of_lt (Nat.sub_le _ _) t.isLt)).2.2.1 (ix2 i k)
      = if (jt t).val = 0 then 0 else convCol (arrays m c) (bt t) k (512 * (jt t).val - 16 + i.val) :=
  (conv_tail m c ⟨t.val - 1, lt_of_le_of_lt (Nat.sub_le _ _) t.isLt⟩ i k).trans
    (from_before (fun b p => convCol (arrays m c) b k p) t h i)

theorem zero_in (t : Fin cfg0.N) (h : t.val % 4 = 0) (a b : EReal) (e : a = 0) : a = if (jt t).val = 0 then 0 else b := by
  rw [if_pos ((first_iff t).1 h), e]

theorem act_tail (c : Dev nD) (t : Fin cfg0.N) (i : Fin 16) (k : Fin 2816) :
    (outsAt0 m c t.val t.isLt).2.2.2 (ix2 i k) = actOf (arrays m c) (bt t) k (512 * (jt t).val + 496 + i.val) := by
  by_cases h : t.val % 4 = 0
  · rw [act_tail_A m c t h]
    refine (View.canon_append_of_pieces (Val := Elt Ideal) (e := .f32) (fun y => actOf (arrays m c) (bt t) (y 1) (512 * (jt t).val + 496 + (y 0).val) : FVec Ideal S16x2816 .f32) _ _ ?_ (ix2 i k) ?_)
    · exact tail_piece (arrays m c) (bt t) (jt t) _ _ (h2At_value m c t _ _ (fun i k => zero_in t h _ _ (zero4 i k))
        (fun i k => zero_in t h _ _ (zero5 i k))) (blk9 m c t)
    · exact tail_cover _ _ (ix2 i k)
  · rw [act_tail_B m c t h]
    refine (View.canon_apply_of_pieces (Val := Elt Ideal) (e := .f32) (fun y => actOf (arrays m c) (bt t) (y 1) (512 * (jt t).val + 496 + (y 0).val) : FVec Ideal S16x2816 .f32) _ ?_ (ix2 i k) ?_)
    · exact tail_piece (arrays m c) (bt t) (jt t) _ _ (h2At_value m c t _ _ (pool_in m c t h) (conv_in m c t h)) (blk9 m c t)
    · exact tail_cover _ _ (ix2 i k)

theorem act_in (c : Dev nD) (t : Fin cfg0.N) (h : ¬t.val % 4 = 0) (i : Fin 16) (k : Fin 2816) :
    (outsAt0 m c (t.val - 1) (lt_of_le_of_lt (Nat.sub_le _ _) t.isLt)).2.2.2 (ix2 i k)
      = if (jt t).val = 0 then 0 else actOf (arrays m c) (bt t) k (512 * (jt t).val - 16 + i.val) :=
  (act_tail m c ⟨t.val - 1, lt_of_le_of_lt (Nat.sub_le _ _) t.isLt⟩ i k).trans
    (from_before (fun b p => actOf (arrays m c) b k p) t h i)

/-- One element of a block of the output. -/
theorem out_value (c : Dev nD) (t : Fin cfg0.N) (r : Fin 512) (k : Fin 1024) :
    (outsAt0 m c t.val t.isLt).1 (ix3 0 r k) = outOf (arrays m c) (bt t) (512 * (jt t).val + r.val) k := by
  by_cases h : t.val % 4 = 0
  · rw [out_A m c t h]
    exact outAt_value m c t _ _ (fun i k => zero_in t h _ _ (zero4 i k)) (fun i k => zero_in t h _ _ (zero5 i k)) _
      (fun i k => zero_in t h _ _ (zero6 i k)) r k
  · rw [out_B m c t h]
    exact outAt_value m c t _ _ (pool_in m c t h) (conv_in m c t h) _ (act_in m c t h) r k

/-- The output array. -/
theorem out_array (c : Dev nD) : (dats m 0 c).arrAt 12 cfg0.N
    = (fun i => outOf (arrays m c) (i 0) (i 1).val (i 2) : FVec Ideal S16x2048x1024 .f32) := by
  refine (dats m 0 c).arrAt_eq_of_covers 12 _ (by decide +kernel) fun t hf y => ?_
  blk_simp
  rw [after0_12]
  have hp := (places t).2.2.2.2.2.2.2.2.2.2.2.2
  have e : y = ix3 0 (y 1) (y 2) := by
    funext a
    fin_cases a
    · exact Fin.ext (by have h0 : (y 0).val < 1 := (y 0).isLt; exact Nat.lt_one_iff.1 h0)
    · rfl
    · rfl
  have hv := out_value m c t (y 1) (y 2)
  refine ((congrArg (outsAt0 m c t.val t.isLt).1 e).trans hv).trans ?_
  have h0 : (y 0).val < 1 := (y 0).isLt
  refine congr (congrArg₂ (outOf (arrays m c)) (Fin.ext ?_) ?_) (Fin.ext ?_)
  · blk_simp [hp]
    try omega
  · blk_simp [hp]
    try omega
  · blk_simp [hp]

end Cert.KernelIdeal.Mix
-- ==== Proof.MixRest.lean ====
module

public import proofs.«01_k».proof.Proof.MixValue
public import proofs.«01_k».proof.Proof.Gen.ReferenceIdeal.Read
public import Idealize.ShloMosaic.Lib.Pipeline.ValueKit

@[expose] public section

set_option maxRecDepth 16384

noncomputable section

namespace Cert.KernelIdeal.Mix
open Idealize.ShloMosaic Idealize.ShloMosaic.TcCoe Cert.KernelIdeal
open Idealize.SL.Sem

open Cert.ReferenceIdeal.Read

variable (A : Arrays) (b : Fin 16)

/-! The reference of the mixing call outside its pooling mixer, read at an index: the formulas of the kernel side. -/

/-- The rows of a column behind two rows of zeros, the padding a causal convolution reads. -/
theorem past_two (G : ℕ → EReal) (p : ℕ) (hp : p < 2050) (X : Fin 2048 → EReal) (hX : ∀ t, X t = G t.val) (z : EReal) (hz : z = 0) :
    (if h : 2 ≤ p ∧ p - 2 < 2048 then X ⟨p - 2, h.2⟩ else z) = past G 2 p := by
  unfold past
  by_cases h : 2 ≤ p
  · rw [dif_pos ⟨h, by omega⟩, if_pos h, hX]
  · rw [dif_neg (fun q => h q.1), if_neg h, hz]

theorem past_back (G : ℕ → EReal) (s p : ℕ) (hs : s ≤ 2) : past G 2 (s + p) = past G (2 - s) p := by
  unfold past
  by_cases h : 2 ≤ s + p
  · rw [if_pos h, if_pos (by omega)]
    exact congrArg G (by omega)
  · rw [if_neg h, if_neg (by omega)]

theorem past_none (G : ℕ → EReal) (p : ℕ) : past G 0 p = G p := if_pos (Nat.zero_le p)

theorem zero_word : (((0#32 : BitVec 32).toInt : ℝ) : EReal) = 0 := by simp

theorem conv_order (a0 a1 a2 g0 g1 g2 : EReal) : a0 * g2 + a1 * g1 + a2 * g0 = a2 * g0 + a1 * g1 + a0 * g2 := by
  rw [add_comm (a0 * g2 + a1 * g1), add_comm (a0 * g2), add_assoc]

theorem conv_product_ref (t : Fin 2048) (k : Fin 256) :
    val_main_v133 (F := Ideal) A.conv (ix3 b t k) = convCol A b k t.val := by
  unfold convCol
  rw [rd_lt _ _ t.isLt]
  simp only [val_main_v133_apply, val_main_v1_apply, val_main_v2_apply]
  pointwise
  refine congrArg₂ (fun (a b : EReal) => a * b) ?_ ?_
  · exact congrArg A.conv (by blk_ext)
  · exact congrArg A.conv (by blk_ext)

theorem conv_pad (p : ℕ) (hp : p < 2050) (k : Fin 256) :
    val_main_v136 (F := Ideal) A.conv (ix3 b ⟨p, hp⟩ k) = past (convCol A b k) 2 p := by
  have h := conv_product_ref A b
  unfold val_main_v136
  generalize val_main_v133 (F := Ideal) A.conv = X at h
  pointwise
  exact past_two (convCol A b k) p hp (fun t => X (ix3 b t k)) (fun t => h t k) _ zero_word

theorem tap_row (i : Fin 3) (k : Fin 256) : val_main_v135 (F := Ideal) A.taps (ix2 i k) = A.taps (ix3 0 i k) := by
  simp only [val_main_v135_apply, val_main_v134_apply]
  have hi := i.isLt
  have hk := k.isLt
  refine congrArg A.taps ?_
  funext a
  fin_cases a
  · rfl
  · refine Fin.ext ?_
    change (i.val * 256 + k.val) / 256 % 3 = i.val
    omega
  · refine Fin.ext ?_
    change (i.val * 256 + k.val) % 256 = k.val
    omega

theorem tap_0 (t : Fin 2048) (k : Fin 256) : val_main_v141 (F := Ideal) A.taps (ix3 b t k) = A.taps (ix3 0 0 k) := by
  rw [← tap_row A 0 k]
  simp only [val_main_v141_apply, val_main_v140_apply, val_main_v138_apply, val_main_v137_apply]
  have hk := k.isLt
  refine congrArg (val_main_v135 (F := Ideal) A.taps) ?_
  funext a
  fin_cases a
  · rfl
  · refine Fin.ext ?_
    change k.val % 256 = k.val
    omega

theorem tap_1 (t : Fin 2048) (k : Fin 256) : val_main_v147 (F := Ideal) A.taps (ix3 b t k) = A.taps (ix3 0 1 k) := by
  rw [← tap_row A 1 k]
  simp only [val_main_v147_apply, val_main_v146_apply, val_main_v144_apply, val_main_v143_apply]
  have hk := k.isLt
  refine congrArg (val_main_v135 (F := Ideal) A.taps) ?_
  funext a
  fin_cases a
  · rfl
  · refine Fin.ext ?_
    change k.val % 256 = k.val
    omega

theorem tap_2 (t : Fin 2048) (k : Fin 256) : val_main_v154 (F := Ideal) A.taps (ix3 b t k) = A.taps (ix3 0 2 k) := by
  rw [← tap_row A 2 k]
  simp only [val_main_v154_apply, val_main_v153_apply, val_main_v151_apply, val_main_v150_apply]
  have hk := k.isLt
  refine congrArg (val_main_v135 (F := Ideal) A.taps) ?_
  funext a
  fin_cases a
  · rfl
  · refine Fin.ext ?_
    change k.val % 256 = k.val
    omega

theorem ffnTap_row (i : Fin 3) (k : Fin 2816) : val_main_v185 (F := Ideal) A.ffnTaps (ix2 i k) = A.ffnTaps (ix3 0 i k) := by
  simp only [val_main_v185_apply, val_main_v184_apply]
  have hi := i.isLt
  have hk := k.isLt
  refine congrArg A.ffnTaps ?_
  funext a
  fin_cases a
  · rfl
  · refine Fin.ext ?_
    change (i.val * 2816 + k.val) / 2816 % 3 = i.val
    omega
  · refine Fin.ext ?_
    change (i.val * 2816 + k.val) % 2816 = k.val
    omega

theorem ffnTap_0 (t : Fin 2048) (k : Fin 2816) : val_main_v191 (F := Ideal) A.ffnTaps (ix3 b t k) = A.ffnTaps (ix3 0 0 k) := by
  rw [← ffnTap_row A 0 k]
  simp only [val_main_v191_apply, val_main_v190_apply, val_main_v188_apply, val_main_v187_apply]
  have hk := k.isLt
  refine congrArg (val_main_v185 (F := Ideal) A.ffnTaps) ?_
  funext a
  fin_cases a
  · rfl
  · refine Fin.ext ?_
    change k.val % 2816 = k.val
    omega

theorem ffnTap_1 (t : Fin 2048) (k : Fin 2816) : val_main_v197 (F := Ideal) A.ffnTaps (ix3 b t k) = A.ffnTaps (ix3 0 1 k) := by
  rw [← ffnTap_row A 1 k]
  simp only [val_main_v197_apply, val_main_v196_apply, val_main_v194_apply, val_main_v193_apply]
  have hk := k.isLt
  refine congrArg (val_main_v185 (F := Ideal) A.ffnTaps) ?_
  funext a
  fin_cases a
  · rfl
  · refine Fin.ext ?_
    change k.val % 2816 = k.val
    omega

theorem ffnTap_2 (t : Fin 2048) (k : Fin 2816) : val_main_v204 (F := Ideal) A.ffnTaps (ix3 b t k) = A.ffnTaps (ix3 0 2 k) := by
  rw [← ffnTap_row A 2 k]
  simp only [val_main_v204_apply, val_main_v203_apply, val_main_v201_apply, val_main_v200_apply]
  have hk := k.isLt
  refine congrArg (val_main_v185 (F := Ideal) A.ffnTaps) ?_
  funext a
  fin_cases a
  · rfl
  · refine Fin.ext ?_
    change k.val % 2816 = k.val
    omega

theorem conv_ref (t : Fin 2048) (k : Fin 256) :
    val_main_v157 (F := Ideal) A.conv A.taps (ix3 b t k) = convOf A b t.val k := by
  have ht := t.isLt
  simp only [val_main_v157_apply, val_main_v156_apply, val_main_v155_apply, val_main_v149_apply, val_main_v148_apply, val_main_v142_apply,
    tap_0, tap_1, tap_2, val_main_v139_apply, val_main_v145_apply, val_main_v152_apply, val_main_v0_apply]
  have e0 : idx_main_v139 (ix3 b t k) = ix3 b (⟨0 + t.val, by omega⟩ : Fin 2050) k := by
    funext a; fin_cases a
    · rfl
    · exact Fin.ext (Nat.zero_add _).symm
    · rfl
  have e1 : idx_main_v145 (ix3 b t k) = ix3 b (⟨1 + t.val, by omega⟩ : Fin 2050) k := by funext a; fin_cases a <;> rfl
  have e2 : idx_main_v152 (ix3 b t k) = ix3 b (⟨2 + t.val, by omega⟩ : Fin 2050) k := by funext a; fin_cases a <;> rfl
  have e3 : idx_main_v0 (ix3 b t k) = ix3 b t (⟨k.val, by omega⟩ : Fin 768) := by funext a; fin_cases a <;> rfl
  rw [e0, e1, e2, e3, conv_pad, conv_pad, conv_pad, past_back _ 0 _ (by decide), past_back _ 1 _ (by decide), past_back _ 2 _ (by decide)]
  unfold convOf conv3
  rw [rd_lt _ _ ht]
  change _ * (_ * past _ 2 _ + _ * past _ 1 _ + _ * past _ 0 _) = _
  rw [conv_order, past_none]

section rest
variable (hp : ∀ (b : Fin 16) (t : Fin 2048) (k : Fin 256),
  val_main_v132 (F := Ideal) A.pool A.poolW A.poolS (ix3 b t k) = poolOf A b t.val k)
include hp

theorem cat_ref (t : Fin 2048) (k : Fin 1024) :
    val_main_v159 (F := Ideal) A.pool A.conv A.nsa A.poolW A.poolS A.taps (ix3 b t k) = catOf A b t.val k := by
  have h1 := hp b t
  have h2 := conv_ref A b t
  unfold val_main_v159 catOf
  generalize val_main_v132 (F := Ideal) A.pool A.poolW A.poolS = X at h1 ⊢
  generalize val_main_v157 (F := Ideal) A.conv A.taps = Y at h2 ⊢
  have h3 (k : Fin 512) : val_main_v158 (F := Ideal) A.nsa (ix3 b t k) = rd (fun s => A.nsa (ix3 b s k)) t.val := by
    rw [rd_lt _ _ t.isLt]
    rfl
  generalize val_main_v158 (F := Ideal) A.nsa = Z at h3 ⊢
  have hk := k.isLt
  pointwise
  by_cases c1 : k.val < 256
  · rw [dif_pos c1, dif_pos c1, h1]
  · rw [dif_neg c1, dif_neg c1]
    by_cases c2 : k.val < 768
    · rw [dif_pos (by omega), dif_pos c2, h3]
    · rw [dif_neg (by omega), dif_neg c2, h2]
      exact congrArg (convOf A b t.val) (Fin.ext (by dsimp only; omega))

theorem x1_ref (t : Fin 2048) (k : Fin 1024) :
    val_main_v163 (F := Ideal) A.pool A.conv A.nsa A.res A.poolW A.poolS A.taps A.outW (ix3 b t k) = x1Of A b t.val k := by
  rw [val_main_v163_apply, val_main_v162_apply]
  unfold x1Of
  rw [rd_lt _ _ t.isLt]
  refine congrArg (A.res (ix3 b t k) + ·) (Finset.sum_congr rfl fun c _ => ?_)
  have e1 : lidx_main_v162 (ix3 b t k) c = ix3 b t c := by funext a; fin_cases a <;> rfl
  have e2 : ridx_main_v162 (ix3 b t k) c = ix2 c k := by funext a; fin_cases a <;> rfl
  rw [e1, e2, cat_ref A b hp]
  refine congrArg (catOf A b t.val c * ·) ?_
  simp only [val_main_v161_apply, val_main_v160_apply]
  have hc := c.isLt
  have hk := k.isLt
  refine congrArg A.outW ?_
  funext a
  fin_cases a
  · rfl
  · refine Fin.ext ?_
    change (c.val * 1024 + k.val) / 1024 % 1024 = c.val
    omega
  · refine Fin.ext ?_
    change (c.val * 1024 + k.val) % 1024 = k.val
    omega

theorem h2_ref (t : Fin 2048) (k : Fin 1024) :
    val_main_v178 (F := Ideal) A.pool A.conv A.nsa A.res A.poolW A.poolS A.taps A.outW A.gain (ix3 b t k) = h2Of A b t.val k := by
  have hx := x1_ref A b hp t
  simp only [val_main_v178_apply, val_main_v177_apply, val_main_v176_apply, val_main_v175_apply, val_main_v174_apply, val_main_v173_apply,
    val_main_v172_apply, val_main_v171_apply, val_main_v170_apply, val_main_v169_apply, val_main_v168_apply, val_main_v167_apply,
    val_main_v166_apply, val_main_v165_apply, val_main_v164_apply, val_main_cst_28_apply, val_main_cst_29_apply, val_main_cst_30_apply]
  generalize val_main_v163 (F := Ideal) A.pool A.conv A.nsa A.res A.poolW A.poolS A.taps A.outW = X at hx ⊢
  have e1 (c : Fin 1024) : idx_main_v167 (idx_main_v168 (idx_main_v174 (ix3 b t k))) c = ix3 b t c := by funext a; fin_cases a <;> rfl
  have e2 : idx_main_v164 (idx_main_v165 (idx_main_v176 (idx_main_v177 (ix3 b t k)))) = ix2 0 k := by
    funext a; fin_cases a
    · rfl
    · refine Fin.ext ?_
      change (k.val : ℕ) % 1024 = k.val
      have hk := k.isLt
      omega
  simp only [e1, e2, hx]
  pointwise
  unfold h2Of
  simp only [Ideal.ofBits_zero, zero_add]

theorem up_ref (t : Fin 2048) (k : Fin 5632) :
    val_main_v181 (F := Ideal) A.pool A.conv A.nsa A.res A.poolW A.poolS A.taps A.outW A.gain A.up (ix3 b t k)
      = ∑ c, h2Of A b t.val c * A.up (ix3 0 c k) := by
  rw [val_main_v181_apply]
  refine Finset.sum_congr rfl fun c _ => ?_
  have e1 : lidx_main_v181 (ix3 b t k) c = ix3 b t c := by funext a; fin_cases a <;> rfl
  have e2 : ridx_main_v181 (ix3 b t k) c = ix2 c k := by funext a; fin_cases a <;> rfl
  rw [e1, e2, h2_ref A b hp]
  refine congrArg (h2Of A b t.val c * ·) ?_
  simp only [val_main_v180_apply, val_main_v179_apply]
  have hc := c.isLt
  have hk := k.isLt
  refine congrArg A.up ?_
  funext a
  fin_cases a
  · rfl
  · refine Fin.ext ?_
    change (c.val * 5632 + k.val) / 5632 % 1024 = c.val
    omega
  · refine Fin.ext ?_
    change (c.val * 5632 + k.val) % 5632 = k.val
    omega

theorem act_pad (p : ℕ) (hq : p < 2050) (k : Fin 2816) :
    val_main_v186 (F := Ideal) A.pool A.conv A.nsa A.res A.poolW A.poolS A.taps A.outW A.gain A.up (ix3 b ⟨p, hq⟩ k)
      = past (actOf A b k) 2 p := by
  have h (t : Fin 2048) : val_main_v182 (F := Ideal) A.pool A.conv A.nsa A.res A.poolW A.poolS A.taps A.outW A.gain A.up (ix3 b t k)
      = actOf A b k t.val := by
    rw [val_main_v182_apply]
    have e : idx_main_v182 (ix3 b t k) = ix3 b t (⟨k.val, by omega⟩ : Fin 5632) := by funext a; fin_cases a <;> rfl
    rw [e, up_ref A b hp]
    rfl
  unfold val_main_v186
  generalize val_main_v182 (F := Ideal) A.pool A.conv A.nsa A.res A.poolW A.poolS A.taps A.outW A.gain A.up = X at h
  pointwise
  exact past_two (actOf A b k) p hq (fun t => X (ix3 b t k)) (fun t => h t) _ zero_word

theorem ffn_conv_ref (t : Fin 2048) (k : Fin 2816) :
    val_main_v206 (F := Ideal) A.pool A.conv A.nsa A.res A.poolW A.poolS A.taps A.outW A.gain A.up A.ffnTaps (ix3 b t k)
      = conv3 (actOf A b k) (A.ffnTaps (ix3 0 2 k)) (A.ffnTaps (ix3 0 1 k)) (A.ffnTaps (ix3 0 0 k)) t.val := by
  have ht := t.isLt
  simp only [val_main_v206_apply, val_main_v205_apply, val_main_v199_apply, val_main_v198_apply, val_main_v192_apply,
    ffnTap_0, ffnTap_1, ffnTap_2, val_main_v189_apply, val_main_v195_apply, val_main_v202_apply]
  have e0 : idx_main_v189 (ix3 b t k) = ix3 b (⟨0 + t.val, by omega⟩ : Fin 2050) k := by
    funext a; fin_cases a
    · rfl
    · exact Fin.ext (Nat.zero_add _).symm
    · rfl
  have e1 : idx_main_v195 (ix3 b t k) = ix3 b (⟨1 + t.val, by omega⟩ : Fin 2050) k := by funext a; fin_cases a <;> rfl
  have e2 : idx_main_v202 (ix3 b t k) = ix3 b (⟨2 + t.val, by omega⟩ : Fin 2050) k := by funext a; fin_cases a <;> rfl
  rw [e0, e1, e2, act_pad A b hp, act_pad A b hp, act_pad A b hp, past_back _ 0 _ (by decide), past_back _ 1 _ (by decide), past_back _ 2 _ (by decide)]
  unfold conv3
  change _ * past _ 2 _ + _ * past _ 1 _ + _ * past _ 0 _ = _
  rw [conv_order, past_none]

theorem z_ref (t : Fin 2048) (k : Fin 2816) :
    val_main_v208 (F := Ideal) A.pool A.conv A.nsa A.res A.poolW A.poolS A.taps A.outW A.gain A.up A.ffnTaps (ix3 b t k)
      = zOf A b t.val k := by
  have h := ffn_conv_ref A b hp t k
  have hg : val_main_v183 (F := Ideal) A.pool A.conv A.nsa A.res A.poolW A.poolS A.taps A.outW A.gain A.up (ix3 b t k)
      = gateOf A b k t.val := by
    rw [val_main_v183_apply]
    have e : idx_main_v183 (ix3 b t k) = ix3 b t (⟨2816 + k.val, by omega⟩ : Fin 5632) := by funext a; fin_cases a <;> rfl
    rw [e, up_ref A b hp]
    rfl
  simp only [val_main_v208_apply, val_main_v207_apply, val_main_call3_v5_apply, val_main_call3_v4_apply, val_main_call3_v3_apply,
    val_main_call3_v2_apply, val_main_call3_v1_apply, val_main_call3_v0_apply, val_main_call3_cst_apply, val_main_call3_cst_0_apply]
  rw [h, hg]
  unfold zOf gated Ideal.logistic
  rw [← Ideal.ofBits_one_f32]
  rfl

theorem out_ref (t : Fin 2048) (k : Fin 1024) :
    val_main_v212 (F := Ideal) A.pool A.conv A.nsa A.res A.poolW A.poolS A.taps A.outW A.gain A.up A.ffnTaps A.down (ix3 b t k)
      = outOf A b t.val k := by
  rw [val_main_v212_apply, val_main_v211_apply, x1_ref A b hp]
  unfold outOf
  refine congrArg (x1Of A b t.val k + ·) (Finset.sum_congr rfl fun c _ => ?_)
  have e1 : lidx_main_v211 (ix3 b t k) c = ix3 b t c := by funext a; fin_cases a <;> rfl
  have e2 : ridx_main_v211 (ix3 b t k) c = ix2 c k := by funext a; fin_cases a <;> rfl
  rw [e1, e2, z_ref A b hp]
  refine congrArg (zOf A b t.val c * ·) ?_
  simp only [val_main_v210_apply, val_main_v209_apply]
  have hc := c.isLt
  have hk := k.isLt
  refine congrArg A.down ?_
  funext a
  fin_cases a
  · rfl
  · refine Fin.ext ?_
    change (c.val * 1024 + k.val) / 1024 % 2816 = c.val
    omega
  · refine Fin.ext ?_
    change (c.val * 1024 + k.val) % 1024 = k.val
    omega

end rest

end Cert.KernelIdeal.Mix
-- ==== Proof.MixSums.lean ====
module

public import proofs.«01_k».proof.Proof.MixValue
public import proofs.«01_k».proof.Proof.Gen.ReferenceIdeal.Read
public import Idealize.ShloMosaic.Lib.Pipeline.ValueKit

@[expose] public section

set_option maxRecDepth 16384

noncomputable section

namespace Cert.KernelIdeal.Mix
open Idealize.ShloMosaic Idealize.ShloMosaic.TcCoe Cert.KernelIdeal
open Idealize.SL.Sem

open Cert.ReferenceIdeal.Read

variable (A : Arrays) (b : Fin 16)

/-! The reference's causal window sums: a difference of running sums, read at an index. -/

/-- A column whose entries are all real numbers. -/
def RealCol (G : ℕ → EReal) : Prop := ∀ p, ∃ r : ℝ, G p = (r : EReal)

theorem past_real (G : ℕ → EReal) (hG : RealCol G) (s p : ℕ) : ∃ r : ℝ, past G s p = (r : EReal) := by
  unfold past
  split
  · exact hG _
  · exact ⟨0, rfl⟩

theorem sum_real (f : ℕ → EReal) (hf : ∀ j, ∃ r : ℝ, f j = (r : EReal)) (n : ℕ) :
    ∃ r : ℝ, ∑ j ∈ Finset.range n, f j = (r : EReal) := by
  induction n with
  | zero => exact ⟨0, by rw [Finset.sum_range_zero]; rfl⟩
  | succ n ih =>
    obtain ⟨a, ha⟩ := ih
    obtain ⟨b, hb⟩ := hf n
    exact ⟨a + b, by rw [Finset.sum_range_succ, ha, hb, EReal.coe_add]⟩

theorem past_shift (G : ℕ → EReal) (w j p : ℕ) (h : w ≤ p) : past G j (p - w) = past G (w + j) p := by
  unfold past
  by_cases c : w + j ≤ p
  · rw [if_pos c, if_pos (by omega)]
    exact congrArg G (by omega)
  · rw [if_neg c, if_neg (by omega)]

theorem past_beyond (G : ℕ → EReal) (n w p : ℕ) (h : p < w) : ∑ x ∈ Finset.range n, past G (w + x) p = 0 :=
  Finset.sum_eq_zero fun x _ => by
    unfold past
    rw [if_neg (by omega)]

/-- A running sum over `n` rows is the window's sum and the sum of what lies behind the window. -/
theorem win_split (G : ℕ → EReal) (w n p : ℕ) :
    win G (w + n) p = win G w p + ∑ x ∈ Finset.range n, past G (w + x) p := by
  unfold win
  exact Finset.sum_range_add _ _ _

theorem win_all (G : ℕ → EReal) (w n p : ℕ) (h : p < w) : win G (w + n) p = win G w p := by
  rw [win_split, past_beyond G n w p h, add_zero]

/-- The difference of two running sums of real numbers is the sum over the window between them. -/
theorem win_diff (G : ℕ → EReal) (hG : RealCol G) (w p : ℕ) (hw : w ≤ 2048) (hp : p < 2048) (h : w ≤ p) :
    win G 2048 p - win G 2048 (p - w) = win G w p := by
  obtain ⟨n, hn⟩ : ∃ n, 2048 = w + n := ⟨2048 - w, by omega⟩
  rw [hn]
  have e : win G (w + n) (p - w) = ∑ x ∈ Finset.range n, past G (w + x) p := by
    rw [Nat.add_comm w n, win_all G n w (p - w) (by omega)]
    exact Finset.sum_congr rfl fun j _ => past_shift G w j p h
  rw [e, win_split]
  obtain ⟨r, hr⟩ := sum_real _ (fun x => past_real G hG (w + x) p) n
  rw [hr]
  exact EReal.add_sub_cancel_right

/-- The first rows' windows begin at the column's start. -/
theorem win_first (G : ℕ → EReal) (w p : ℕ) (hw : w ≤ 2048) (h : p < w) : win G 2048 p = win G w p := by
  obtain ⟨n, hn⟩ : ∃ n, 2048 = w + n := ⟨2048 - w, by omega⟩
  rw [hn]
  exact win_all G w n p h

theorem nat_word (n : ℕ) (h : n < 2147483648) : (BitVec.ofNat 32 n).toInt = (n : ℤ) := by
  have e : (BitVec.ofNat 32 n).toNat = n := by
    rw [BitVec.toNat_ofNat]
    omega
  rw [BitVec.toInt_eq_toNat_of_lt (by omega), e]

theorem next_word (t : ℕ) : IntOp.addi (BitVec.ofNat 32 t) 1#32 = BitVec.ofNat 32 (t + 1) :=
  (BitVec.ofNat_add t 1).symm

theorem sub_word (a b : ℕ) (h : b ≤ a) : IntOp.subi (BitVec.ofNat 32 a) (BitVec.ofNat 32 b) = BitVec.ofNat 32 (a - b) := by
  obtain ⟨c, rfl⟩ : ∃ c, a = c + b := ⟨a - b, by omega⟩
  rw [Nat.add_sub_cancel, BitVec.ofNat_add]
  exact BitVec.add_sub_cancel _ _

/-- The word of the window's first row. -/
theorem start_word (t w : ℕ) (ht : t < 2048) (hw : w ≤ 16) :
    IntOp.maxsi (IntOp.subi (IntOp.addi (BitVec.ofNat 32 t) 1#32) (BitVec.ofNat 32 w)) 0#32 = BitVec.ofNat 32 (t + 1 - w) := by
  rw [next_word]
  have e : (IntOp.subi (BitVec.ofNat 32 (t + 1)) (BitVec.ofNat 32 w)).toInt = ((t + 1 : ℕ) : ℤ) - (w : ℤ) := by
    unfold IntOp.subi
    rw [BitVec.toInt_sub, nat_word _ (by omega), nat_word _ (by omega)]
    exact Int.bmod_eq_of_le (by omega) (by omega)
  unfold IntOp.maxsi
  split
  · next c =>
    rw [BitVec.slt_iff_toInt_lt, e] at c
    have c : (0 : ℤ) < ((t + 1 : ℕ) : ℤ) - (w : ℤ) := c
    exact sub_word _ _ (by omega)
  · next c =>
    rw [BitVec.slt_iff_toInt_lt, e] at c
    have c : ¬ (0 : ℤ) < ((t + 1 : ℕ) : ℤ) - (w : ℤ) := c
    rw [show t + 1 - w = 0 by omega]

/-- A word below no bound is not wrapped. -/
theorem keep_word (n : ℕ) (h : n < 2048) (y : BitVec 32) :
    Scalar.select (IntOp.cmpi .slt (BitVec.ofNat 32 n) 0#32) y (BitVec.ofNat 32 n) = BitVec.ofNat 32 n := by
  have e : (BitVec.ofNat 32 n).slt 0#32 = false := by
    rw [Bool.eq_false_iff]
    intro c
    rw [BitVec.slt_iff_toInt_lt, nat_word _ (by omega)] at c
    have c : (n : ℤ) < 0 := c
    omega
  unfold Scalar.select IntOp.cmpi
  dsimp only
  rw [e]
  rfl

/-- The number of rows in the window at a row. -/
theorem count_word (t w : ℕ) (ht : t < 2048) (hw : w ≤ 16) :
    (((IntOp.subi (IntOp.addi (BitVec.ofNat 32 t) 1#32) (BitVec.ofNat 32 (t + 1 - w))).toInt : ℝ) : EReal) = count w t := by
  rw [next_word, sub_word _ _ (by omega), nat_word _ (by omega)]
  unfold count
  rw [show t + 1 - (t + 1 - w) = min (t + 1) w by omega]
  simp

theorem fold_sum {n : ℕ} (f : Fin n → EReal) : (List.finRange n).foldl (fun r k => r + f k) 0 = ∑ k, f k := by
  have aux (l : List (Fin n)) (a : EReal) : l.foldl (fun r k => r + f k) a = a + (l.map f).sum := by
    induction l generalizing a with
    | nil => rw [List.foldl_nil, List.map_nil, List.sum_nil, add_zero]
    | cons x l ih => rw [List.foldl_cons, ih, List.map_cons, List.sum_cons, add_assoc]
  rw [aux, zero_add, Fin.sum_univ_def]

/-- A sum over the positions of a window of one column. -/
theorem window_sum (f : (⟨4, ![1, 2048, 1, 1]⟩ : Shape).Idx → EReal) :
    ∑ i, f i = ∑ k : Fin 2048, f (ix4 0 k 0 0) := by
  refine Finset.sum_bij' (fun i _ => (i 1 : Fin 2048)) (fun k _ => ix4 0 k 0 0) ?_ ?_ ?_ ?_ ?_
  · exact fun _ _ => Finset.mem_univ _
  · exact fun _ _ => Finset.mem_univ _
  · intro i _
    funext a
    fin_cases a
    · exact Subsingleton.elim (α := Fin 1) _ _
    · rfl
    · exact Subsingleton.elim (α := Fin 1) _ _
    · exact Subsingleton.elim (α := Fin 1) _ _
  · exact fun _ _ => rfl
  · intro i _
    refine congrArg f ?_
    funext a
    fin_cases a
    · exact Subsingleton.elim (α := Fin 1) _ _
    · rfl
    · exact Subsingleton.elim (α := Fin 1) _ _
    · exact Subsingleton.elim (α := Fin 1) _ _

/-- A running sum over the rows, printed as a sum over a window as long as the column. -/
theorem window_running (X : (⟨4, ![16, 2048, 4, 64]⟩ : Shape).Idx → EReal) (G : ℕ → EReal) (t : Fin 2048) (g : Fin 4) (d : Fin 64)
    (hX : ∀ s : Fin 2048, X (ix4 b s g d) = G s.val)
    (h : (⟨4, ![16, 2048, 4, 64]⟩ : Shape).ReduceWindows ![1, 2048, 1, 1] ![1, 1, 1, 1] ![0, 2047, 0, 0] ![0, 0, 0, 0] ⟨4, ![16, 2048, 4, 64]⟩)
    (hu : 0 < (⟨0, ![]⟩ : Shape).numel) :
    Host.reduceWindow (u := ⟨0, ![]⟩) (fun (a b : EReal) => a + b) ![1, 2048, 1, 1] ![1, 1, 1, 1] ![0, 2047, 0, 0] ![0, 0, 0, 0] X (fun _ => (0 : EReal)) h hu (ix4 b t g d)
      = win G 2048 t.val := by
  have ht := t.isLt
  have hb := b.isLt
  have hg := g.isLt
  have hd := d.isLt
  unfold Host.reduceWindow
  dsimp only
  rw [fold_sum]
  refine (Finset.sum_congr rfl fun n _ =>
    (?_ : _ = past G (2048 - 1 - ((⟨4, ![1, 2048, 1, 1]⟩ : Shape).rowMajor.symm n 1).val) t.val)).trans
    ((Equiv.sum_comp (⟨4, ![1, 2048, 1, 1]⟩ : Shape).rowMajor.symm
      (fun i : (⟨4, ![1, 2048, 1, 1]⟩ : Shape).Idx => past G (2048 - 1 - (i 1).val) t.val)).trans ?_)
  · let i := (⟨4, ![1, 2048, 1, 1]⟩ : Shape).rowMajor.symm n
    change _ = past G (2048 - 1 - (i 1).val) t.val
    have i0 : (i 0).val < 1 := (i 0).isLt
    have i1 : (i 1).val < 2048 := (i 1).isLt
    have i2 : (i 2).val < 1 := (i 2).isLt
    have i3 : (i 3).val < 1 := (i 3).isLt
    unfold past
    split
    · next hin =>
      have q : 2047 ≤ t.val * 1 + (i 1).val := (hin 1).1
      rw [if_pos (by omega)]
      refine Eq.trans (congrArg X ?_) (hX ⟨t.val - (2048 - 1 - (i 1).val), by omega⟩)
      funext a
      fin_cases a
      · refine Fin.ext ?_
        change b.val * 1 + (i 0).val - 0 = b.val
        omega
      · refine Fin.ext ?_
        change t.val * 1 + (i 1).val - 2047 = t.val - (2048 - 1 - (i 1).val)
        omega
      · refine Fin.ext ?_
        change g.val * 1 + (i 2).val - 0 = g.val
        omega
      · refine Fin.ext ?_
        change d.val * 1 + (i 3).val - 0 = d.val
        omega
    · next hin =>
      rw [if_neg]
      intro c
      refine hin fun a => ?_
      fin_cases a
      · change 0 ≤ b.val * 1 + (i 0).val ∧ b.val * 1 + (i 0).val - 0 < 16
        omega
      · change 2047 ≤ t.val * 1 + (i 1).val ∧ t.val * 1 + (i 1).val - 2047 < 2048
        omega
      · change 0 ≤ g.val * 1 + (i 2).val ∧ g.val * 1 + (i 2).val - 0 < 4
        omega
      · change 0 ≤ d.val * 1 + (i 3).val ∧ d.val * 1 + (i 3).val - 0 < 64
        omega
  · rw [window_sum]
    unfold win
    rw [← Finset.sum_range_reflect, Finset.sum_range]
    rfl

def chan (g : Fin 4) (d : Fin 64) : Fin 256 := ⟨64 * g.val + d.val, by omega⟩

theorem pool_entry (t : Fin 2048) (g : Fin 4) (d : Fin 64) :
    val_main_v7 (F := Ideal) A.pool (ix4 b t g d) = poolCol A b (chan g d) t.val := by
  unfold poolCol
  rw [rd_lt _ _ t.isLt, val_main_v7_apply]
  have hb := b.isLt
  have ht := t.isLt
  have hg := g.isLt
  have hd := d.isLt
  refine congrArg A.pool ?_
  funext a
  fin_cases a
  · refine Fin.ext ?_
    change (((b.val * 2048 + t.val) * 4 + g.val) * 64 + d.val) / 524288 = b.val
    omega
  · refine Fin.ext ?_
    change (((b.val * 2048 + t.val) * 4 + g.val) * 64 + d.val) / 256 % 2048 = t.val
    omega
  · refine Fin.ext ?_
    change (((b.val * 2048 + t.val) * 4 + g.val) * 64 + d.val) % 256 = 64 * g.val + d.val
    omega

theorem window_add {s t u : Shape} {φ : FTy} (window strides lo hi : Fin s.rank → ℕ) (x : FVec Ideal s φ) (init : u.Idx → Ideal φ)
    (h : s.ReduceWindows window strides lo hi t) (hu : 0 < u.numel) (h0 : 0 < (⟨0, ![]⟩ : Shape).numel) :
    Host.reduceWindowAdd window strides lo hi x init h hu
      = Host.reduceWindow (u := ⟨0, ![]⟩) (fun (a b : EReal) => a + b) window strides lo hi x (fun _ => init (Shape.Idx.first hu)) h h0 := rfl

/-- The running sum of a column. -/
theorem running (t : Fin 2048) (g : Fin 4) (d : Fin 64) :
    val_main_v8 (F := Ideal) A.pool (ix4 b t g d) = win (poolCol A b (chan g d)) 2048 t.val := by
  have ht := t.isLt
  have hx := fun s => pool_entry A b s g d
  have h0 : val_main_call0_call0_v0 (F := Ideal) = fun _ => (0 : EReal) := by
    funext i
    rw [val_main_call0_call0_v0_apply, val_main_call0_call0_cst_apply]
    exact Ideal.ofBits_zero _
  unfold val_main_v8
  rw [h0]
  generalize val_main_v7 (F := Ideal) A.pool = X at hx ⊢
  rw [window_add _ _ _ _ _ _ _ _ (by decide)]
  exact window_running b X (poolCol A b (chan g d)) t g d hx _ _

end Cert.KernelIdeal.Mix
-- ==== Proof.MixMeans.lean ====
module

public import proofs.«01_k».proof.Proof.MixSums
public import proofs.«01_k».proof.Proof.Gen.ReferenceIdeal.Read
public import Idealize.ShloMosaic.Lib.Pipeline.ValueKit

@[expose] public section

set_option maxRecDepth 16384

noncomputable section

namespace Cert.KernelIdeal.Mix
open Idealize.ShloMosaic Idealize.ShloMosaic.TcCoe Cert.KernelIdeal
open Idealize.SL.Sem

open Cert.ReferenceIdeal.Read

variable (A : Arrays) (b : Fin 16)

/-! The reference's pooling mixer read at an index. -/

/-- The running sums behind a row of zeros. -/
theorem running_padded (p : Fin 2049) (g : Fin 4) (d : Fin 64) :
    val_main_v11 (F := Ideal) A.pool (ix4 b p g d) = if p.val = 0 then 0 else win (poolCol A b (chan g d)) 2048 (p.val - 1) := by
  have hx := fun s => running A b s g d
  have h0 : val_main_v10 (F := Ideal) = fun _ => (0 : EReal) := by
    funext i
    rw [val_main_v10_apply, val_main_cst_apply]
    exact Ideal.ofBits_zero _
  have hp := p.isLt
  unfold val_main_v11
  rw [h0]
  generalize val_main_v8 (F := Ideal) A.pool = X at hx ⊢
  pointwise
  by_cases c : p.val < 1
  · exact Eq.trans (dif_pos c) (if_pos (by omega)).symm
  · refine Eq.trans (dif_neg c) (Eq.trans ?_ (if_neg (by omega)).symm)
    exact hx ⟨p.val - 1, by omega⟩

abbrev rowsAt := Cert.ReferenceIdeal.gather_S16x2049x4x64_S2048x2_S16x2048x64_02_12_n_n_12_1_161164

/-- The gather of one row and one group per position, read at an index. -/
theorem gather_row (x : Cert.ReferenceIdeal.S16x2049x4x64.Idx → EReal) (idx : IVec Cert.ReferenceIdeal.S2048x2 32) (t : Fin 2048) (d : Fin 64)
    (n : ℕ) (hn : n < 2049) (g : Fin 4) (h0 : idx (ix2 t 0) = BitVec.ofNat 32 n) (h1 : idx (ix2 t 1) = BitVec.ofNat 32 g.val) :
    Host.gather rowsAt x idx (ix3 b t d) = x (ix4 b ⟨n, hn⟩ g d) := by
  have hg := g.isLt
  unfold Host.gather
  refine congrArg x ?_
  have e0 : min (idx (ix2 t 0)).toInt.toNat 2048 = n := by
    rw [h0, nat_word _ (by omega)]
    omega
  have e1 : min (idx (ix2 t 1)).toInt.toNat 3 = g.val := by
    rw [h1, nat_word _ (by omega)]
    omega
  have s0 (h) : rowsAt.siIdx (ix3 b t d) ⟨0, h⟩ = ix2 t 0 := by
    funext a
    refine Fin.ext ?_
    match a with
    | ⟨0, _⟩ => rfl
    | ⟨1, _⟩ => rfl
  have s1 (h) : rowsAt.siIdx (ix3 b t d) ⟨1, h⟩ = ix2 t 1 := by
    funext a
    refine Fin.ext ?_
    match a with
    | ⟨0, _⟩ => rfl
    | ⟨1, _⟩ => rfl
  funext a
  refine Fin.ext ?_
  change rowsAt.start (ix3 b t d) idx a + rowsAt.batchCoord (ix3 b t d) a + rowsAt.offCoord (ix3 b t d) a = _
  rw [GatherDims.batchCoord_eq_zero _ _ _ List.not_mem_nil, Nat.add_zero]
  fin_cases a
  · change rowsAt.start (ix3 b t d) idx 0 + rowsAt.offCoord (ix3 b t d) 0 = _
    unfold GatherDims.start
    rw [dif_neg (show (0 : Fin 4) ∉ rowsAt.startIndexMap by decide)]
    exact Nat.zero_add _
  · change rowsAt.start (ix3 b t d) idx 1 + rowsAt.offCoord (ix3 b t d) 1 = _
    rw [GatherDims.offCoord_eq_zero _ _ _ (show (1 : Fin 4) ∉ rowsAt.sKept by decide)]
    unfold GatherDims.start
    rw [dif_pos (show (1 : Fin 4) ∈ rowsAt.startIndexMap by decide)]
    refine Eq.trans ?_ e0
    exact congrArg (fun i => min (idx i).toInt.toNat 2048) (s0 _)
  · change rowsAt.start (ix3 b t d) idx 2 + rowsAt.offCoord (ix3 b t d) 2 = _
    rw [GatherDims.offCoord_eq_zero _ _ _ (show (2 : Fin 4) ∉ rowsAt.sKept by decide)]
    unfold GatherDims.start
    rw [dif_pos (show (2 : Fin 4) ∈ rowsAt.startIndexMap by decide)]
    refine Eq.trans ?_ e1
    exact congrArg (fun i => min (idx i).toInt.toNat 3) (s1 _)
  · change rowsAt.start (ix3 b t d) idx 3 + rowsAt.offCoord (ix3 b t d) 3 = _
    unfold GatherDims.start
    rw [dif_neg (show (3 : Fin 4) ∉ rowsAt.startIndexMap by decide)]
    exact Nat.zero_add _

/-- The window's sum as the reference forms it. -/
theorem window_ref (hfin : ∀ k, RealCol (poolCol A b k)) (w : ℕ) (hw : w ≤ 16) (t : Fin 2048) (g : Fin 4) (d : Fin 64)
    (idx : IVec Cert.ReferenceIdeal.S2048x2 32) (h0 : idx (ix2 t 0) = BitVec.ofNat 32 (t.val + 1 - w)) (h1 : idx (ix2 t 1) = BitVec.ofNat 32 g.val) :
    val_main_v8 (F := Ideal) A.pool (ix4 b t g d) - Host.gather rowsAt (val_main_v11 (F := Ideal) A.pool) idx (ix3 b t d)
      = win (poolCol A b (chan g d)) w t.val := by
  have ht := t.isLt
  rw [running, gather_row b _ idx t d (t.val + 1 - w) (by omega) g h0 h1, running_padded]
  by_cases c : t.val + 1 - w = 0
  · rw [if_pos c, sub_zero]
    exact win_first _ _ _ (by omega) (by omega)
  · rw [if_neg c]
    change _ - win (poolCol A b (chan g d)) 2048 (t.val + 1 - w - 1) = _
    rw [show t.val + 1 - w - 1 = t.val - w by omega]
    exact win_diff _ (hfin _) w t.val (by omega) ht (by omega)

theorem start_0 (t : Fin 2048) : val_main_v18 (F := Ideal) (ix1 t) = BitVec.ofNat 32 (t.val + 1 - 2) := by
  simp only [val_main_v18_apply, val_main_v17_apply, val_main_v16_apply, val_main_v15_apply, val_main_v14_apply, val_main_v13_apply, val_main_v12_apply, val_main_c_apply, val_main_c_0_apply, val_main_c_1_apply]
  exact start_word t.val 2 t.isLt (by decide)

theorem count_0 (t : Fin 2048) (d : Fin 64) : val_main_v38 (F := Ideal) (ix3 b t d) = count 2 t.val := by
  have e : idx_main_v23 (idx_main_v38 (ix3 b t d)) = ix1 t := by
    funext a
    fin_cases a
    rfl
  simp only [val_main_v38_apply, val_main_v23_apply, val_main_v22_apply, val_main_v21_apply, val_main_v20_apply, val_main_v19_apply, val_main_v12_apply, val_main_c_2_apply]
  rw [e, start_0]
  exact count_word t.val 2 t.isLt (by decide)

theorem first_0 (t : Fin 2048) : val_main_v35 (F := Ideal) (ix2 t 0) = BitVec.ofNat 32 (t.val + 1 - 2) := by
  have h (i : Cert.ReferenceIdeal.S2048x1.Idx) (hi : (i 0).val = t.val) : val_main_v33 (F := Ideal) i = BitVec.ofNat 32 (t.val + 1 - 2) := by
    have e : idx_main_v33 i = ix1 t := by
      funext a
      fin_cases a
      exact Fin.ext hi
    simp only [val_main_v33_apply, val_main_v30_apply, val_main_v27_apply, val_main_v26_apply, val_main_c_3_apply]
    rw [e, start_0]
    have ht := t.isLt
    exact keep_word _ (by omega) _
  unfold val_main_v35
  generalize val_main_v33 (F := Ideal) = X at h ⊢
  pointwise
  exact h _ rfl

theorem second_0 (t : Fin 2048) : val_main_v35 (F := Ideal) (ix2 t 1) = BitVec.ofNat 32 0 := by
  have h (i : Cert.ReferenceIdeal.S2048x1.Idx) : val_main_v34 (F := Ideal) i = BitVec.ofNat 32 0 := by
    simp only [val_main_v34_apply, val_main_v32_apply, val_main_v31_apply, val_main_c_5_apply]
  unfold val_main_v35
  generalize val_main_v34 (F := Ideal) = X at h ⊢
  pointwise
  exact h _

theorem mean_0 (hfin : ∀ k, RealCol (poolCol A b k)) (t : Fin 2048) (d : Fin 64) :
    val_main_v39 (F := Ideal) A.pool (ix3 b t d) = Ideal.div (win (poolCol A b (chan 0 d)) 2 t.val) (count 2 t.val) := by
  have h := window_ref A b hfin 2 (by decide) t 0 d (val_main_v35 (F := Ideal)) (first_0 t) (second_0 t)
  have hb := b.isLt
  have ht := t.isLt
  have hd := d.isLt
  have e : idx_main_v24 (idx_main_v25 (ix3 b t d)) = ix4 b t 0 d := by
    funext a
    fin_cases a
    · refine Fin.ext ?_
      change ((b.val * 2048 + t.val) * 64 + d.val) / 131072 = b.val
      omega
    · refine Fin.ext ?_
      change ((b.val * 2048 + t.val) * 64 + d.val) / 64 % 2048 = t.val
      omega
    · rfl
    · refine Fin.ext ?_
      change ((b.val * 2048 + t.val) * 64 + d.val) % 64 = d.val
      omega
  simp only [val_main_v39_apply, val_main_v37_apply, val_main_v25_apply, val_main_v24_apply, count_0]
  rw [e, ← h]
  rfl

theorem start_1 (t : Fin 2048) : val_main_v45 (F := Ideal) (ix1 t) = BitVec.ofNat 32 (t.val + 1 - 4) := by
  simp only [val_main_v45_apply, val_main_v44_apply, val_main_v43_apply, val_main_v42_apply, val_main_v41_apply, val_main_v40_apply, val_main_v12_apply, val_main_c_6_apply, val_main_c_7_apply, val_main_c_8_apply]
  exact start_word t.val 4 t.isLt (by decide)

theorem count_1 (t : Fin 2048) (d : Fin 64) : val_main_v65 (F := Ideal) (ix3 b t d) = count 4 t.val := by
  have e : idx_main_v50 (idx_main_v65 (ix3 b t d)) = ix1 t := by
    funext a
    fin_cases a
    rfl
  simp only [val_main_v65_apply, val_main_v50_apply, val_main_v49_apply, val_main_v48_apply, val_main_v47_apply, val_main_v46_apply, val_main_v12_apply, val_main_c_9_apply]
  rw [e, start_1]
  exact count_word t.val 4 t.isLt (by decide)

theorem first_1 (t : Fin 2048) : val_main_v62 (F := Ideal) (ix2 t 0) = BitVec.ofNat 32 (t.val + 1 - 4) := by
  have h (i : Cert.ReferenceIdeal.S2048x1.Idx) (hi : (i 0).val = t.val) : val_main_v60 (F := Ideal) i = BitVec.ofNat 32 (t.val + 1 - 4) := by
    have e : idx_main_v60 i = ix1 t := by
      funext a
      fin_cases a
      exact Fin.ext hi
    simp only [val_main_v60_apply, val_main_v57_apply, val_main_v54_apply, val_main_v53_apply, val_main_c_10_apply]
    rw [e, start_1]
    have ht := t.isLt
    exact keep_word _ (by omega) _
  unfold val_main_v62
  generalize val_main_v60 (F := Ideal) = X at h ⊢
  pointwise
  exact h _ rfl

theorem second_1 (t : Fin 2048) : val_main_v62 (F := Ideal) (ix2 t 1) = BitVec.ofNat 32 1 := by
  have h (i : Cert.ReferenceIdeal.S2048x1.Idx) : val_main_v61 (F := Ideal) i = BitVec.ofNat 32 1 := by
    simp only [val_main_v61_apply, val_main_v59_apply, val_main_v58_apply, val_main_c_12_apply]
  unfold val_main_v62
  generalize val_main_v61 (F := Ideal) = X at h ⊢
  pointwise
  exact h _

theorem mean_1 (hfin : ∀ k, RealCol (poolCol A b k)) (t : Fin 2048) (d : Fin 64) :
    val_main_v66 (F := Ideal) A.pool (ix3 b t d) = Ideal.div (win (poolCol A b (chan 1 d)) 4 t.val) (count 4 t.val) := by
  have h := window_ref A b hfin 4 (by decide) t 1 d (val_main_v62 (F := Ideal)) (first_1 t) (second_1 t)
  have hb := b.isLt
  have ht := t.isLt
  have hd := d.isLt
  have e : idx_main_v51 (idx_main_v52 (ix3 b t d)) = ix4 b t 1 d := by
    funext a
    fin_cases a
    · refine Fin.ext ?_
      change ((b.val * 2048 + t.val) * 64 + d.val) / 131072 = b.val
      omega
    · refine Fin.ext ?_
      change ((b.val * 2048 + t.val) * 64 + d.val) / 64 % 2048 = t.val
      omega
    · rfl
    · refine Fin.ext ?_
      change ((b.val * 2048 + t.val) * 64 + d.val) % 64 = d.val
      omega
  simp only [val_main_v66_apply, val_main_v64_apply, val_main_v52_apply, val_main_v51_apply, count_1]
  rw [e, ← h]
  rfl

theorem start_2 (t : Fin 2048) : val_main_v72 (F := Ideal) (ix1 t) = BitVec.ofNat 32 (t.val + 1 - 8) := by
  simp only [val_main_v72_apply, val_main_v71_apply, val_main_v70_apply, val_main_v69_apply, val_main_v68_apply, val_main_v67_apply, val_main_v12_apply, val_main_c_13_apply, val_main_c_14_apply, val_main_c_15_apply]
  exact start_word t.val 8 t.isLt (by decide)

theorem count_2 (t : Fin 2048) (d : Fin 64) : val_main_v92 (F := Ideal) (ix3 b t d) = count 8 t.val := by
  have e : idx_main_v77 (idx_main_v92 (ix3 b t d)) = ix1 t := by
    funext a
    fin_cases a
    rfl
  simp only [val_main_v92_apply, val_main_v77_apply, val_main_v76_apply, val_main_v75_apply, val_main_v74_apply, val_main_v73_apply, val_main_v12_apply, val_main_c_16_apply]
  rw [e, start_2]
  exact count_word t.val 8 t.isLt (by decide)

theorem first_2 (t : Fin 2048) : val_main_v89 (F := Ideal) (ix2 t 0) = BitVec.ofNat 32 (t.val + 1 - 8) := by
  have h (i : Cert.ReferenceIdeal.S2048x1.Idx) (hi : (i 0).val = t.val) : val_main_v87 (F := Ideal) i = BitVec.ofNat 32 (t.val + 1 - 8) := by
    have e : idx_main_v87 i = ix1 t := by
      funext a
      fin_cases a
      exact Fin.ext hi
    simp only [val_main_v87_apply, val_main_v84_apply, val_main_v81_apply, val_main_v80_apply, val_main_c_17_apply]
    rw [e, start_2]
    have ht := t.isLt
    exact keep_word _ (by omega) _
  unfold val_main_v89
  generalize val_main_v87 (F := Ideal) = X at h ⊢
  pointwise
  exact h _ rfl

theorem second_2 (t : Fin 2048) : val_main_v89 (F := Ideal) (ix2 t 1) = BitVec.ofNat 32 2 := by
  have h (i : Cert.ReferenceIdeal.S2048x1.Idx) : val_main_v88 (F := Ideal) i = BitVec.ofNat 32 2 := by
    simp only [val_main_v88_apply, val_main_v86_apply, val_main_v85_apply, val_main_c_19_apply]
  unfold val_main_v89
  generalize val_main_v88 (F := Ideal) = X at h ⊢
  pointwise
  exact h _

theorem mean_2 (hfin : ∀ k, RealCol (poolCol A b k)) (t : Fin 2048) (d : Fin 64) :
    val_main_v93 (F := Ideal) A.pool (ix3 b t d) = Ideal.div (win (poolCol A b (chan 2 d)) 8 t.val) (count 8 t.val) := by
  have h := window_ref A b hfin 8 (by decide) t 2 d (val_main_v89 (F := Ideal)) (first_2 t) (second_2 t)
  have hb := b.isLt
  have ht := t.isLt
  have hd := d.isLt
  have e : idx_main_v78 (idx_main_v79 (ix3 b t d)) = ix4 b t 2 d := by
    funext a
    fin_cases a
    · refine Fin.ext ?_
      change ((b.val * 2048 + t.val) * 64 + d.val) / 131072 = b.val
      omega
    · refine Fin.ext ?_
      change ((b.val * 2048 + t.val) * 64 + d.val) / 64 % 2048 = t.val
      omega
    · rfl
    · refine Fin.ext ?_
      change ((b.val * 2048 + t.val) * 64 + d.val) % 64 = d.val
      omega
  simp only [val_main_v93_apply, val_main_v91_apply, val_main_v79_apply, val_main_v78_apply, count_2]
  rw [e, ← h]
  rfl

theorem start_3 (t : Fin 2048) : val_main_v99 (F := Ideal) (ix1 t) = BitVec.ofNat 32 (t.val + 1 - 16) := by
  simp only [val_main_v99_apply, val_main_v98_apply, val_main_v97_apply, val_main_v96_apply, val_main_v95_apply, val_main_v94_apply, val_main_v12_apply, val_main_c_20_apply, val_main_c_21_apply, val_main_c_22_apply]
  exact start_word t.val 16 t.isLt (by decide)

theorem count_3 (t : Fin 2048) (d : Fin 64) : val_main_v119 (F := Ideal) (ix3 b t d) = count 16 t.val := by
  have e : idx_main_v104 (idx_main_v119 (ix3 b t d)) = ix1 t := by
    funext a
    fin_cases a
    rfl
  simp only [val_main_v119_apply, val_main_v104_apply, val_main_v103_apply, val_main_v102_apply, val_main_v101_apply, val_main_v100_apply, val_main_v12_apply, val_main_c_23_apply]
  rw [e, start_3]
  exact count_word t.val 16 t.isLt (by decide)

theorem first_3 (t : Fin 2048) : val_main_v116 (F := Ideal) (ix2 t 0) = BitVec.ofNat 32 (t.val + 1 - 16) := by
  have h (i : Cert.ReferenceIdeal.S2048x1.Idx) (hi : (i 0).val = t.val) : val_main_v114 (F := Ideal) i = BitVec.ofNat 32 (t.val + 1 - 16) := by
    have e : idx_main_v114 i = ix1 t := by
      funext a
      fin_cases a
      exact Fin.ext hi
    simp only [val_main_v114_apply, val_main_v111_apply, val_main_v108_apply, val_main_v107_apply, val_main_c_24_apply]
    rw [e, start_3]
    have ht := t.isLt
    exact keep_word _ (by omega) _
  unfold val_main_v116
  generalize val_main_v114 (F := Ideal) = X at h ⊢
  pointwise
  exact h _ rfl

theorem second_3 (t : Fin 2048) : val_main_v116 (F := Ideal) (ix2 t 1) = BitVec.ofNat 32 3 := by
  have h (i : Cert.ReferenceIdeal.S2048x1.Idx) : val_main_v115 (F := Ideal) i = BitVec.ofNat 32 3 := by
    simp only [val_main_v115_apply, val_main_v113_apply, val_main_v112_apply, val_main_c_26_apply]
  unfold val_main_v116
  generalize val_main_v115 (F := Ideal) = X at h ⊢
  pointwise
  exact h _

theorem mean_3 (hfin : ∀ k, RealCol (poolCol A b k)) (t : Fin 2048) (d : Fin 64) :
    val_main_v120 (F := Ideal) A.pool (ix3 b t d) = Ideal.div (win (poolCol A b (chan 3 d)) 16 t.val) (count 16 t.val) := by
  have h := window_ref A b hfin 16 (by decide) t 3 d (val_main_v116 (F := Ideal)) (first_3 t) (second_3 t)
  have hb := b.isLt
  have ht := t.isLt
  have hd := d.isLt
  have e : idx_main_v105 (idx_main_v106 (ix3 b t d)) = ix4 b t 3 d := by
    funext a
    fin_cases a
    · refine Fin.ext ?_
      change ((b.val * 2048 + t.val) * 64 + d.val) / 131072 = b.val
      omega
    · refine Fin.ext ?_
      change ((b.val * 2048 + t.val) * 64 + d.val) / 64 % 2048 = t.val
      omega
    · rfl
    · refine Fin.ext ?_
      change ((b.val * 2048 + t.val) * 64 + d.val) % 64 = d.val
      omega
  simp only [val_main_v120_apply, val_main_v118_apply, val_main_v106_apply, val_main_v105_apply, count_3]
  rw [e, ← h]
  rfl

theorem mean_ref (hfin : ∀ k, RealCol (poolCol A b k)) (t : Fin 2048) (g : Fin 4) (d : Fin 64) :
    val_main_v126 (F := Ideal) A.pool (ix4 b t g d) = diffOf A b t.val (chan g d) := by
  rw [val_main_v126_apply, pool_entry]
  have hd := d.isLt
  have hw : width (chan g d).val = 2 ^ (g.val + 1) := by
    unfold width chan
    rw [show (64 * g.val + d.val) / 64 = g.val by omega]
  unfold diffOf
  rw [hw]
  refine congrArg (fun (x : EReal) => x - poolCol A b (chan g d) t.val) ?_
  have h0 : val_main_v121 (F := Ideal) A.pool (ix4 b t 0 d) = Ideal.div (win (poolCol A b (chan 0 d)) 2 t.val) (count 2 t.val) := by
    rw [← mean_0 A b hfin, val_main_v121_apply]
    refine congrArg (val_main_v39 (F := Ideal) A.pool) ?_
    funext a
    fin_cases a <;> rfl
  have h1 : val_main_v122 (F := Ideal) A.pool (ix4 b t 0 d) = Ideal.div (win (poolCol A b (chan 1 d)) 4 t.val) (count 4 t.val) := by
    rw [← mean_1 A b hfin, val_main_v122_apply]
    refine congrArg (val_main_v66 (F := Ideal) A.pool) ?_
    funext a
    fin_cases a <;> rfl
  have h2 : val_main_v123 (F := Ideal) A.pool (ix4 b t 0 d) = Ideal.div (win (poolCol A b (chan 2 d)) 8 t.val) (count 8 t.val) := by
    rw [← mean_2 A b hfin, val_main_v123_apply]
    refine congrArg (val_main_v93 (F := Ideal) A.pool) ?_
    funext a
    fin_cases a <;> rfl
  have h3 : val_main_v124 (F := Ideal) A.pool (ix4 b t 0 d) = Ideal.div (win (poolCol A b (chan 3 d)) 16 t.val) (count 16 t.val) := by
    rw [← mean_3 A b hfin, val_main_v124_apply]
    refine congrArg (val_main_v120 (F := Ideal) A.pool) ?_
    funext a
    fin_cases a <;> rfl
  unfold val_main_v125
  generalize val_main_v121 (F := Ideal) A.pool = X0 at h0 ⊢
  generalize val_main_v122 (F := Ideal) A.pool = X1 at h1 ⊢
  generalize val_main_v123 (F := Ideal) A.pool = X2 at h2 ⊢
  generalize val_main_v124 (F := Ideal) A.pool = X3 at h3 ⊢
  fin_cases g
  · exact Eq.trans (by pointwise) h0
  · exact Eq.trans (by pointwise) h1
  · exact Eq.trans (by pointwise) h2
  · exact Eq.trans (by pointwise) h3

/-- The pooling mixer of the reference. -/
theorem pool_ref (hfin : ∀ k, RealCol (poolCol A b k)) (t : Fin 2048) (k : Fin 256) :
    val_main_v132 (F := Ideal) A.pool A.poolW A.poolS (ix3 b t k) = poolOf A b t.val k := by
  have hb := b.isLt
  have ht := t.isLt
  have hk := k.isLt
  have e1 : idx_main_v128 (idx_main_v129 (ix3 b t k)) = ix4 ⟨k.val / 64, by omega⟩ ⟨k.val % 64, by omega⟩ b t := by
    funext a
    fin_cases a
    · refine Fin.ext ?_
      change ((b.val * 2048 + t.val) * 256 + k.val) / 64 % 4 = k.val / 64
      omega
    · refine Fin.ext ?_
      change ((b.val * 2048 + t.val) * 256 + k.val) % 64 = k.val % 64
      omega
    · refine Fin.ext ?_
      change ((b.val * 2048 + t.val) * 256 + k.val) / 524288 = b.val
      omega
    · refine Fin.ext ?_
      change ((b.val * 2048 + t.val) * 256 + k.val) / 256 % 2048 = t.val
      omega
  have e2 : idx_main_v5 (idx_main_v6 (idx_main_v130 (idx_main_v131 (ix3 b t k)))) = ix2 0 k := by
    funext a
    fin_cases a
    · rfl
    · refine Fin.ext ?_
      change k.val % 256 = k.val
      omega
  simp only [val_main_v132_apply, val_main_v131_apply, val_main_v130_apply, val_main_v129_apply, val_main_v128_apply, val_main_v6_apply, val_main_v5_apply]
  rw [e1, e2, val_main_v127_apply]
  unfold poolOf
  refine congrArg (fun (x : EReal) => x * A.poolS (ix2 0 k)) (Finset.sum_congr rfl fun c _ => ?_)
  have hc := c.isLt
  have e3 : ridx_main_v127 (ix4 ⟨k.val / 64, by omega⟩ ⟨k.val % 64, by omega⟩ b t) c = ix4 b t ⟨k.val / 64, by omega⟩ c := by
    funext a
    fin_cases a <;> rfl
  have e4 : lidx_main_v127 (ix4 ⟨k.val / 64, by omega⟩ ⟨k.val % 64, by omega⟩ b t) c
      = ix3 ⟨k.val / 64, by omega⟩ c ⟨k.val % 64, by omega⟩ := by
    funext a
    fin_cases a <;> rfl
  rw [e3, e4, mean_ref A b hfin, val_main_v4_apply, val_main_v3_apply]
  refine Eq.trans (mul_comm _ _) (congrArg₂ (fun (x y : EReal) => x * y) rfl (congrArg A.poolW ?_))
  funext a
  fin_cases a
  · rfl
  · refine Fin.ext ?_
    change ((k.val / 64 * 64 + c.val) * 64 + k.val % 64) / 4096 % 4 = k.val / 64
    omega
  · refine Fin.ext ?_
    change ((k.val / 64 * 64 + c.val) * 64 + k.val % 64) / 64 % 64 = c.val
    omega
  · refine Fin.ext ?_
    change ((k.val / 64 * 64 + c.val) * 64 + k.val % 64) % 64 = k.val % 64
    omega

end Cert.KernelIdeal.Mix
-- ==== Proof.MixReference.lean ====
module

public import proofs.«01_k».proof.Defs
public import proofs.«01_k».proof.Proof.MixArrays
public import proofs.«01_k».proof.Proof.MixRest
public import proofs.«01_k».proof.Proof.MixMeans
public import proofs.«01_k».proof.Proof.Gen.ReferenceIdeal.Run
public import proofs.«01_k».proof.Proof.Gen.ReferenceIdeal.Read
public import Idealize.ShloMosaic.Lib.Pipeline.ValueKit

/-! The reference's result is the array the kernel writes, where the pooling mixer's operand holds real numbers. -/

@[expose] public section

set_option maxRecDepth 16384

noncomputable section

namespace Cert.KernelIdeal.Mix
open Idealize.ShloMosaic Idealize.ShloMosaic.TcCoe Cert.KernelIdeal Cert.KernelIdeal.Gen
open Idealize.SL.Sem
open Cert.ReferenceIdeal.Read

theorem real_of_sub_self (x : EReal) (h : x - x = 0) : ∃ r : ℝ, x = (r : EReal) := by
  induction x with
  | bot => exact absurd h (by simp)
  | coe r => exact ⟨r, rfl⟩
  | top => exact absurd h (by simp)

theorem column_real (A : Arrays) (h : ∀ i, ∃ r : ℝ, A.pool i = (r : EReal)) (b : Fin 16) (k : Fin 256) : RealCol (poolCol A b k) := by
  intro p
  unfold poolCol rd
  split
  · exact h _
  · exact ⟨0, rfl⟩

theorem pre_facts : Cert.Pre_pool_finite.Facts := ⟨by decide⟩

variable [Cert.Pre_pool_finite.Facts]

/-- The precondition read at an entry. -/
theorem entry_real (A : Arrays)
    (h : Cert.Pre_pool_finite.fn (F := Ideal) A.pool A.conv A.nsa A.res A.poolW A.poolS A.taps A.outW A.gain A.up A.ffnTaps A.down = fun _ => 1#1)
    (i : Cert.ReferenceIdeal.S16x2048x256.Idx) : ∃ r : ℝ, A.pool i = (r : EReal) := by
  have e := congrFun h i
  refine real_of_sub_self _ ?_
  have e : Ideal.cmp .oeq (A.pool i - A.pool i) (Ideal.ofBits .f32 0x00000000#32) = 1#1 := e
  rw [Ideal.ofBits_zero_f32] at e
  unfold Ideal.cmp at e
  by_contra c
  rw [decide_eq_false c] at e
  have e : BitVec.ofBool false = 1#1 := e
  exact absurd e (by decide)

theorem reference_out (A : Arrays)
    (h : Cert.Pre_pool_finite.fn (F := Ideal) A.pool A.conv A.nsa A.res A.poolW A.poolS A.taps A.outW A.gain A.up A.ffnTaps A.down = fun _ => 1#1) :
    val_main_v212 (F := Ideal) A.pool A.conv A.nsa A.res A.poolW A.poolS A.taps A.outW A.gain A.up A.ffnTaps A.down
      = (fun i => outOf A (i 0) (i 1).val (i 2) : FVec Ideal S16x2048x1024 .f32) := by
  funext i
  idx_vars i
  exact out_ref A _ (fun b t k => pool_ref A b (fun k => column_real A (entry_real A h) b k) t k) _ _

/-- The same at arrays equal to the given ones. -/
theorem reference_out_of (A : Arrays)
    (h : Cert.Pre_pool_finite.fn (F := Ideal) A.pool A.conv A.nsa A.res A.poolW A.poolS A.taps A.outW A.gain A.up A.ffnTaps A.down = fun _ => 1#1)
    (x0 : (⟨Cert.ReferenceIdeal.S16x2048x256, .f32⟩ : BufTy).Contents (Elt Ideal)) (x1 : (⟨Cert.ReferenceIdeal.S16x2048x768, .f32⟩ : BufTy).Contents (Elt Ideal)) (x2 : (⟨Cert.ReferenceIdeal.S16x2048x512, .bf16⟩ : BufTy).Contents (Elt Ideal)) (x3 : (⟨Cert.ReferenceIdeal.S16x2048x1024, .f32⟩ : BufTy).Contents (Elt Ideal)) (x4 : (⟨Cert.ReferenceIdeal.S4x4x64x64, .f32⟩ : BufTy).Contents (Elt Ideal)) (x5 : (⟨Cert.ReferenceIdeal.S4x256, .f32⟩ : BufTy).Contents (Elt Ideal)) (x6 : (⟨Cert.ReferenceIdeal.S4x3x256, .f32⟩ : BufTy).Contents (Elt Ideal)) (x7 : (⟨Cert.ReferenceIdeal.S4x1024x1024, .f32⟩ : BufTy).Contents (Elt Ideal)) (x8 : (⟨Cert.ReferenceIdeal.S4x1024, .f32⟩ : BufTy).Contents (Elt Ideal)) (x9 : (⟨Cert.ReferenceIdeal.S4x1024x5632, .f32⟩ : BufTy).Contents (Elt Ideal)) (x10 : (⟨Cert.ReferenceIdeal.S4x3x2816, .f32⟩ : BufTy).Contents (Elt Ideal)) (x11 : (⟨Cert.ReferenceIdeal.S4x2816x1024, .f32⟩ : BufTy).Contents (Elt Ideal))
    (h0 : x0 = A.pool) (h1 : x1 = A.conv) (h2 : x2 = A.nsa) (h3 : x3 = A.res) (h4 : x4 = A.poolW) (h5 : x5 = A.poolS) (h6 : x6 = A.taps) (h7 : x7 = A.outW) (h8 : x8 = A.gain) (h9 : x9 = A.up) (h10 : x10 = A.ffnTaps) (h11 : x11 = A.down) :
    val_main_v212 (F := Ideal) x0 x1 x2 x3 x4 x5 x6 x7 x8 x9 x10 x11 = (fun i => outOf A (i 0) (i 1).val (i 2) : FVec Ideal S16x2048x1024 .f32) := by
  rw [h0, h1, h2, h3, h4, h5, h6, h7, h8, h9, h10, h11]
  exact reference_out A h

end Cert.KernelIdeal.Mix
-- ==== Proof.lean ====
/- The claims of the certificate, put together: the frames of the three calls, the value claims of the
   second half of a layer and of the input projection. -/
module

public import proofs.«01_k».proof.Defs
public import proofs.«01_k».proof.Proof.Gen.Kernel.Frame
public import proofs.«01_k».proof.Proof.Gen.InProj.Frame
public import proofs.«01_k».proof.Proof.NsaRun
public import proofs.«01_k».proof.Proof.NsaIdealRun
public import proofs.«01_k».proof.Proof.ProjectionValue
public import proofs.«01_k».proof.Proof.MixReference
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_InProjReferenceIdeal : quiescent_InProjReferenceIdeal := fun m ρ _ =>
  (θ_run Cert.InProjReferenceIdeal.defs _ _).mono (fun r h => ⟨fun c => (h c).2.2.2.2.2.2, sem_eq_zero_of_no_sems (by decide) r.2⟩)
    (Cert.InProjReferenceIdeal.Value.run (F := Ideal) m ρ)

/-- The input projection: each of the six results of the kernel is the reference's, at the same arguments. -/
theorem algebraic_InProjIdeal_InProjReferenceIdeal : algebraic_InProjIdeal_InProjReferenceIdeal := by
  intro m ρ m' ρ' _ hagree
  refine ⟨_, _, _, _, _, _, Cert.InProjIdeal.Value.run_blocks (F := Ideal) m ρ, ?_⟩
  refine (θ_run Cert.InProjReferenceIdeal.defs _ _).mono (fun _ h c => ?_) (Cert.InProjReferenceIdeal.Value.run (F := Ideal) m' ρ')
  obtain ⟨e0, e1, e2, e3, e4, e5, kept⟩ := h c
  obtain ⟨a0, a1, a2⟩ := hagree c
  rw [Cert.InProjReferenceIdeal.Read.val_main_v18_eq] at e0
  rw [Cert.InProjReferenceIdeal.Read.val_main_v19_eq] at e1
  rw [Cert.InProjReferenceIdeal.Read.val_main_v26_eq] at e2
  rw [Cert.InProjReferenceIdeal.Read.val_main_v29_eq] at e3
  rw [Cert.InProjReferenceIdeal.Read.val_main_v22_eq] at e4
  rw [Cert.InProjReferenceIdeal.Read.val_main_v30_eq] at e5
  rw [a0, a1, a2] at e0 e1 e2 e3 e4 e5
  refine ⟨e0.trans ?_, e1.trans ?_, e2.trans ?_, e3.trans ?_, e4.trans ?_, e5.trans ?_, kept⟩
  · exact (Cert.InProjIdeal.Proj.reference_v18 _ _ _).trans (Cert.InProjIdeal.Proj.array3 m c).symm
  · exact (Cert.InProjIdeal.Proj.reference_v19 _ _ _).trans (Cert.InProjIdeal.Proj.array4 m c).symm
  · exact (Cert.InProjIdeal.Proj.reference_v26 _ _ _).trans (Cert.InProjIdeal.Proj.array5 m c).symm
  · exact (Cert.InProjIdeal.Proj.reference_v29 _ _ _).trans (Cert.InProjIdeal.Proj.array6 m c).symm
  · exact (Cert.InProjIdeal.Proj.reference_v22 _ _ _).trans (Cert.InProjIdeal.Proj.array7 m c).symm
  · exact (Cert.InProjIdeal.Proj.reference_v30 _ _ _).trans (Cert.InProjIdeal.Proj.array8 m c).symm

/-- The second half of a layer: the kernel's result is the reference's, at the same arguments, where the pooling
    mixer's operand holds real numbers. -/
theorem algebraic_KernelIdeal_ReferenceIdeal [hP : Cert.Pre_pool_finite.Facts] : algebraic_KernelIdeal_ReferenceIdeal_pre_pool_finite := by
  intro m ρ m' ρ' hpre hagree
  refine ⟨_, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨e0, kept⟩ := h c
  obtain ⟨a0, a1, a2, a3, a4, a5, a6, a7, a8, a9, a10, a11⟩ := hagree c
  have e1 := Cert.KernelIdeal.Mix.reference_out_of (Cert.KernelIdeal.Mix.arrays m c) (hpre c) _ _ _ _ _ _ _ _ _ _ _ _
    a0 a1 a2 a3 a4 a5 a6 a7 a8 a9 a10 a11
  have e2 := Cert.ReferenceIdeal.Read.val_main_v212_eq (F := Ideal) (StableHlo.launchContents m' c)
  exact ⟨e0.trans (e2.trans (e1.trans (Cert.KernelIdeal.Mix.out_array m c).symm)), kept⟩

theorem claim : Cert.Claim :=
  ⟨Cert.Kernel.Gen.facts, Cert.KernelIdeal.Gen.facts, Cert.ReferenceIdeal.Gen.facts, Cert.InProj.Gen.facts,
    Cert.InProjIdeal.Gen.facts, Cert.InProjReferenceIdeal.Gen.facts, Cert.Nsa.Gen.facts, Cert.NsaIdeal.Gen.facts,
    Cert.KernelIdeal.Mix.pre_facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial,
    fun m ρ _ => Cert.InProj.Gen.frame m ρ, fun m ρ _ => Cert.InProjIdeal.Gen.frame m ρ, quiescent_InProjReferenceIdeal,
    fun m ρ _ => Cert.Nsa.Safe.frame m ρ, fun m ρ _ => Cert.NsaIdeal.Safe.frame m ρ,
    (trivial : preserves_Kernel_KernelIdeal),
    algebraic_KernelIdeal_ReferenceIdeal (hP := Cert.KernelIdeal.Mix.pre_facts),
    (trivial : preserves_InProj_InProjIdeal), algebraic_InProjIdeal_InProjReferenceIdeal,
    (trivial : preserves_Nsa_NsaIdeal)⟩

end Cert.Proof

end
